-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "scale" .f32 0x3DA1E89B#32 (((Real.sqrt 160)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![2048, 128]⟩ ⟨2, ![2048, 512]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 2048]⟩ ⟨2, ![512, 2048]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 2048]⟩ ⟨2, ![512, 2048]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v31) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x2048 : Shape := ⟨2, ![1024, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S512x1024 : Shape := ⟨2, ![512, 1024]⟩
abbrev S1024x32 : Shape := ⟨2, ![1024, 32]⟩
abbrev S4x128x1024 : Shape := ⟨3, ![4, 128, 1024]⟩
abbrev S4x128x2048 : Shape := ⟨3, ![4, 128, 2048]⟩
abbrev S2x2048x128 : Shape := ⟨3, ![2, 2048, 128]⟩
abbrev S3x3 : Shape := ⟨2, ![3, 3]⟩
abbrev S2 : Shape := ⟨1, ![2]⟩
abbrev S_ : Shape := ⟨0, ![]⟩
abbrev S1 : Shape := ⟨1, ![1]⟩
abbrev S1x2048x128 : Shape := ⟨3, ![1, 2048, 128]⟩
abbrev S256x2048 : Shape := ⟨2, ![256, 2048]⟩
abbrev S128x256 : Shape := ⟨2, ![128, 256]⟩
abbrev S1x128x256 : Shape := ⟨3, ![1, 128, 256]⟩
abbrev S1x128x2048 : Shape := ⟨3, ![1, 128, 2048]⟩
abbrev S1x1 : Shape := ⟨2, ![1, 1]⟩
abbrev S1x128x1024 : Shape := ⟨3, ![1, 128, 1024]⟩
abbrev S128x1024 : Shape := ⟨2, ![128, 1024]⟩
abbrev S1x128x512 : Shape := ⟨3, ![1, 128, 512]⟩
abbrev S128x512 : Shape := ⟨2, ![128, 512]⟩
abbrev S1024x512 : Shape := ⟨2, ![1024, 512]⟩
abbrev S512x128 : Shape := ⟨2, ![512, 128]⟩
abbrev S1024x128 : Shape := ⟨2, ![1024, 128]⟩
abbrev S512x512 : Shape := ⟨2, ![512, 512]⟩
abbrev S256x512 : Shape := ⟨2, ![256, 512]⟩
abbrev S512x256 : Shape := ⟨2, ![512, 256]⟩
abbrev S512x32 : Shape := ⟨2, ![512, 32]⟩
abbrev S32x512 : Shape := ⟨2, ![32, 512]⟩
abbrev S512 : Shape := ⟨1, ![512]⟩
abbrev S512x1 : Shape := ⟨2, ![512, 1]⟩
abbrev S2048x1024 : Shape := ⟨2, ![2048, 1024]⟩
abbrev S1024x1024 : Shape := ⟨2, ![1024, 1024]⟩

abbrev nBuf : Space → Nat
  | .hbm => 15
  | .vmem => 32
  | .smem => 0
  | _ => 0

abbrev bufTy : (tb : Table) → Fin (tcTables nBuf tb) → BufTy
  | .hbm, ⟨0, _⟩ => ⟨S1024x2048, .f32⟩
  | .hbm, ⟨1, _⟩ => ⟨S2048x128, .f32⟩
  | .hbm, ⟨2, _⟩ => ⟨S128x2048, .f32⟩
  | .hbm, ⟨3, _⟩ => ⟨S128x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S512x1024, .f32⟩
  | .hbm, ⟨12, _⟩ => ⟨S1024x32, .f32⟩
  | .hbm, ⟨13, _⟩ => ⟨S1024x2048, .f32⟩
  | .hbm, ⟨14, _⟩ => ⟨S1024x2048, .f32⟩
  | .local _ .vmem, ⟨0, _⟩ => ⟨S1024x2048, .f32⟩
  | .local _ .vmem, ⟨1, _⟩ => ⟨S2048x128, .f32⟩
  | .local _ .vmem, ⟨2, _⟩ => ⟨S128x2048, .f32⟩
  | .local _ .vmem, ⟨3, _⟩ => ⟨S128x2048, .f32⟩
  | .local _ .vmem, ⟨4, _⟩ => ⟨S2048x512, .f32⟩
  | .local _ .vmem, ⟨5, _⟩ => ⟨S2048x32, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | .local _ .vmem, ⟨9, _⟩ => ⟨S512x1024, .f32⟩
  | .local _ .vmem, ⟨10, _⟩ => ⟨S1024x32, .f32⟩
  | .local _ .vmem, ⟨11, _⟩ => ⟨S4x128x1024, .bf16⟩
  | .local _ .vmem, ⟨12, _⟩ => ⟨S4x128x2048, .bf16⟩
  | .local _ .vmem, ⟨13, _⟩ => ⟨S4x128x2048, .bf16⟩
  | .local _ .vmem, ⟨14, _⟩ => ⟨S2x2048x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S32x512, .f32⟩
  | .local _ .vmem, ⟨22, _⟩ => ⟨S32x512, .f32⟩
  | .local _ .vmem, ⟨23, _⟩ => ⟨S512x32, .f32⟩
  | .local _ .vmem, ⟨24, _⟩ => ⟨S512x32, .f32⟩
  | .local _ .vmem, ⟨25, _⟩ => ⟨S512x128, .f32⟩
  | .local _ .vmem, ⟨26, _⟩ => ⟨S512x128, .f32⟩
  | .local _ .vmem, ⟨27, _⟩ => ⟨S1024x2048, .f32⟩
  | .local _ .vmem, ⟨28, _⟩ => ⟨S2048x1024, .f32⟩
  | .local _ .vmem, ⟨29, _⟩ => ⟨S2048x1024, .f32⟩
  | .local _ .vmem, ⟨30, _⟩ => ⟨S1024x1024, .f32⟩
  | .local _ .vmem, ⟨31, _⟩ => ⟨S1024x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 1 → Bool
  | ⟨0, _⟩ => false
  | _ => false

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  (ofTc nBuf bufTy 1 48 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc2_stg0_0 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 31
abbrev cc1_sem0_1 : DmaSem sig := 32
abbrev cc1_sem1_0 : DmaSem sig := 33
abbrev cc1_sem1_1 : DmaSem sig := 34
abbrev cc1_sem2_0 : DmaSem sig := 35
abbrev cc1_sem2_1 : DmaSem sig := 36
abbrev cc1_sem3_0 : DmaSem sig := 37
abbrev cc1_sem3_1 : DmaSem sig := 38
abbrev cc1_sem4_0 : DmaSem sig := 39
abbrev cc1_sem4_1 : DmaSem sig := 40
abbrev cc1_sem5_0 : DmaSem sig := 41
abbrev cc1_sem5_1 : DmaSem sig := 42
abbrev cc2_sem0_0 : DmaSem sig := 43
abbrev cc2_sem1_0 : DmaSem sig := 44
abbrev cc2_sem1_1 : DmaSem sig := 45
abbrev cc2_sem2_0 : DmaSem sig := 46
abbrev cc2_sem2_1 : DmaSem sig := 47
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v24 : Index := Scalar.indexCast v2
  let c0_19 : Index := 0#32
  let c0_20 : Index := 0#32
  ![v24.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v34 : Index := Scalar.indexCast v2
  let c0_25 : Index := 0#32
  let c256_26 : Index := 256#32
  ![v34.toNat, 0, 256]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : Index := Scalar.indexCast v2
  let c0_31 : Index := 0#32
  let c512_32 : Index := 512#32
  ![v44.toNat, 0, 512]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v54 : Index := Scalar.indexCast v2
  let c0_37 : Index := 0#32
  let c768_38 : Index := 768#32
  ![v54.toNat, 0, 768]
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v61 : Index := Scalar.indexCast v2
  let c0_41 : Index := 0#32
  let c0_42 : Index := 0#32
  ![v61.toNat, 0, 0]
def k0_off6 (d0 : Dev nD) (c0_i32_48 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_47 : BitVec 32 := 4#32
  let v72 : BitVec 32 := Scalar.addi v2 c4_i32_47
  let v73 : BitVec 32 := Scalar.subi v72 c0_i32_48
  let c4_i32_49 : BitVec 32 := 4#32
  let v74 : BitVec 32 := Scalar.remsi v73 c4_i32_49
  let c0_i32_56 : BitVec 32 := 0#32
  let c0_i32_57 : BitVec 32 := 0#32
  ![v74.toNat, 0, 0]
def k0_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_54 : BitVec 32 := 1#32
  let v75 : BitVec 32 := Scalar.muli v7 c1_i32_54
  let v76 : BitVec 32 := Scalar.addi c0_i32_55 v75
  v76.toNat
def k0_off7 (d0 : Dev nD) (c0_i32_48 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_47 : BitVec 32 := 4#32
  let v72 : BitVec 32 := Scalar.addi v2 c4_i32_47
  let v73 : BitVec 32 := Scalar.subi v72 c0_i32_48
  let c4_i32_49 : BitVec 32 := 4#32
  let v74 : BitVec 32 := Scalar.remsi v73 c4_i32_49
  let c0_i32_66 : BitVec 32 := 0#32
  let c0_i32_67 : BitVec 32 := 0#32
  ![v74.toNat, 0, 0]
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_64 : BitVec 32 := 1#32
  let v85 : BitVec 32 := Scalar.muli v7 c1_i32_64
  let v86 : BitVec 32 := Scalar.addi c0_i32_65 v85
  v86.toNat
def k0_dev5 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_74 : BitVec 32 := 1#32
  let v95 : BitVec 32 := Scalar.muli v7 c1_i32_74
  let v96 : BitVec 32 := Scalar.addi c0_i32_75 v95
  v96.toNat
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v105 : Index := Scalar.indexCast v2
  let c0_80 : Index := 0#32
  let c0_81 : Index := 0#32
  ![v105.toNat, 0, 0]
def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v108 : Index := Scalar.indexCast v2
  let c0_82 : Index := 0#32
  let c0_83 : Index := 0#32
  ![v108.toNat, 0, 0]
def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v118 : Index := Scalar.indexCast v2
  let c0_92 : Index := 0#32
  let c512_93 : Index := 512#32
  ![v118.toNat, 0, 512]
def k0_off11 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v128 : Index := Scalar.indexCast v2
  let c0_102 : Index := 0#32
  let c1024 : Index := 1024#32
  ![v128.toNat, 0, 1024]
def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v138 : Index := Scalar.indexCast v2
  let c0_111 : Index := 0#32
  let c1536 : Index := 1536#32
  ![v138.toNat, 0, 1536]
def k0_dev6 (d0 : Dev nD) : Nat :=
  let c0_i32_408 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_407 : BitVec 32 := 1#32
  let v383 : BitVec 32 := Scalar.muli v7 c1_i32_407
  let v384 : BitVec 32 := Scalar.addi c0_i32_408 v383
  v384.toNat
def k0_dev7 (d0 : Dev nD) : Nat :=
  let c0_i32_418 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_417 : BitVec 32 := 1#32
  let v393 : BitVec 32 := Scalar.muli v7 c1_i32_417
  let v394 : BitVec 32 := Scalar.addi c0_i32_418 v393
  v394.toNat
def k0_dev8 (d0 : Dev nD) : Nat :=
  let c0_i32_428 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_427 : BitVec 32 := 1#32
  let v403 : BitVec 32 := Scalar.muli v7 c1_i32_427
  let v404 : BitVec 32 := Scalar.addi c0_i32_428 v403
  v404.toNat
def k0_off13 (d0 : Dev nD) (c1_i32_434 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_433 : BitVec 32 := 4#32
  let v413 : BitVec 32 := Scalar.addi v2 c4_i32_433
  let v414 : BitVec 32 := Scalar.subi v413 c1_i32_434
  let c4_i32_435 : BitVec 32 := 4#32
  let v415 : BitVec 32 := Scalar.remsi v414 c4_i32_435
  let v416 : Index := Scalar.indexCast v415
  let c0_436 : Index := 0#32
  let c0_437 : Index := 0#32
  ![v416.toNat, 0, 0]
def k0_off14 (d0 : Dev nD) (c1_i32_434 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_433 : BitVec 32 := 4#32
  let v413 : BitVec 32 := Scalar.addi v2 c4_i32_433
  let v414 : BitVec 32 := Scalar.subi v413 c1_i32_434
  let c4_i32_435 : BitVec 32 := 4#32
  let v415 : BitVec 32 := Scalar.remsi v414 c4_i32_435
  let v419 : Index := Scalar.indexCast v415
  let c0_438 : Index := 0#32
  let c0_439 : Index := 0#32
  ![v419.toNat, 0, 0]
def k0_off15 (d0 : Dev nD) (c1_i32_434 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_433 : BitVec 32 := 4#32
  let v413 : BitVec 32 := Scalar.addi v2 c4_i32_433
  let v414 : BitVec 32 := Scalar.subi v413 c1_i32_434
  let c4_i32_435 : BitVec 32 := 4#32
  let v415 : BitVec 32 := Scalar.remsi v414 c4_i32_435
  let v435 : Index := Scalar.indexCast v415
  let c0_452 : Index := 0#32
  let c512_453 : Index := 512#32
  ![v435.toNat, 0, 512]
def k0_off16 (d0 : Dev nD) (c1_i32_434 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_433 : BitVec 32 := 4#32
  let v413 : BitVec 32 := Scalar.addi v2 c4_i32_433
  let v414 : BitVec 32 := Scalar.subi v413 c1_i32_434
  let c4_i32_435 : BitVec 32 := 4#32
  let v415 : BitVec 32 := Scalar.remsi v414 c4_i32_435
  let v451 : Index := Scalar.indexCast v415
  let c0_466 : Index := 0#32
  let c1024_467 : Index := 1024#32
  ![v451.toNat, 0, 1024]
def k0_off17 (d0 : Dev nD) (c1_i32_434 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_433 : BitVec 32 := 4#32
  let v413 : BitVec 32 := Scalar.addi v2 c4_i32_433
  let v414 : BitVec 32 := Scalar.subi v413 c1_i32_434
  let c4_i32_435 : BitVec 32 := 4#32
  let v415 : BitVec 32 := Scalar.remsi v414 c4_i32_435
  let v467 : Index := Scalar.indexCast v415
  let c0_480 : Index := 0#32
  let c1536_481 : Index := 1536#32
  ![v467.toNat, 0, 1536]
def k0_dev9 (d0 : Dev nD) : Nat :=
  let c0_i32_825 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_824 : BitVec 32 := 1#32
  let v766 : BitVec 32 := Scalar.muli v7 c1_i32_824
  let v767 : BitVec 32 := Scalar.addi c0_i32_825 v766
  v767.toNat
def k0_dev10 (d0 : Dev nD) : Nat :=
  let c0_i32_835 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_834 : BitVec 32 := 1#32
  let v776 : BitVec 32 := Scalar.muli v7 c1_i32_834
  let v777 : BitVec 32 := Scalar.addi c0_i32_835 v776
  v777.toNat
def k0_dev11 (d0 : Dev nD) : Nat :=
  let c0_i32_845 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_844 : BitVec 32 := 1#32
  let v786 : BitVec 32 := Scalar.muli v7 c1_i32_844
  let v787 : BitVec 32 := Scalar.addi c0_i32_845 v786
  v787.toNat
def k0_off18 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1294 : BitVec 32 := 1#32
  let v1203 : BitVec 32 := Scalar.addi v2 c1_i32_1294
  let c4_i32_1295 : BitVec 32 := 4#32
  let v1204 : BitVec 32 := Scalar.remsi v1203 c4_i32_1295
  let v1205 : Index := Scalar.indexCast v1204
  let c0_1296 : Index := 0#32
  let c0_1297 : Index := 0#32
  ![v1205.toNat, 0, 0]
def k0_off19 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1294 : BitVec 32 := 1#32
  let v1203 : BitVec 32 := Scalar.addi v2 c1_i32_1294
  let c4_i32_1295 : BitVec 32 := 4#32
  let v1204 : BitVec 32 := Scalar.remsi v1203 c4_i32_1295
  let v1208 : Index := Scalar.indexCast v1204
  let c0_1298 : Index := 0#32
  let c0_1299 : Index := 0#32
  ![v1208.toNat, 0, 0]
def k0_off20 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1294 : BitVec 32 := 1#32
  let v1203 : BitVec 32 := Scalar.addi v2 c1_i32_1294
  let c4_i32_1295 : BitVec 32 := 4#32
  let v1204 : BitVec 32 := Scalar.remsi v1203 c4_i32_1295
  let v1224 : Index := Scalar.indexCast v1204
  let c0_1312 : Index := 0#32
  let c512_1313 : Index := 512#32
  ![v1224.toNat, 0, 512]
def k0_off21 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1294 : BitVec 32 := 1#32
  let v1203 : BitVec 32 := Scalar.addi v2 c1_i32_1294
  let c4_i32_1295 : BitVec 32 := 4#32
  let v1204 : BitVec 32 := Scalar.remsi v1203 c4_i32_1295
  let v1240 : Index := Scalar.indexCast v1204
  let c0_1326 : Index := 0#32
  let c1024_1327 : Index := 1024#32
  ![v1240.toNat, 0, 1024]
def k0_off22 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1294 : BitVec 32 := 1#32
  let v1203 : BitVec 32 := Scalar.addi v2 c1_i32_1294
  let c4_i32_1295 : BitVec 32 := 4#32
  let v1204 : BitVec 32 := Scalar.remsi v1203 c4_i32_1295
  let v1256 : Index := Scalar.indexCast v1204
  let c0_1340 : Index := 0#32
  let c1536_1341 : Index := 1536#32
  ![v1256.toNat, 0, 1536]
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S32x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1024x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== KernelIdeal.lean ====
variable {F : FTy → Type} [FloatOps F] [Named F]
def κ : String → Option EReal := fun
  | "scale" => some (((Real.sqrt 160)⁻¹ : ℝ) : EReal)
  | _ => none
-- ==== ReferenceIdeal.lean ====
abbrev S1024x2048 : Shape := ⟨2, ![1024, 2048]⟩
abbrev S2048x512 : Shape := ⟨2, ![2048, 512]⟩
abbrev S512x2048 : Shape := ⟨2, ![512, 2048]⟩
abbrev S2048x2048 : Shape := ⟨2, ![2048, 2048]⟩
abbrev S2048x32 : Shape := ⟨2, ![2048, 32]⟩
abbrev S1024x512 : Shape := ⟨2, ![1024, 512]⟩
abbrev S2x512x16x128 : Shape := ⟨4, ![2, 512, 16, 128]⟩
abbrev S2x512x16x32 : Shape := ⟨4, ![2, 512, 16, 32]⟩
abbrev S1024x32 : Shape := ⟨2, ![1024, 32]⟩
abbrev S2x512x1x32 : Shape := ⟨4, ![2, 512, 1, 32]⟩
abbrev S_ : Shape := ⟨0, ![]⟩
abbrev S2x16x512x512 : Shape := ⟨4, ![2, 16, 512, 512]⟩
abbrev S2x16x512 : Shape := ⟨3, ![2, 16, 512]⟩
abbrev S2x16x512x1 : Shape := ⟨4, ![2, 16, 512, 1]⟩
abbrev S2x16x128x512 : Shape := ⟨4, ![2, 16, 128, 512]⟩

abbrev nBuf : Space → Nat
  | .hbm => 44
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x512, .f32⟩
  | .hbm, ⟨2, _⟩ => ⟨S512x2048, .f32⟩
  | .hbm, ⟨3, _⟩ => ⟨S512x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S1024x512, .f32⟩
  | .hbm, ⟨9, _⟩ => ⟨S1024x2048, .f32⟩
  | .hbm, ⟨10, _⟩ => ⟨S2x512x16x128, .f32⟩
  | .hbm, ⟨11, _⟩ => ⟨S1024x2048, .f32⟩
  | .hbm, ⟨12, _⟩ => ⟨S2x512x16x128, .f32⟩
  | .hbm, ⟨13, _⟩ => ⟨S1024x2048, .f32⟩
  | .hbm, ⟨14, _⟩ => ⟨S2x512x16x128, .f32⟩
  | .hbm, ⟨15, _⟩ => ⟨S1024x512, .f32⟩
  | .hbm, ⟨16, _⟩ => ⟨S2x512x16x32, .f32⟩
  | .hbm, ⟨17, _⟩ => ⟨S1024x32, .f32⟩
  | .hbm, ⟨18, _⟩ => ⟨S2x512x1x32, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2x16x512x512, .f32⟩
  | .hbm, ⟨24, _⟩ => ⟨S2x512x16x32, .f32⟩
  | .hbm, ⟨25, _⟩ => ⟨S2x16x512x512, .f32⟩
  | .hbm, ⟨26, _⟩ => ⟨S2x16x512x512, .f32⟩
  | .hbm, ⟨27, _⟩ => ⟨S2x16x512x512, .f32⟩
  | .hbm, ⟨28, _⟩ => ⟨S2x16x512x512, .f32⟩
  | .hbm, ⟨29, _⟩ => ⟨S_, .f32⟩
  | .hbm, ⟨30, _⟩ => ⟨S2x16x512, .f32⟩
  | .hbm, ⟨31, _⟩ => ⟨S2x16x512x1, .f32⟩
  | .hbm, ⟨32, _⟩ => ⟨S2x16x512x512, .f32⟩
  | .hbm, ⟨33, _⟩ => ⟨S2x16x512x512, .f32⟩
  | .hbm, ⟨34, _⟩ => ⟨S2x16x512x512, .f32⟩
  | .hbm, ⟨35, _⟩ => ⟨S_, .f32⟩
  | .hbm, ⟨36, _⟩ => ⟨S2x16x512, .f32⟩
  | .hbm, ⟨37, _⟩ => ⟨S2x16x512x1, .f32⟩
  | .hbm, ⟨38, _⟩ => ⟨S2x16x512x512, .f32⟩
  | .hbm, ⟨39, _⟩ => ⟨S2x16x512x512, .f32⟩
  | .hbm, ⟨40, _⟩ => ⟨S2x16x128x512, .f32⟩
  | .hbm, ⟨41, _⟩ => ⟨S2x512x16x128, .f32⟩
  | .hbm, ⟨42, _⟩ => ⟨S1024x2048, .f32⟩
  | .hbm, ⟨43, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Proof.Setup.lean ====
/-
The resource algebra of the fused call's proof, the buffers and semaphores of its kernel by name, and the ring of the
four devices.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipelines' rounds, the ring's rounds, and counters for the local copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb (U := UU)

instance ER_landsIn : (ER : Emb UB (MT nD τ sig Unit (Elt F) ℕ UU ℕ)).LandsIn (upEmb : UEmb _ (MT nD τ sig Unit (Elt F) ℕ UU ℕ)) := by
  unfold ER; infer_instance

abbrev 𝒱₀ : Variants := Variants.none

/-! ## The ring -/

/-- The device to the right, -/
def nxt (c : Dev nD) : Dev nD := ⟨(c.val + 1) % 4, Nat.mod_lt _ (by decide)⟩
/-- and the one to the left. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide
def ring : Dev nD ≃ Dev nD := ⟨nxt, prv, prv_nxt, nxt_prv⟩

/-! ## The kernel's buffers -/

abbrev xM : Memref sig .tc .vmem S1024x2048 .f32 := Memref.whole cc0_stg0_0
abbrev wdM : Memref sig .tc .vmem S2048x128 .f32 := Memref.whole cc0_stg1_0
abbrev wkM : Memref sig .tc .vmem S128x2048 .f32 := Memref.whole cc0_stg2_0
abbrev wvM : Memref sig .tc .vmem S128x2048 .f32 := Memref.whole cc0_stg3_0
abbrev wqM : Memref sig .tc .hbm S2048x2048 .f32 := Memref.whole main_arg4
abbrev wqrM : Memref sig .tc .vmem S2048x512 .f32 := Memref.whole cc0_stg4_0
abbrev wkrM : Memref sig .tc .vmem S2048x32 .f32 := Memref.whole cc0_stg5_0
abbrev kM : Memref sig .tc .vmem S1024x2048 .f32 := Memref.whole cc0_stg6_0
abbrev vM : Memref sig .tc .vmem S1024x2048 .f32 := Memref.whole cc0_stg7_0
abbrev qM : Memref sig .tc .vmem S1024x2048 .f32 := Memref.whole cc0_stg8_0
abbrev qrM : Memref sig .tc .vmem S512x1024 .f32 := Memref.whole cc0_stg9_0
abbrev krM : Memref sig .tc .vmem S1024x32 .f32 := Memref.whole cc0_stg10_0
abbrev c4M : Memref sig .tc .vmem S4x128x1024 .bf16 := Memref.whole cc0_scratch0
abbrev uk4M : Memref sig .tc .vmem S4x128x2048 .bf16 := Memref.whole cc0_scratch1
abbrev uv4M : Memref sig .tc .vmem S4x128x2048 .bf16 := Memref.whole cc0_scratch2
abbrev wbM : Memref sig .tc .vmem S2x2048x128 .f32 := Memref.whole cc0_scratch3

/-- A whole buffer of device `c` at share `q`. -/
abbrev pt (c : Dev nD) (b : Ref sig .tc) (q : PosShare TreeShare) (f : b.ty.Contents (Elt F)) : sProp 𝕄 :=
  ((c : Thread nD τ).loc b) ↦{q} f

end Cert.KernelIdeal.Fused

end
-- ==== Proof.Contents.lean ====
/-
What the buffers of the fused call hold: the ring's three buffers slot by slot, the accumulated result blocks, the
column blocks of the weights the kernel copies, each as the kernel's own payloads of the inputs.
-/
module

public import proofs.«01_k».proof.Proof.Setup
public import Idealize.ShloMosaic.Lib.Pointwise.Index

@[expose] public section

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Reading a rectangle, and an array made of column blocks -/

/-- What a rectangle of an array holds. -/
def rd {s : Shape} {α : Type} (f : s.Idx → α) (r : Rect s) : r.shape.Idx → α := fun j => f (r.idx j)

section Cols
variable {R C B N : ℕ} {α : Type}

/-- The array of `N` column blocks of width `B`. -/
def cols (hC : C = B * N) (G : Fin N → (⟨2, ![R, B]⟩ : Shape).Idx → α) : (⟨2, ![R, C]⟩ : Shape).Idx → α := fun i =>
  have h : (i 1).val < B * N := lt_of_lt_of_eq (i 1).isLt hC
  have hB : 0 < B := Nat.pos_of_ne_zero fun h0 => by simp [h0] at h
  G ⟨(i 1).val / B, Nat.div_lt_of_lt_mul h⟩ (ix2 (i 0) ⟨(i 1).val % B, Nat.mod_lt _ hB⟩)

/-- Column block `n` of an array. -/
def colBlk (hC : C = B * N) (f : (⟨2, ![R, C]⟩ : Shape).Idx → α) (n : Fin N) : (⟨2, ![R, B]⟩ : Shape).Idx → α := fun j =>
  f (ix2 (j 0) ⟨B * n.val + (j 1).val, by
    have h1 : (j 1).val < B := (j 1).isLt
    have : B * n.val + B ≤ B * N := by
      rw [← Nat.mul_succ]; exact Nat.mul_le_mul_left _ n.isLt
    omega⟩)

/-- Its column blocks make the array. -/
theorem cols_colBlk (hC : C = B * N) (f : (⟨2, ![R, C]⟩ : Shape).Idx → α) : cols hC (colBlk hC f) = f := by
  funext i
  unfold cols colBlk
  refine congrArg f (funext fun a => ?_)
  match a with
  | ⟨0, _⟩ => rfl
  | ⟨1, _⟩ => exact Fin.ext (Nat.div_add_mod _ _)

theorem cols_at (hC : C = B * N) (G : Fin N → (⟨2, ![R, B]⟩ : Shape).Idx → α) (n : Fin N) (j : (⟨2, ![R, B]⟩ : Shape).Idx)
    (i : (⟨2, ![R, C]⟩ : Shape).Idx) (h0 : (i 0).val = (j 0).val) (h1 : (i 1).val = B * n.val + (j 1).val) :
    cols hC G i = G n j := by
  have hj : (j 1).val < B := (j 1).isLt
  have hB : 0 < B := by omega
  unfold cols
  have hn : (⟨(i 1).val / B, Nat.div_lt_of_lt_mul (lt_of_lt_of_eq (i 1).isLt hC)⟩ : Fin N) = n :=
    Fin.ext (by show (i 1).val / B = n.val; rw [h1, Nat.mul_add_div hB, Nat.div_eq_of_lt hj, Nat.add_zero])
  refine congrArg₂ G hn (funext fun a => ?_)
  match a with
  | ⟨0, _⟩ => exact Fin.ext h0
  | ⟨1, _⟩ => exact Fin.ext (by show (i 1).val % B = (j 1).val; rw [h1, Nat.mul_add_mod, Nat.mod_eq_of_lt hj])

/-- Reading the rectangle of block `n` gives block `n`. -/
theorem rd_cols (hC : C = B * N) (G : Fin N → (⟨2, ![R, B]⟩ : Shape).Idx → α) (n : Fin N) {off : Fin 2 → ℕ}
    (hoff : off = ![0, B * n.val]) (inb : ∀ a, off a + (![R, B] : Fin 2 → ℕ) a ≤ (⟨2, ![R, C]⟩ : Shape).size a) :
    rd (cols hC G) (Rect.unit (s := ⟨2, ![R, C]⟩) off ![R, B] inb) = G n := by
  subst hoff
  funext j
  refine cols_at hC G n j _ ?_ ?_
  · show 0 + 1 * (j 0).val = _; omega
  · show B * n.val + 1 * (j 1).val = _; omega

/-- An array that agrees with blocks `G` off block `n` and holds `w` there is the array of `G'`. -/
theorem eq_cols (hC : C = B * N) (G G' : Fin N → (⟨2, ![R, B]⟩ : Shape).Idx → α) (n : Fin N) (w : (⟨2, ![R, B]⟩ : Shape).Idx → α)
    (hn : G' n = w) (hne : ∀ m, m ≠ n → G' m = G m) {off : Fin 2 → ℕ} (hoff : off = ![0, B * n.val])
    (inb : ∀ a, off a + (![R, B] : Fin 2 → ℕ) a ≤ (⟨2, ![R, C]⟩ : Shape).size a) (g : (⟨2, ![R, C]⟩ : Shape).Idx → α)
    (h1 : ∀ j : (⟨2, ![R, B]⟩ : Shape).Idx, g ((Rect.unit (s := ⟨2, ![R, C]⟩) off ![R, B] inb).idx j) = w j)
    (h2 : ∀ i, i ∉ (Rect.unit (s := ⟨2, ![R, C]⟩) off ![R, B] inb).set → g i = cols hC G i) : g = cols hC G' := by
  subst hoff
  funext i
  by_cases hi : i ∈ (Rect.unit (s := ⟨2, ![R, C]⟩) ![0, B * n.val] ![R, B] inb).set
  · rw [← Rect.map_emb_univ] at hi
    obtain ⟨j, -, rfl⟩ := Finset.mem_map.1 hi
    refine (h1 j).trans ?_
    rw [← hn]
    refine (cols_at hC G' n j _ ?_ ?_).symm
    · show 0 + 1 * (j 0).val = _; omega
    · show B * n.val + 1 * (j 1).val = _; omega
  · rw [h2 i hi]
    have hlt : (i 1).val < B * N := lt_of_lt_of_eq (i 1).isLt hC
    have hB : 0 < B := Nat.pos_of_ne_zero fun h0 => by simp [h0] at hlt
    unfold cols
    have hm : (⟨(i 1).val / B, Nat.div_lt_of_lt_mul hlt⟩ : Fin N) ≠ n := fun h => hi (by
      have h' : (i 1).val / B = n.val := congrArg Fin.val h
      rw [Rect.mem_set_unit]
      intro a
      match a with
      | ⟨0, _⟩ => exact ⟨Nat.zero_le _, by show (i 0).val < 0 + R; have : (i 0).val < R := (i 0).isLt; omega⟩
      | ⟨1, _⟩ =>
        show B * n.val ≤ (i 1).val ∧ (i 1).val < B * n.val + B
        have := Nat.div_add_mod (i 1).val B
        have := Nat.mod_lt (i 1).val hB
        rw [h'] at *
        omega)
    exact (congrFun (hne _ hm) _).symm

end Cols

/-! ## The inputs, device by device -/

/-- The contents of the seven inputs on each device. -/
structure Inp (F : FTy → Type) where
  x : Dev nD → S1024x2048.Idx → Elt F .f32
  wd : Dev nD → S2048x128.Idx → Elt F .f32
  wk : Dev nD → S128x2048.Idx → Elt F .f32
  wv : Dev nD → S128x2048.Idx → Elt F .f32
  wq : Dev nD → S2048x2048.Idx → Elt F .f32
  wqr : Dev nD → S2048x512.Idx → Elt F .f32
  wkr : Dev nD → S2048x32.Idx → Elt F .f32

variable (I : Inp F)

/-! ## The ring's buffers -/

theorem inb_xq (r : Fin 4) : ∀ a, (![256 * r.val, 0] : Fin 2 → ℕ) a + S256x2048.size a ≤ S1024x2048.size a := by
  revert r; decide

/-- Rows `256 r …` of device `o`'s `x`, transposed through its down projection: a quarter of its slot. -/
def cq (o : Dev nD) (r : Fin 4) : S1x128x256.Idx → Elt F .bf16 :=
  k0_pay3 (k0_pay2 (rd (I.x o) (Rect.unit (s := S1024x2048) ![256 * r.val, 0] S256x2048.size (inb_xq r)))
    (rd (I.wd o) (Rect.unit (s := S2048x128) ![0, 0] S2048x128.size inb_S2048x128_S2048x128_0_0)))

/-- The ring's first buffer, every slot holding its owner's product. -/
def c4All : S4x128x1024.Idx → Elt F .bf16 := fun i =>
  cq I (i 0) ⟨(i 2).val / 256, Nat.div_lt_of_lt_mul (i 2).isLt⟩ (ix3 0 (i 1) ⟨(i 2).val % 256, Nat.mod_lt _ (by decide)⟩)

/-- The second: every slot holding its owner's block of the key up projection, rounded. -/
def ukAll : S4x128x2048.Idx → Elt F .bf16 := fun i =>
  (k0_pay8 (k0_pay7 (rd (I.wk (i 0)) (Rect.unit (s := S128x2048) ![0, 0] S128x2048.size inb_S128x2048_S128x2048_0_0)))
    : S1x128x2048.Idx → Elt F .bf16) (ix3 0 (i 1) (i 2))

/-- The third: the value up projection likewise. -/
def uvAll : S4x128x2048.Idx → Elt F .bf16 := fun i =>
  (k0_pay9 (rd (I.wv (i 0)) (Rect.unit (s := S128x2048) ![0, 0] S128x2048.size inb_S128x2048_S128x2048_0_0))
    : S1x128x2048.Idx → Elt F .bf16) (ix3 0 (i 1) (i 2))

theorem inb_c4 (s : Dev nD) : ∀ a, (![s.val, 0, 0] : Fin 3 → ℕ) a + S1x128x1024.size a ≤ S4x128x1024.size a := by
  revert s; decide
theorem inb_u4 (s : Dev nD) : ∀ a, (![s.val, 0, 0] : Fin 3 → ℕ) a + S1x128x2048.size a ≤ S4x128x2048.size a := by
  revert s; decide
theorem inb_u4q (s : Dev nD) (n : Fin 4) : ∀ a, (![s.val, 0, 512 * n.val] : Fin 3 → ℕ) a + S1x128x512.size a ≤ S4x128x2048.size a := by
  revert s n; decide

/-- The rectangle of slot `s` of the first buffer, -/
abbrev rC (s : Dev nD) : Rect S4x128x1024 := Rect.unit (s := S4x128x1024) ![s.val, 0, 0] S1x128x1024.size (inb_c4 s)
/-- and of the other two. -/
abbrev rU (s : Dev nD) : Rect S4x128x2048 := Rect.unit (s := S4x128x2048) ![s.val, 0, 0] S1x128x2048.size (inb_u4 s)

/-- Slot `s` of the first buffer, -/
def cS (s : Dev nD) : S1x128x1024.Idx → Elt F .bf16 := rd (c4All I) (rC s)
/-- and column block `n` of slot `s` of the other two. -/
def kS (s : Dev nD) (n : Fin 4) : S1x128x512.Idx → Elt F .bf16 :=
  rd (ukAll I) (Rect.unit (s := S4x128x2048) ![s.val, 0, 512 * n.val] S1x128x512.size (inb_u4q s n))
def vS (s : Dev nD) (n : Fin 4) : S1x128x512.Idx → Elt F .bf16 :=
  rd (uvAll I) (Rect.unit (s := S4x128x2048) ![s.val, 0, 512 * n.val] S1x128x512.size (inb_u4q s n))

/-! ## The accumulated blocks of the first two results -/

/-- The owner of the slot device `c` adds in its `k`th pass. -/
def sub (c : Dev nD) (k : ℕ) : Dev nD := ⟨(c.val + (4 - k % 4)) % 4, Nat.mod_lt _ (by decide)⟩

/-- Column block `n` of the keys on device `c` after `k` passes, `f` the contents before the first. -/
def kB (c : Dev nD) (f : S1024x2048.Idx → Elt F .f32) : ℕ → Fin 4 → S1024x512.Idx → Elt F .f32
  | 0, n => colBlk (C := 2048) (B := 512) (N := 4) rfl f n
  | 1, n => k0_pay11 (cS I (sub c 0)) (kS I (sub c 0) n)
  | k + 2, n => k0_pay32 (cS I (sub c (k + 1))) (kS I (sub c (k + 1)) n) (kB c f (k + 1) n)

/-- Column block `n` of the values likewise. -/
def vB (c : Dev nD) (f : S1024x2048.Idx → Elt F .f32) : ℕ → Fin 4 → S1024x512.Idx → Elt F .f32
  | 0, n => colBlk (C := 2048) (B := 512) (N := 4) rfl f n
  | 1, n => k0_pay11 (cS I (sub c 0)) (vS I (sub c 0) n)
  | k + 2, n => k0_pay32 (cS I (sub c (k + 1))) (vS I (sub c (k + 1)) n) (vB c f (k + 1) n)

/-- Blocks `G'` below `n`, blocks `G` from `n` on. -/
def upTo {N : ℕ} {α : Type} (G G' : Fin N → α) (n : ℕ) : Fin N → α := fun m => if m.val < n then G' m else G m

theorem upTo_zero {N : ℕ} {α : Type} (G G' : Fin N → α) : upTo G G' 0 = G := funext fun m => if_neg (Nat.not_lt_zero _)
theorem upTo_all {N : ℕ} {α : Type} (G G' : Fin N → α) : upTo G G' N = G' := funext fun m => if_pos m.isLt
theorem upTo_self {N : ℕ} {α : Type} (G G' : Fin N → α) (n : Fin N) : upTo G G' n.val n = G n := if_neg (Nat.lt_irrefl _)
theorem upTo_succ_self {N : ℕ} {α : Type} (G G' : Fin N → α) (n : Fin N) : upTo G G' (n.val + 1) n = G' n := if_pos (Nat.lt_succ_self _)
theorem upTo_succ_ne {N : ℕ} {α : Type} (G G' : Fin N → α) (n m : Fin N) (h : m ≠ n) : upTo G G' (n.val + 1) m = upTo G G' n.val m := by
  unfold upTo
  have : m.val ≠ n.val := fun h' => h (Fin.ext h')
  by_cases h1 : m.val < n.val
  · rw [if_pos h1, if_pos (by omega)]
  · rw [if_neg h1, if_neg (by omega)]

/-- The keys on device `c` after `k` passes and `n` blocks of the next. -/
def kAt (c : Dev nD) (f : S1024x2048.Idx → Elt F .f32) (k n : ℕ) : S1024x2048.Idx → Elt F .f32 :=
  cols (C := 2048) (B := 512) (N := 4) rfl (upTo (kB I c f k) (kB I c f (k + 1)) n)
/-- The values likewise. -/
def vAt (c : Dev nD) (f : S1024x2048.Idx → Elt F .f32) (k n : ℕ) : S1024x2048.Idx → Elt F .f32 :=
  cols (C := 2048) (B := 512) (N := 4) rfl (upTo (vB I c f k) (vB I c f (k + 1)) n)

theorem kAt_start (c : Dev nD) (f : S1024x2048.Idx → Elt F .f32) : kAt I c f 0 0 = f := by
  unfold kAt; rw [upTo_zero]; exact cols_colBlk _ f
theorem vAt_start (c : Dev nD) (f : S1024x2048.Idx → Elt F .f32) : vAt I c f 0 0 = f := by
  unfold vAt; rw [upTo_zero]; exact cols_colBlk _ f
theorem kAt_next (c : Dev nD) (f : S1024x2048.Idx → Elt F .f32) (k : ℕ) : kAt I c f k 4 = kAt I c f (k + 1) 0 := by
  unfold kAt; rw [upTo_zero, upTo_all]
theorem vAt_next (c : Dev nD) (f : S1024x2048.Idx → Elt F .f32) (k : ℕ) : vAt I c f k 4 = vAt I c f (k + 1) 0 := by
  unfold vAt; rw [upTo_zero, upTo_all]

/-! ## The queries -/

theorem inb_wq (n : Fin 16) : ∀ a, (![0, 128 * n.val] : Fin 2 → ℕ) a + S2048x128.size a ≤ S2048x2048.size a := by
  revert n; decide
theorem inb_wqr (k : Fin 4) : ∀ a, (![512 * k.val, 0] : Fin 2 → ℕ) a + S512x128.size a ≤ S2048x128.size a := by
  revert k; decide
theorem inb_xc (k : Fin 4) : ∀ a, (![0, 512 * k.val] : Fin 2 → ℕ) a + S1024x512.size a ≤ S1024x2048.size a := by
  revert k; decide

/-- Column block `n` of the query projection, as the kernel copies it. -/
def wqC (c : Dev nD) (n : Fin 16) : S2048x128.Idx → Elt F .f32 :=
  rd (I.wq c) (Rect.unit (s := S2048x2048) ![0, 128 * n.val] S2048x128.size (inb_wq n))

/-- Columns `512 k …` of `x`. -/
def xC (c : Dev nD) (k : Fin 4) : S1024x512.Idx → Elt F .f32 :=
  rd (I.x c) (Rect.unit (s := S1024x2048) ![0, 512 * k.val] S1024x512.size (inb_xc k))
/-- Rows `512 k …` of column block `n` of the query projection. -/
def wqCR (c : Dev nD) (n : Fin 16) (k : Fin 4) : S512x128.Idx → Elt F .f32 :=
  rd (wqC I c n) (Rect.unit (s := S2048x128) ![512 * k.val, 0] S512x128.size (inb_wqr k))

/-- Column block `n` of the queries. -/
def qB (c : Dev nD) (n : Fin 16) : S1024x128.Idx → Elt F .f32 :=
  k0_pay21 (k0_pay19 (xC I c 0) (wqCR I c n 0) (xC I c 1) (wqCR I c n 1)) (k0_pay20 (xC I c 2)) (wqCR I c n 2) (xC I c 3) (wqCR I c n 3)

/-- The queries after `n` column blocks. -/
def qAt (c : Dev nD) (f : S1024x2048.Idx → Elt F .f32) (n : ℕ) : S1024x2048.Idx → Elt F .f32 :=
  cols (C := 2048) (B := 128) (N := 16) rfl (upTo (colBlk (C := 2048) (B := 128) (N := 16) rfl f) (qB I c) n)

theorem qAt_start (c : Dev nD) (f : S1024x2048.Idx → Elt F .f32) : qAt I c f 0 = f := by
  unfold qAt; rw [upTo_zero]; exact cols_colBlk _ f

/-! ## The transposed rotary queries, and the rotary keys -/

theorem inb_xrc (r k : Fin 4) : ∀ a, (![256 * r.val, 512 * k.val] : Fin 2 → ℕ) a + S256x512.size a ≤ S1024x2048.size a := by
  revert r k; decide
theorem inb_wqrR (k : Fin 4) : ∀ a, (![512 * k.val, 0] : Fin 2 → ℕ) a + S512x512.size a ≤ S2048x512.size a := by
  revert k; decide
theorem inb_wkrR (k : Fin 4) : ∀ a, (![512 * k.val, 0] : Fin 2 → ℕ) a + S512x32.size a ≤ S2048x32.size a := by
  revert k; decide

/-- Rows `256 r …`, columns `512 k …` of `x`. -/
def xRC (c : Dev nD) (r k : Fin 4) : S256x512.Idx → Elt F .f32 :=
  rd (I.x c) (Rect.unit (s := S1024x2048) ![256 * r.val, 512 * k.val] S256x512.size (inb_xrc r k))
/-- Rows `512 k …` of the rotary query projection, -/
def wqrR (c : Dev nD) (k : Fin 4) : S512x512.Idx → Elt F .f32 :=
  rd (I.wqr c) (Rect.unit (s := S2048x512) ![512 * k.val, 0] S512x512.size (inb_wqrR k))
/-- and of the rotary key projection. -/
def wkrR (c : Dev nD) (k : Fin 4) : S512x32.Idx → Elt F .f32 :=
  rd (I.wkr c) (Rect.unit (s := S2048x32) ![512 * k.val, 0] S512x32.size (inb_wkrR k))

/-- Column block `n` of the transposed rotary queries. -/
def qrB (c : Dev nD) (n : Fin 4) : S512x256.Idx → Elt F .f32 :=
  k0_pay81 (wqrR I c 0) (xRC I c n 0) (wqrR I c 1) (xRC I c n 1) (wqrR I c 2) (xRC I c n 2) (wqrR I c 3) (xRC I c n 3)

/-- The transposed rotary queries after `n` column blocks. -/
def qrAt (c : Dev nD) (f : S512x1024.Idx → Elt F .f32) (n : ℕ) : S512x1024.Idx → Elt F .f32 :=
  cols (C := 1024) (B := 256) (N := 4) rfl (upTo (colBlk (C := 1024) (B := 256) (N := 4) rfl f) (qrB I c) n)

theorem qrAt_start (c : Dev nD) (f : S512x1024.Idx → Elt F .f32) : qrAt I c f 0 = f := by
  unfold qrAt; rw [upTo_zero]; exact cols_colBlk _ f

/-- The rotary keys. -/
def krF (c : Dev nD) : S1024x32.Idx → Elt F .f32 :=
  k0_pay85 (k0_pay84 (xC I c 0) (wkrR I c 0) (xC I c 1) (wkrR I c 1)) (xC I c 2) (wkrR I c 2) (xC I c 3) (wkrR I c 3)

end Cert.KernelIdeal.Fused

end
-- ==== Proof.Ring.lean ====
/-
The ring's protocol. Nineteen cells on each device: the barrier's, and for each of the three buffers `t` and each of the
three hops `h` a send cell and a receive cell. On hop `h` device `c` copies its slot `sub c h` of buffer `t` into the same
slot of `nxt c`; the signal a device sends to its left neighbour before the first hop hands that neighbour the slots it
will write.
-/
module

public import proofs.«01_k».proof.Proof.Contents

@[expose] public section

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Inp F)

theorem sub_nxt (c : Dev nD) (h : ℕ) : sub (nxt c) (h + 1) = sub c h := by
  apply Fin.ext; show ((c.val + 1) % 4 + (4 - (h + 1) % 4)) % 4 = (c.val + (4 - h % 4)) % 4; omega
theorem sub_zero (c : Dev nD) : sub c 0 = c := by revert c; decide

/-! ## The cells -/

abbrev barS : Sem sig := (SemArray.scalar (sig.barrier 0 rfl) : Sems sig S_).sem

theorem sS_lt (t h : Fin 3) : 11 + 3 * t.val + h.val < sig.nDmaSem := by revert t h; decide
theorem rS_lt (t h : Fin 3) : 20 + 3 * t.val + h.val < sig.nDmaSem := by revert t h; decide
/-- The semaphore of the departure of buffer `t` on hop `h`, -/
def sS (t h : Fin 3) : DmaSem sig := ⟨11 + 3 * t.val + h.val, sS_lt t h⟩
/-- and of its arrival. -/
def rS (t h : Fin 3) : DmaSem sig := ⟨20 + 3 * t.val + h.val, rS_lt t h⟩

abbrev barCell (c : Dev nD) : GSem nD τ sig := ((c : Thread nD τ), .reg barS)
abbrev sCell (c : Dev nD) (t h : Fin 3) : GSem nD τ sig := ((c : Thread nD τ), .dma (sS t h))
abbrev rCell (c : Dev nD) (t h : Fin 3) : GSem nD τ sig := ((c : Thread nD τ), .dma (rS t h))

/-! ## The slots -/

/-- Slot `s` of buffer `t` of device `c`, holding its owner's part. -/
def slotPay (t : Fin 3) (c s : Dev nD) (q : PosShare TreeShare) : sProp 𝕄 :=
  match t with
  | 0 => ((c : Thread nD τ).loc cc0_scratch0) ↦[(rC s).set]{q} (c4All I : Buf (Elt F) ((c : Thread nD τ).loc cc0_scratch0))
  | 1 => ((c : Thread nD τ).loc cc0_scratch1) ↦[(rU s).set]{q} (ukAll I : Buf (Elt F) ((c : Thread nD τ).loc cc0_scratch1))
  | 2 => ((c : Thread nD τ).loc cc0_scratch2) ↦[(rU s).set]{q} (uvAll I : Buf (Elt F) ((c : Thread nD τ).loc cc0_scratch2))

/-- Slot `s` of buffer `t` of device `c`, whatever it holds. -/
def slotAny (t : Fin 3) (c s : Dev nD) : sProp 𝕄 :=
  match t with
  | 0 => iprop(∃ f, ((c : Thread nD τ).loc cc0_scratch0) ↦[(rC s).set]{fullShare} f)
  | 1 => iprop(∃ f, ((c : Thread nD τ).loc cc0_scratch1) ↦[(rU s).set]{fullShare} f)
  | 2 => iprop(∃ f, ((c : Thread nD τ).loc cc0_scratch2) ↦[(rU s).set]{fullShare} f)

/-- The receive cells of buffer `t` of device `c` are open. -/
def opened (t : Fin 3) (c : Dev nD) : sProp 𝕄 :=
  iprop(reached ER (rCell c t 0) 0 ∗ reached ER (rCell c t 1) 0 ∗ reached ER (rCell c t 2) 0)
instance opened_persistent (t : Fin 3) (c : Dev nD) : BI.Persistent (opened (F := F) t c) := by unfold opened; infer_instance
theorem opened_at (t h : Fin 3) (c : Dev nD) : opened (F := F) t c ⊢ reached ER (rCell c t h) 0 := by
  unfold opened
  iintro ⟨H0, H1, H2⟩
  match h with
  | 0 => iexact H0
  | 1 => iexact H1
  | 2 => iexact H2

/-- Slot `s` of buffer `t` of device `c` to be written by a copy: whatever it holds, and the buffer's receive cells open. -/
def slotIn (t : Fin 3) (c s : Dev nD) : sProp 𝕄 := iprop(slotAny (F := F) t c s ∗ opened (F := F) t c)

/-- Slot `s` of all three. -/
def slotsAny (c s : Dev nD) : sProp 𝕄 := iprop(slotIn (F := F) 0 c s ∗ slotIn (F := F) 1 c s ∗ slotIn (F := F) 2 c s)

instance slotPay_storable (t : Fin 3) (c s : Dev nD) (q) : BI.Storable (upEmb : UEmb _ 𝕄) (slotPay I t c s q) := by
  unfold slotPay; split <;> infer_instance
instance slotAny_storable (t : Fin 3) (c s : Dev nD) : BI.Storable (upEmb : UEmb _ 𝕄) (slotAny (F := F) t c s) := by
  unfold slotAny; split <;> infer_instance
instance slotIn_storable (t : Fin 3) (c s : Dev nD) : BI.Storable (upEmb : UEmb _ 𝕄) (slotIn (F := F) t c s) := by
  unfold slotIn opened; infer_instance
instance slotsAny_storable (c s : Dev nD) : BI.Storable (upEmb : UEmb _ 𝕄) (slotsAny (F := F) c s) := by
  unfold slotsAny; infer_instance

/-- Slot `s` of the first buffer as the kernel names it for its copies, -/
abbrev mC (off : Fin 3 → ℕ) (inb : ∀ a, off a + S1x128x1024.size a ≤ S4x128x1024.size a) : Memref sig .tc .vmem S128x1024 .bf16 :=
  (c4M.slice (Rect.unit (s := S4x128x1024) off S1x128x1024.size inb) (fun _ => rfl)).squeeze S128x1024 squeezes_S1x128x1024_S128x1024
/-- of the second, -/
abbrev mK (off : Fin 3 → ℕ) (inb : ∀ a, off a + S1x128x2048.size a ≤ S4x128x2048.size a) : Memref sig .tc .vmem S128x2048 .bf16 :=
  (uk4M.slice (Rect.unit (s := S4x128x2048) off S1x128x2048.size inb) (fun _ => rfl)).squeeze S128x2048 squeezes_S1x128x2048_S128x2048
/-- of the third. -/
abbrev mV (off : Fin 3 → ℕ) (inb : ∀ a, off a + S1x128x2048.size a ≤ S4x128x2048.size a) : Memref sig .tc .vmem S128x2048 .bf16 :=
  (uv4M.slice (Rect.unit (s := S4x128x2048) off S1x128x2048.size inb) (fun _ => rfl)).squeeze S128x2048 squeezes_S1x128x2048_S128x2048

/-- The units a copy of a slot of buffer `t` moves. -/
def Nt (t : Fin 3) : ℕ :=
  match t with
  | 0 => (mC ![0, 0, 0] (inb_c4 0)).view.dmaCredit
  | 1 => (mK ![0, 0, 0] (inb_u4 0)).view.dmaCredit
  | 2 => (mV ![0, 0, 0] (inb_u4 0)).view.dmaCredit

theorem Nt_pos (t : Fin 3) : 0 < Nt t := by
  match t with
  | 0 => exact View.dmaCredit_pos _ (by decide)
  | 1 => exact View.dmaCredit_pos _ (by decide)
  | 2 => exact View.dmaCredit_pos _ (by decide)

/-! ## The schedule -/

/-- What `nxt c`'s signal hands `c`: the slots of `nxt c` that `c` will write. -/
def barPay (c : Dev nD) : sProp 𝕄 :=
  iprop(slotsAny (F := F) (nxt c) (sub c 0) ∗ slotsAny (F := F) (nxt c) (sub c 1) ∗ slotsAny (F := F) (nxt c) (sub c 2))

/-- The buffer a copy's semaphore counts, -/
def tOf (q : DmaSem sig) : Fin 3 := ⟨(q.val - 11) / 3 % 3, Nat.mod_lt _ (by decide)⟩
/-- and the hop. -/
def hOf (q : DmaSem sig) : ℕ := (q.val - 11) % 3

theorem tOf_sS (t h : Fin 3) : tOf (sS t h) = t := by revert t h; decide
theorem tOf_rS (t h : Fin 3) : tOf (rS t h) = t := by revert t h; decide
theorem hOf_sS (t h : Fin 3) : hOf (sS t h) = h.val := by revert t h; decide
theorem hOf_rS (t h : Fin 3) : hOf (rS t h) = h.val := by revert t h; decide

abbrev IsS (q : DmaSem sig) : Prop := 11 ≤ q.val ∧ q.val < 20
abbrev IsR (q : DmaSem sig) : Prop := 20 ≤ q.val ∧ q.val < 29
theorem isS_sS (t h : Fin 3) : IsS (sS t h) := by revert t h; decide
theorem isR_rS (t h : Fin 3) : IsR (rS t h) := by revert t h; decide
theorem not_isS_rS (t h : Fin 3) : ¬ IsS (rS t h) := by revert t h; decide

/-- Whether a semaphore is one of the ring's. -/
def IsRing : SemLoc sig → Prop
  | .reg s => s = barS
  | .dma q => 11 ≤ q.val ∧ q.val < 29
instance : DecidablePred IsRing := fun sm => by cases sm <;> (unfold IsRing; infer_instance)

/-- What the completion of a copy's semaphore hands device `c`: the share of the slot lent to the departing copy, or the
    slot that arrived. -/
def dmaPay (c : Dev nD) (q : DmaSem sig) : sProp 𝕄 :=
  if IsS q then slotPay I (tOf q) c (sub c (hOf q)) fullShare.right
  else slotPay I (tOf q) c (sub c (hOf q + 1)) fullShare

/-- One round: a barrier cell has the duties `false` (from the left) and `true` (from the right) of one unit each; a
    copy's cell the duty `false` of the copy's units. -/
def Rd : Rounds.Schedule (GSem nD τ sig) Bool 𝕄 where
  duties g r := if r = 0 ∧ g.1.2 = .tc ∧ IsRing g.2 then (match g.2 with | .reg _ => Finset.univ | .dma _ => {false}) else ∅
  unitless _ := False
  amount g _ _ := match g.2 with | .reg _ => 1 | .dma q => Nt (tOf q)
  payload g _ d := match g.2 with
    | .reg _ => if d then barPay g.1.1 else iprop(emp)
    | .dma q => dmaPay I g.1.1 q
  amount_pos g _ _ _ := by
    split
    · exact Nat.one_pos
    · exact Nt_pos _

instance Rd_payload_storable (g : GSem nD τ sig) (r : ℕ) (d : Bool) :
    BI.Storable (upEmb : UEmb _ 𝕄) ((Rd I).payload g r d) := by
  show BI.Storable upEmb (match g.2 with
    | .reg _ => if d then barPay g.1.1 else iprop(emp)
    | .dma q => dmaPay I g.1.1 q)
  unfold barPay dmaPay
  (repeat' split) <;> infer_instance

section Sched
variable (c : Dev nD) (t h : Fin 3)

theorem duties_bar : (Rd I).duties (barCell c) 0 = Finset.univ := by
  dsimp only [Rd]; exact if_pos ⟨rfl, rfl, rfl⟩
theorem duties_s : (Rd I).duties (sCell c t h) 0 = {false} := by
  dsimp only [Rd]; exact if_pos ⟨rfl, rfl, by revert t h; decide⟩
theorem duties_r : (Rd I).duties (rCell c t h) 0 = {false} := by
  dsimp only [Rd]; exact if_pos ⟨rfl, rfl, by revert t h; decide⟩
theorem duties_later (g : GSem nD τ sig) : ∀ r, 1 ≤ r → (Rd I).duties g r = ∅ :=
  fun r hr => by dsimp only [Rd]; rw [if_neg fun h => by omega]
theorem amount_bar (d : Bool) : (Rd I).amount (barCell c) 0 d = 1 := rfl
theorem amount_s (d : Bool) : (Rd I).amount (sCell c t h) 0 d = Nt t := by
  show Nt (tOf (sS t h)) = _; rw [tOf_sS]
theorem amount_r (d : Bool) : (Rd I).amount (rCell c t h) 0 d = Nt t := by
  show Nt (tOf (rS t h)) = _; rw [tOf_rS]
theorem expect_bar : (Rd I).expect (barCell c) 0 = 2 := by
  unfold Schedule.expect Schedule.amountOf
  rw [duties_bar, Finset.sum_congr rfl fun d _ => amount_bar I c d, Finset.sum_const, Finset.card_univ, Fintype.card_bool, smul_eq_mul]
theorem expect_s : (Rd I).expect (sCell c t h) 0 = Nt t := by
  unfold Schedule.expect Schedule.amountOf; rw [duties_s, Finset.sum_singleton, amount_s]
theorem expect_r : (Rd I).expect (rCell c t h) 0 = Nt t := by
  unfold Schedule.expect Schedule.amountOf; rw [duties_r, Finset.sum_singleton, amount_r]
theorem payload_bar_true : (Rd I).payload (barCell c) 0 true = barPay c := rfl
theorem payload_bar_false : (Rd I).payload (barCell c) 0 false = iprop(emp) := rfl
theorem payload_s (d : Bool) : (Rd I).payload (sCell c t h) 0 d = slotPay I t c (sub c h.val) fullShare.right := by
  show dmaPay I c (sS t h) = _
  unfold dmaPay; rw [if_pos (isS_sS t h), tOf_sS, hOf_sS]
theorem payload_r (d : Bool) : (Rd I).payload (rCell c t h) 0 d = slotPay I t c (sub c (h.val + 1)) fullShare := by
  show dmaPay I c (rS t h) = _
  unfold dmaPay; rw [if_neg (not_isS_rS t h), tOf_rS, hOf_rS]
theorem rest_bar : bigSep ((Rd I).duties (barCell c) 0 \ ∅) (fun d => (Rd I).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
theorem rest_s : bigSep ((Rd I).duties (sCell c t h) 0 \ ∅) (fun d => (Rd I).payload (sCell c t h) 0 d)
    = slotPay I t c (sub c h.val) fullShare.right := by
  rw [Finset.sdiff_empty, duties_s, bigSep_singleton, payload_s]
theorem rest_r : bigSep ((Rd I).duties (rCell c t h) 0 \ ∅) (fun d => (Rd I).payload (rCell c t h) 0 d)
    = slotPay I t c (sub c (h.val + 1)) fullShare := by
  rw [Finset.sdiff_empty, duties_r, bigSep_singleton, payload_r]

end Sched

/-! ## What each device owes, and the levels -/

/-- The buffer and the hop of the `j`th of a device's nine copies. -/
def tJ (j : ℕ) : Fin 3 := ⟨j % 3, Nat.mod_lt _ (by decide)⟩
def hJ (j : ℕ) : Fin 3 := ⟨j / 3 % 3, Nat.mod_lt _ (by decide)⟩

/-- What device `c` owes its right neighbour's receive cells while `k` copies are to be issued. -/
def OR (c : Dev nD) : ℕ → CellTallies nD τ sig Unit
  | 0 => 0
  | k + 1 => OR c k + tallyAt (rCell (nxt c) (tJ (8 - k)) (hJ (8 - k))) () (Nt (tJ (8 - k)))

def O₁ (c : Dev nD) : CellTallies nD τ sig Unit := OR c 9 + tallyAt (barCell (nxt c)) () 1
/-- What it owes at launch: the left neighbour's barrier unit on top, then the right's. -/
def O₀ (c : Dev nD) : CellTallies nD τ sig Unit := O₁ c + tallyAt (barCell (prv c)) () 1

def L (g : GSem nD τ sig) : Finset Unit := if g.1.2 = .tc then {()} else ∅
/-- Barrier cells at 1, the receive cells of hop `h` at `h + 2`, everything else at 0. -/
def lv (g : GSem nD τ sig) (_ : Unit) : ℕ :=
  match g.2 with
  | .reg s => if s = barS then 1 else 0
  | .dma q => if IsR q then hOf q + 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by dsimp only [lv]; exact if_pos rfl
theorem lv_r (c : Dev nD) (t h : Fin 3) : lv (rCell c t h) () = h.val + 2 := by
  dsimp only [lv]; rw [if_pos (isR_rS t h), hOf_rS]
theorem lv_s (c : Dev nD) (t h : Fin 3) : lv (sCell c t h) () = 0 := by
  dsimp only [lv]; revert t h; decide

theorem tally_pos {g₀ g : GSem nD τ sig} {u : Unit} {n : ℕ} (h : 0 < tallyAt g₀ () n g u) : g = g₀ := by
  rw [tallyAt_apply] at h
  by_contra hn
  rw [if_neg (fun h' => hn h'.1)] at h
  exact Nat.lt_irrefl 0 h

theorem add_pos_or {D D' : CellTallies nD τ sig Unit} {g : GSem nD τ sig} {u : Unit} (h : 0 < (D + D') g u) : 0 < D g u ∨ 0 < D' g u := by
  rw [Pi.add_apply, Finsupp.add_apply] at h; omega

theorem OR_pos {c : Dev nD} {k : ℕ} {g : GSem nD τ sig} {u : Unit} (h : 0 < OR c k g u) :
    ∃ k', k' < k ∧ g = rCell (nxt c) (tJ (8 - k')) (hJ (8 - k')) := by
  induction k with
  | zero => exact absurd h (Nat.lt_irrefl 0)
  | succ k ih =>
    rcases add_pos_or h with h | h
    · obtain ⟨k', hk, hg⟩ := ih h; exact ⟨k', by omega, hg⟩
    · exact ⟨k, Nat.lt_succ_self k, tally_pos h⟩

theorem O₀_pos {c : Dev nD} {g : GSem nD τ sig} {u : Unit} (h : 0 < O₀ c g u) :
    (∃ k', k' < 9 ∧ g = rCell (nxt c) (tJ (8 - k')) (hJ (8 - k'))) ∨ g = barCell (nxt c) ∨ g = barCell (prv c) := by
  rcases add_pos_or h with h | h
  · rcases add_pos_or h with h | h
    · exact .inl (OR_pos h)
    · exact .inr (.inl (tally_pos h))
  · exact .inr (.inr (tally_pos h))

/-- A device owing its last `k` copies may wait on a cell whose level is below theirs. -/
theorem mayWait_OR (c : Dev nD) (sm : SemLoc sig) (k b : ℕ) (hb : lv ((c : Thread nD τ), sm) () = b)
    (hk : ∀ k' : Fin k, b < (hJ (8 - k'.val)).val + 2) :
    (levAts L lv : sProp 𝕄) ⊢ MayWait (c : Thread nD τ) sm () (OR c k) :=
  MayOwe.of_cut (L := L) (lev := lv) b (fun p hp => by rw [Finset.mem_singleton.mp hp, L_tc]; exact Finset.mem_singleton_self _)
    (fun g u hg => by obtain ⟨k', -, rfl⟩ := OR_pos hg; rw [L_tc]; exact Finset.mem_singleton_self _)
    (fun p hp => by rw [Finset.mem_singleton.mp hp]; exact le_of_eq hb)
    (fun g u hg => by
      obtain ⟨k', hk', rfl⟩ := OR_pos hg
      rw [lv_r]; exact hk ⟨k', hk'⟩)

/-- At launch a device may wait on a staging copy, and once it owes nothing on anything. -/
theorem mayWait_stage (c : Dev nD) (q : DmaSem sig) (hq : q.val < 11) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨_, _, rfl⟩ | rfl | rfl <;> exact Finset.mem_singleton_self _)
      (fun p hp => by rw [Finset.mem_singleton.mp hp]; dsimp only [lv]; rw [if_neg (fun h => by omega)])
      (fun g u hg => by
        rcases O₀_pos hg with ⟨_, _, rfl⟩ | rfl | rfl
        · rw [lv_r]; omega
        · rw [lv_bar]; decide
        · rw [lv_bar]; decide)
  · rw [MayWait_zero]; iintro -; iempintro

end Cert.KernelIdeal.Fused

end
-- ==== Proof.Rules.lean ====
/-
One rule for each kind of effect of the fused kernel's body, in the resources the proof speaks of.
-/
module

public import proofs.«01_k».proof.Proof.Ring

@[expose] public section

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Inp F)

/-- The weakest precondition of a piece of the body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`. -/
def ow (c : Dev nD) (O : CellTallies nD τ sig Unit) : sProp 𝕄 := iprop(∃ W : Waits sig Unit, owes (c : Thread nD τ) O W)

/-! ## Loads and stores -/

section LoadStore
variable {cs : CoreSpace} {s : Shape} {e : EltTy} (m : Memref sig .tc cs s e) {α : Type} {Q : α → sProp (MT nD τ sig Unit (Elt F) ℕ UU ℕ)} (c : Dev nD)

/-- A load whose value is `v`. -/
theorem wp_ld {r : LoadRect s} {hl : m.view.LoadsAt r} {k : (r.shape.Idx → Elt F e) → Prog (TpuEff nD τ sig (Elt F) Λ₀ .tc) α}
    {S : Finset (Idx (m.view.loc (c : Thread nD τ)))} {q : PosShare TreeShare} {f : Buf (Elt F) (m.view.loc (c : Thread nD τ))}
    {v : r.shape.Idx → Elt F e} (hS : m.view.setOn r.set ⊆ S) (hv : m.view.readAt (Elt F) r f = v) :
    (m.view.loc (c : Thread nD τ) ↦[S]{q} f)
      ⊢ iprop(((m.view.loc (c : Thread nD τ) ↦[S]{q} f) -∗ WP c (k v) Q) -∗ WP c (.op (.load m r hl) k) Q) := by
  subst hv
  exact wp_load 𝒱₀ (c : Thread nD τ) none Set.univ (m := m) hS

end LoadStore

/-- Every element of a whole buffer's rectangle after a store through it, -/
theorem wr_in {b : Ref sig .tc} (r : Rect b.ty.shape) (f : b.ty.Contents (Elt F)) (w : r.shape.Idx → Elt F b.ty.elt) (j : r.shape.Idx) :
    ((Memref.whole b : Memref sig .tc b.space b.ty.shape b.ty.elt).access r : View sig .tc _ _ _).write (Elt F) f w Finset.univ (r.idx j) = w j :=
  View.write_emb_of_mem (v := ((Memref.whole b : Memref sig .tc b.space b.ty.shape b.ty.elt).access r : View sig .tc _ _ _)) f w (Finset.mem_univ j)

/-- and every other element. -/
theorem wr_out {b : Ref sig .tc} (r : Rect b.ty.shape) (f : b.ty.Contents (Elt F)) (w : r.shape.Idx → Elt F b.ty.elt) (i : b.ty.shape.Idx)
    (hi : i ∉ r.set) :
    ((Memref.whole b : Memref sig .tc b.space b.ty.shape b.ty.elt).access r : View sig .tc _ _ _).write (Elt F) f w Finset.univ i = f i :=
  View.write_of_not_mem (v := ((Memref.whole b : Memref sig .tc b.space b.ty.shape b.ty.elt).access r : View sig .tc _ _ _)) f w Finset.univ
    (fun h => hi (by rw [← View.set_slice_whole b r]; exact h))

theorem setOn_whole (b : Ref sig .tc) (S : Finset b.ty.shape.Idx) :
    (Memref.whole b : Memref sig .tc b.space b.ty.shape b.ty.elt).view.setOn S = S := by
  show S.map _ = S
  ext i
  rw [Finset.mem_map]
  exact ⟨fun ⟨j, hj, h⟩ => h ▸ hj, fun h => ⟨i, h, rfl⟩⟩

theorem setOn_access (b : Ref sig .tc) (r : Rect b.ty.shape) :
    ((Memref.whole b : Memref sig .tc b.space b.ty.shape b.ty.elt).access r : View sig .tc _ _ _).setOn Finset.univ = r.set :=
  View.set_slice_whole b r

/-- A store, the contents after it `g`. -/
theorem wp_st {cs : CoreSpace} {s : Shape} {e : EltTy} (m : Memref sig .tc cs s e) {α : Type} {Q : α → sProp 𝕄} (c : Dev nD)
    {r : Rect s} {w : r.shape.Idx → Elt F e} {hx hm} {k : PUnit → Prog (TpuEff nD τ sig (Elt F) Λ₀ .tc) α}
    {S : Finset (Idx (m.view.loc (c : Thread nD τ)))} {f g : Buf (Elt F) (m.view.loc (c : Thread nD τ))}
    (hS : (m.access r).setOn Finset.univ ⊆ S) (hg : ∀ i ∈ S, (m.access r).write (Elt F) f w Finset.univ i = g i) :
    (m.view.loc (c : Thread nD τ) ↦[S]{fullShare} f)
      ⊢ iprop(((m.view.loc (c : Thread nD τ) ↦[S]{fullShare} g) -∗ WP c (k ⟨⟩) Q)
        -∗ WP c (.op (.store m r w Finset.univ hx hm) k) Q) := by
  rw [← pointsTo_congr hg]
  exact wp_store 𝒱₀ (c : Thread nD τ) none Set.univ (m := m) (r := r) (Mk := Finset.univ) hS

/-! ## The inputs -/

section Ins
variable {α : Type} {Q : α → sProp (MT nD τ sig Unit (Elt F) ℕ UU ℕ)} (c : Dev nD)

/-- A load of columns of `x`. -/
theorem wp_ldXC (n : Fin 4) {off : Fin 2 → ℕ} {inb : ∀ a, off a + S1024x512.size a ≤ S1024x2048.size a} {hl}
    {k : ((Rect.unit (s := S1024x2048) off S1024x512.size inb).shape.Idx → Elt F .f32) → Prog (TpuEff nD τ sig (Elt F) Λ₀ .tc) α}
    (hoff : off = ![0, 512 * n.val]) :
    pt c cc0_stg0_0 fullShare (I.x c)
      ⊢ iprop((pt c cc0_stg0_0 fullShare (I.x c) -∗ WP c (k (xC I c n)) Q)
        -∗ WP c (.op (.load xM (Rect.unit (s := S1024x2048) off S1024x512.size inb) hl) k) Q) := by
  subst hoff
  exact wp_ld xM c (Finset.subset_univ _) rfl

/-- A load of rows and columns of `x`. -/
theorem wp_ldXRC (r n : Fin 4) {off : Fin 2 → ℕ} {inb : ∀ a, off a + S256x512.size a ≤ S1024x2048.size a} {hl}
    {k : ((Rect.unit (s := S1024x2048) off S256x512.size inb).shape.Idx → Elt F .f32) → Prog (TpuEff nD τ sig (Elt F) Λ₀ .tc) α}
    (hoff : off = ![256 * r.val, 512 * n.val]) :
    pt c cc0_stg0_0 fullShare (I.x c)
      ⊢ iprop((pt c cc0_stg0_0 fullShare (I.x c) -∗ WP c (k (xRC I c r n)) Q)
        -∗ WP c (.op (.load xM (Rect.unit (s := S1024x2048) off S256x512.size inb) hl) k) Q) := by
  subst hoff
  exact wp_ld xM c (Finset.subset_univ _) rfl

/-- A load of rows of `x`. -/
theorem wp_ldXQ (r : Fin 4) {off : Fin 2 → ℕ} {inb : ∀ a, off a + S256x2048.size a ≤ S1024x2048.size a} {hl}
    {k : ((Rect.unit (s := S1024x2048) off S256x2048.size inb).shape.Idx → Elt F .f32) → Prog (TpuEff nD τ sig (Elt F) Λ₀ .tc) α}
    (hoff : off = ![256 * r.val, 0]) :
    pt c cc0_stg0_0 fullShare (I.x c)
      ⊢ iprop((pt c cc0_stg0_0 fullShare (I.x c) -∗ WP c (k (rd (I.x c) (Rect.unit (s := S1024x2048) ![256 * r.val, 0] S256x2048.size (inb_xq r)))) Q)
        -∗ WP c (.op (.load xM (Rect.unit (s := S1024x2048) off S256x2048.size inb) hl) k) Q) := by
  subst hoff
  exact wp_ld xM c (Finset.subset_univ _) rfl

/-- A load of the down projection. -/
theorem wp_ldWd  {off : Fin 2 → ℕ} {inb : ∀ a, off a + S2048x128.size a ≤ S2048x128.size a} {hl}
    {k : ((Rect.unit (s := S2048x128) off S2048x128.size inb).shape.Idx → Elt F .f32) → Prog (TpuEff nD τ sig (Elt F) Λ₀ .tc) α}
    (hoff : off = ![0, 0]) :
    pt c cc0_stg1_0 fullShare (I.wd c)
      ⊢ iprop((pt c cc0_stg1_0 fullShare (I.wd c) -∗ WP c (k (rd (I.wd c) (Rect.unit (s := S2048x128) ![0, 0] S2048x128.size inb_S2048x128_S2048x128_0_0))) Q)
        -∗ WP c (.op (.load wdM (Rect.unit (s := S2048x128) off S2048x128.size inb) hl) k) Q) := by
  subst hoff
  exact wp_ld wdM c (Finset.subset_univ _) rfl

/-- A load of the key up projection. -/
theorem wp_ldWk  {off : Fin 2 → ℕ} {inb : ∀ a, off a + S128x2048.size a ≤ S128x2048.size a} {hl}
    {k : ((Rect.unit (s := S128x2048) off S128x2048.size inb).shape.Idx → Elt F .f32) → Prog (TpuEff nD τ sig (Elt F) Λ₀ .tc) α}
    (hoff : off = ![0, 0]) :
    pt c cc0_stg2_0 fullShare (I.wk c)
      ⊢ iprop((pt c cc0_stg2_0 fullShare (I.wk c) -∗ WP c (k (rd (I.wk c) (Rect.unit (s := S128x2048) ![0, 0] S128x2048.size inb_S128x2048_S128x2048_0_0))) Q)
        -∗ WP c (.op (.load wkM (Rect.unit (s := S128x2048) off S128x2048.size inb) hl) k) Q) := by
  subst hoff
  exact wp_ld wkM c (Finset.subset_univ _) rfl

/-- A load of the value up projection. -/
theorem wp_ldWv  {off : Fin 2 → ℕ} {inb : ∀ a, off a + S128x2048.size a ≤ S128x2048.size a} {hl}
    {k : ((Rect.unit (s := S128x2048) off S128x2048.size inb).shape.Idx → Elt F .f32) → Prog (TpuEff nD τ sig (Elt F) Λ₀ .tc) α}
    (hoff : off = ![0, 0]) :
    pt c cc0_stg3_0 fullShare (I.wv c)
      ⊢ iprop((pt c cc0_stg3_0 fullShare (I.wv c) -∗ WP c (k (rd (I.wv c) (Rect.unit (s := S128x2048) ![0, 0] S128x2048.size inb_S128x2048_S128x2048_0_0))) Q)
        -∗ WP c (.op (.load wvM (Rect.unit (s := S128x2048) off S128x2048.size inb) hl) k) Q) := by
  subst hoff
  exact wp_ld wvM c (Finset.subset_univ _) rfl

/-- A load of rows of the rotary query projection. -/
theorem wp_ldWqr (n : Fin 4) {off : Fin 2 → ℕ} {inb : ∀ a, off a + S512x512.size a ≤ S2048x512.size a} {hl}
    {k : ((Rect.unit (s := S2048x512) off S512x512.size inb).shape.Idx → Elt F .f32) → Prog (TpuEff nD τ sig (Elt F) Λ₀ .tc) α}
    (hoff : off = ![512 * n.val, 0]) :
    pt c cc0_stg4_0 fullShare (I.wqr c)
      ⊢ iprop((pt c cc0_stg4_0 fullShare (I.wqr c) -∗ WP c (k (wqrR I c n)) Q)
        -∗ WP c (.op (.load wqrM (Rect.unit (s := S2048x512) off S512x512.size inb) hl) k) Q) := by
  subst hoff
  exact wp_ld wqrM c (Finset.subset_univ _) rfl

/-- A load of rows of the rotary key projection. -/
theorem wp_ldWkr (n : Fin 4) {off : Fin 2 → ℕ} {inb : ∀ a, off a + S512x32.size a ≤ S2048x32.size a} {hl}
    {k : ((Rect.unit (s := S2048x32) off S512x32.size inb).shape.Idx → Elt F .f32) → Prog (TpuEff nD τ sig (Elt F) Λ₀ .tc) α}
    (hoff : off = ![512 * n.val, 0]) :
    pt c cc0_stg5_0 fullShare (I.wkr c)
      ⊢ iprop((pt c cc0_stg5_0 fullShare (I.wkr c) -∗ WP c (k (wkrR I c n)) Q)
        -∗ WP c (.op (.load wkrM (Rect.unit (s := S2048x32) off S512x32.size inb) hl) k) Q) := by
  subst hoff
  exact wp_ld wkrM c (Finset.subset_univ _) rfl

end Ins

/-! ## The results -/

section Outs
variable {α : Type} {Q : α → sProp (MT nD τ sig Unit (Elt F) ℕ UU ℕ)} (c : Dev nD)

/-- A load whose value nothing uses. -/
theorem wp_ldAny {cs : CoreSpace} {s : Shape} {e : EltTy} (m : Memref sig .tc cs s e) {r : LoadRect s} {hl : m.view.LoadsAt r}
    {k : (r.shape.Idx → Elt F e) → Prog (TpuEff nD τ sig (Elt F) Λ₀ .tc) α}
    {f : Buf (Elt F) (m.view.loc (c : Thread nD τ))} :
    (m.view.loc (c : Thread nD τ) ↦{fullShare} f)
      ⊢ iprop(((m.view.loc (c : Thread nD τ) ↦{fullShare} f) -∗ WP c (k (m.view.readAt (Elt F) r f)) Q)
        -∗ WP c (.op (.load m r hl) k) Q) :=
  wp_ld m c (Finset.subset_univ _) rfl

theorem updK (f0 : S1024x2048.Idx → Elt F .f32) (p : ℕ) (n : Fin 4) {off : Fin 2 → ℕ} {inb : ∀ a, off a + S1024x512.size a ≤ S1024x2048.size a}
    (hoff : off = ![0, 512 * n.val]) :
    ((kM.access (Rect.unit (s := S1024x2048) off S1024x512.size inb) : View sig .tc _ _ _).write (Elt F) (kAt I c f0 p n.val) (kB I c f0 (p + 1) n) Finset.univ
      : S1024x2048.Idx → Elt F .f32) = kAt I c f0 p (n.val + 1) := by
  unfold kAt
  refine eq_cols (C := 2048) (B := 512) (N := 4) rfl (upTo (kB I c f0 p) (kB I c f0 (p + 1)) n.val) _ n (kB I c f0 (p + 1) n) (upTo_succ_self _ _ n)
    (fun m hm => upTo_succ_ne _ _ n m hm) hoff inb _ ?_ ?_
  · intro j
    exact wr_in (b := cc0_stg6_0) (Rect.unit (s := S1024x2048) off S1024x512.size inb) _ _ j
  · intro i hi
    exact wr_out (b := cc0_stg6_0) (Rect.unit (s := S1024x2048) off S1024x512.size inb) _ _ i hi

/-- A store of block `n` of the keys in pass `p`. -/
theorem wp_stK (f0 : S1024x2048.Idx → Elt F .f32) (p : ℕ) (n : Fin 4) {off : Fin 2 → ℕ} {inb : ∀ a, off a + S1024x512.size a ≤ S1024x2048.size a}
    {w : (Rect.unit (s := S1024x2048) off S1024x512.size inb).shape.Idx → Elt F .f32} {hx hm}
    {k : PUnit → Prog (TpuEff nD τ sig (Elt F) Λ₀ .tc) α} (hoff : off = ![0, 512 * n.val]) (hw : kB I c f0 (p + 1) n = w) :
    pt c cc0_stg6_0 fullShare (kAt I c f0 p n.val)
      ⊢ iprop((pt c cc0_stg6_0 fullShare (kAt I c f0 p (n.val + 1)) -∗ WP c (k ⟨⟩) Q)
        -∗ WP c (.op (.store kM (Rect.unit (s := S1024x2048) off S1024x512.size inb) w Finset.univ hx hm) k) Q) := by
  subst hw
  exact wp_st kM c (f := kAt I c f0 p n.val) (g := kAt I c f0 p (n.val + 1)) (Finset.subset_univ _)
    (fun i _ => congrFun (updK I c f0 p n hoff) i)

theorem updV (f0 : S1024x2048.Idx → Elt F .f32) (p : ℕ) (n : Fin 4) {off : Fin 2 → ℕ} {inb : ∀ a, off a + S1024x512.size a ≤ S1024x2048.size a}
    (hoff : off = ![0, 512 * n.val]) :
    ((vM.access (Rect.unit (s := S1024x2048) off S1024x512.size inb) : View sig .tc _ _ _).write (Elt F) (vAt I c f0 p n.val) (vB I c f0 (p + 1) n) Finset.univ
      : S1024x2048.Idx → Elt F .f32) = vAt I c f0 p (n.val + 1) := by
  unfold vAt
  refine eq_cols (C := 2048) (B := 512) (N := 4) rfl (upTo (vB I c f0 p) (vB I c f0 (p + 1)) n.val) _ n (vB I c f0 (p + 1) n) (upTo_succ_self _ _ n)
    (fun m hm => upTo_succ_ne _ _ n m hm) hoff inb _ ?_ ?_
  · intro j
    exact wr_in (b := cc0_stg7_0) (Rect.unit (s := S1024x2048) off S1024x512.size inb) _ _ j
  · intro i hi
    exact wr_out (b := cc0_stg7_0) (Rect.unit (s := S1024x2048) off S1024x512.size inb) _ _ i hi

/-- A store of block `n` of the values in pass `p`. -/
theorem wp_stV (f0 : S1024x2048.Idx → Elt F .f32) (p : ℕ) (n : Fin 4) {off : Fin 2 → ℕ} {inb : ∀ a, off a + S1024x512.size a ≤ S1024x2048.size a}
    {w : (Rect.unit (s := S1024x2048) off S1024x512.size inb).shape.Idx → Elt F .f32} {hx hm}
    {k : PUnit → Prog (TpuEff nD τ sig (Elt F) Λ₀ .tc) α} (hoff : off = ![0, 512 * n.val]) (hw : vB I c f0 (p + 1) n = w) :
    pt c cc0_stg7_0 fullShare (vAt I c f0 p n.val)
      ⊢ iprop((pt c cc0_stg7_0 fullShare (vAt I c f0 p (n.val + 1)) -∗ WP c (k ⟨⟩) Q)
        -∗ WP c (.op (.store vM (Rect.unit (s := S1024x2048) off S1024x512.size inb) w Finset.univ hx hm) k) Q) := by
  subst hw
  exact wp_st vM c (f := vAt I c f0 p n.val) (g := vAt I c f0 p (n.val + 1)) (Finset.subset_univ _)
    (fun i _ => congrFun (updV I c f0 p n hoff) i)

theorem updQ (f0 : S1024x2048.Idx → Elt F .f32) (n : Fin 16) {off : Fin 2 → ℕ} {inb : ∀ a, off a + S1024x128.size a ≤ S1024x2048.size a}
    (hoff : off = ![0, 128 * n.val]) :
    ((qM.access (Rect.unit (s := S1024x2048) off S1024x128.size inb) : View sig .tc _ _ _).write (Elt F) (qAt I c f0 n.val) (qB I c n) Finset.univ
      : S1024x2048.Idx → Elt F .f32) = qAt I c f0 (n.val + 1) := by
  unfold qAt
  refine eq_cols (C := 2048) (B := 128) (N := 16) rfl (upTo (colBlk (C := 2048) (B := 128) (N := 16) rfl f0) (qB I c) n.val) _ n (qB I c n) (upTo_succ_self _ _ n)
    (fun m hm => upTo_succ_ne _ _ n m hm) hoff inb _ ?_ ?_
  · intro j
    exact wr_in (b := cc0_stg8_0) (Rect.unit (s := S1024x2048) off S1024x128.size inb) _ _ j
  · intro i hi
    exact wr_out (b := cc0_stg8_0) (Rect.unit (s := S1024x2048) off S1024x128.size inb) _ _ i hi

/-- A store of block `n` of the queries. -/
theorem wp_stQ (f0 : S1024x2048.Idx → Elt F .f32) (n : Fin 16) {off : Fin 2 → ℕ} {inb : ∀ a, off a + S1024x128.size a ≤ S1024x2048.size a}
    {w : (Rect.unit (s := S1024x2048) off S1024x128.size inb).shape.Idx → Elt F .f32} {hx hm}
    {k : PUnit → Prog (TpuEff nD τ sig (Elt F) Λ₀ .tc) α} (hoff : off = ![0, 128 * n.val]) (hw : qB I c n = w) :
    pt c cc0_stg8_0 fullShare (qAt I c f0 n.val)
      ⊢ iprop((pt c cc0_stg8_0 fullShare (qAt I c f0 (n.val + 1)) -∗ WP c (k ⟨⟩) Q)
        -∗ WP c (.op (.store qM (Rect.unit (s := S1024x2048) off S1024x128.size inb) w Finset.univ hx hm) k) Q) := by
  subst hw
  exact wp_st qM c (f := qAt I c f0 n.val) (g := qAt I c f0 (n.val + 1)) (Finset.subset_univ _)
    (fun i _ => congrFun (updQ I c f0 n hoff) i)

theorem updQr (f0 : S512x1024.Idx → Elt F .f32) (n : Fin 4) {off : Fin 2 → ℕ} {inb : ∀ a, off a + S512x256.size a ≤ S512x1024.size a}
    (hoff : off = ![0, 256 * n.val]) :
    ((qrM.access (Rect.unit (s := S512x1024) off S512x256.size inb) : View sig .tc _ _ _).write (Elt F) (qrAt I c f0 n.val) (qrB I c n) Finset.univ
      : S512x1024.Idx → Elt F .f32) = qrAt I c f0 (n.val + 1) := by
  unfold qrAt
  refine eq_cols (C := 1024) (B := 256) (N := 4) rfl (upTo (colBlk (C := 1024) (B := 256) (N := 4) rfl f0) (qrB I c) n.val) _ n (qrB I c n) (upTo_succ_self _ _ n)
    (fun m hm => upTo_succ_ne _ _ n m hm) hoff inb _ ?_ ?_
  · intro j
    exact wr_in (b := cc0_stg9_0) (Rect.unit (s := S512x1024) off S512x256.size inb) _ _ j
  · intro i hi
    exact wr_out (b := cc0_stg9_0) (Rect.unit (s := S512x1024) off S512x256.size inb) _ _ i hi

/-- A store of block `n` of the transposed rotary queries. -/
theorem wp_stQr (f0 : S512x1024.Idx → Elt F .f32) (n : Fin 4) {off : Fin 2 → ℕ} {inb : ∀ a, off a + S512x256.size a ≤ S512x1024.size a}
    {w : (Rect.unit (s := S512x1024) off S512x256.size inb).shape.Idx → Elt F .f32} {hx hm}
    {k : PUnit → Prog (TpuEff nD τ sig (Elt F) Λ₀ .tc) α} (hoff : off = ![0, 256 * n.val]) (hw : qrB I c n = w) :
    pt c cc0_stg9_0 fullShare (qrAt I c f0 n.val)
      ⊢ iprop((pt c cc0_stg9_0 fullShare (qrAt I c f0 (n.val + 1)) -∗ WP c (k ⟨⟩) Q)
        -∗ WP c (.op (.store qrM (Rect.unit (s := S512x1024) off S512x256.size inb) w Finset.univ hx hm) k) Q) := by
  subst hw
  exact wp_st qrM c (f := qrAt I c f0 n.val) (g := qrAt I c f0 (n.val + 1)) (Finset.subset_univ _)
    (fun i _ => congrFun (updQr I c f0 n hoff) i)

/-- The load of block `n` of the keys in pass `p`. -/
theorem wp_ldK (f0 : S1024x2048.Idx → Elt F .f32) (p : ℕ) (n : Fin 4) {off : Fin 2 → ℕ} {inb : ∀ a, off a + S1024x512.size a ≤ S1024x2048.size a} {hl}
    {k : ((Rect.unit (s := S1024x2048) off S1024x512.size inb).shape.Idx → Elt F .f32) → Prog (TpuEff nD τ sig (Elt F) Λ₀ .tc) α}
    (hoff : off = ![0, 512 * n.val]) :
    pt c cc0_stg6_0 fullShare (kAt I c f0 p n.val)
      ⊢ iprop((pt c cc0_stg6_0 fullShare (kAt I c f0 p n.val) -∗ WP c (k (kB I c f0 p n)) Q)
        -∗ WP c (.op (.load kM (Rect.unit (s := S1024x2048) off S1024x512.size inb) hl) k) Q) := by
  refine wp_ld (F := F) kM c (r := (Rect.unit (s := S1024x2048) off S1024x512.size inb).toLoadRect) (f := kAt I c f0 p n.val) (v := kB I c f0 p n) (Finset.subset_univ _) ?_
  exact (rd_cols (C := 2048) (B := 512) (N := 4) rfl _ n hoff inb).trans (upTo_self _ _ n)

/-- The load of block `n` of the values in pass `p`. -/
theorem wp_ldV (f0 : S1024x2048.Idx → Elt F .f32) (p : ℕ) (n : Fin 4) {off : Fin 2 → ℕ} {inb : ∀ a, off a + S1024x512.size a ≤ S1024x2048.size a} {hl}
    {k : ((Rect.unit (s := S1024x2048) off S1024x512.size inb).shape.Idx → Elt F .f32) → Prog (TpuEff nD τ sig (Elt F) Λ₀ .tc) α}
    (hoff : off = ![0, 512 * n.val]) :
    pt c cc0_stg7_0 fullShare (vAt I c f0 p n.val)
      ⊢ iprop((pt c cc0_stg7_0 fullShare (vAt I c f0 p n.val) -∗ WP c (k (vB I c f0 p n)) Q)
        -∗ WP c (.op (.load vM (Rect.unit (s := S1024x2048) off S1024x512.size inb) hl) k) Q) := by
  refine wp_ld (F := F) vM c (r := (Rect.unit (s := S1024x2048) off S1024x512.size inb).toLoadRect) (f := vAt I c f0 p n.val) (v := vB I c f0 p n) (Finset.subset_univ _) ?_
  exact (rd_cols (C := 2048) (B := 512) (N := 4) rfl _ n hoff inb).trans (upTo_self _ _ n)

/-- The store of the rotary keys. -/
theorem wp_stKr {f : S1024x32.Idx → Elt F .f32} {w : S1024x32.Idx → Elt F .f32} {inb hx hm} {k : PUnit → Prog (TpuEff nD τ sig (Elt F) Λ₀ .tc) α}
    (hw : krF I c = w) :
    pt c cc0_stg10_0 fullShare f
      ⊢ iprop((pt c cc0_stg10_0 fullShare (krF I c) -∗ WP c (k ⟨⟩) Q)
        -∗ WP c (.op (.store krM (Rect.unit (s := S1024x32) ![0, 0] S1024x32.size inb) w Finset.univ hx hm) k) Q) := by
  subst hw
  refine wp_st krM c (Finset.subset_univ _) (fun i _ => congrFun ?_ i)
  exact Memref.write_access_unit_zero_univ (Elt F) cc0_stg10_0 (funext fun a => by fin_cases a <;> rfl) _ _ _

end Outs

/-! ## The slots -/

section Slots
variable {α : Type} {Q : α → sProp (MT nD τ sig Unit (Elt F) ℕ UU ℕ)} (c : Dev nD)

theorem slotPay_0 (s : Dev nD) (q) : slotPay I 0 c s q
    = (((c : Thread nD τ).loc cc0_scratch0) ↦[(rC s).set]{q} (c4All I : Buf (Elt F) ((c : Thread nD τ).loc cc0_scratch0))) := rfl
theorem slotPay_1 (s : Dev nD) (q) : slotPay I 1 c s q
    = (((c : Thread nD τ).loc cc0_scratch1) ↦[(rU s).set]{q} (ukAll I : Buf (Elt F) ((c : Thread nD τ).loc cc0_scratch1))) := rfl
theorem slotPay_2 (s : Dev nD) (q) : slotPay I 2 c s q
    = (((c : Thread nD τ).loc cc0_scratch2) ↦[(rU s).set]{q} (uvAll I : Buf (Elt F) ((c : Thread nD τ).loc cc0_scratch2))) := rfl
theorem slotAny_0 (s : Dev nD) : slotAny (F := F) 0 c s
    = iprop(∃ f, ((c : Thread nD τ).loc cc0_scratch0) ↦[(rC s).set]{fullShare} f) := rfl
theorem slotAny_1 (s : Dev nD) : slotAny (F := F) 1 c s
    = iprop(∃ f, ((c : Thread nD τ).loc cc0_scratch1) ↦[(rU s).set]{fullShare} f) := rfl
theorem slotAny_2 (s : Dev nD) : slotAny (F := F) 2 c s
    = iprop(∃ f, ((c : Thread nD τ).loc cc0_scratch2) ↦[(rU s).set]{fullShare} f) := rfl

/-- The load of slot `s` of the first buffer. -/
theorem wp_ldC (s : Dev nD) {q : PosShare TreeShare} {off : Fin 3 → ℕ} {inb : ∀ a, off a + S1x128x1024.size a ≤ S4x128x1024.size a} {hl}
    {k : ((Rect.unit (s := S4x128x1024) off S1x128x1024.size inb).shape.Idx → Elt F .bf16) → Prog (TpuEff nD τ sig (Elt F) Λ₀ .tc) α}
    (hoff : off = ![s.val, 0, 0]) :
    slotPay I 0 c s q
      ⊢ iprop((slotPay I 0 c s q -∗ WP c (k (cS I s)) Q)
        -∗ WP c (.op (.load c4M (Rect.unit (s := S4x128x1024) off S1x128x1024.size inb) hl) k) Q) := by
  subst hoff
  exact wp_ld c4M c (S := (rC s).set) (le_of_eq (setOn_whole _ _)) rfl

theorem sub_rU (s : Dev nD) (n : Fin 4) :
    (Rect.unit (s := S4x128x2048) ![s.val, 0, 512 * n.val] S1x128x512.size (inb_u4q s n)).set ⊆ (rU s).set := fun i hi => by
  rw [Rect.mem_set_unit] at hi ⊢
  intro a
  match a with
  | ⟨0, _⟩ => exact hi ⟨0, by decide⟩
  | ⟨1, _⟩ => exact hi ⟨1, by decide⟩
  | ⟨2, _⟩ => exact ⟨Nat.zero_le _, by show (i 2).val < 0 + 2048; have : (i 2).val < 2048 := (i 2).isLt; omega⟩

/-- The load of columns of slot `s` of the second buffer. -/
theorem wp_ldU (s : Dev nD) (n : Fin 4) {q : PosShare TreeShare} {off : Fin 3 → ℕ} {inb : ∀ a, off a + S1x128x512.size a ≤ S4x128x2048.size a} {hl}
    {k : ((Rect.unit (s := S4x128x2048) off S1x128x512.size inb).shape.Idx → Elt F .bf16) → Prog (TpuEff nD τ sig (Elt F) Λ₀ .tc) α}
    (hoff : off = ![s.val, 0, 512 * n.val]) :
    slotPay I 1 c s q
      ⊢ iprop((slotPay I 1 c s q -∗ WP c (k (kS I s n)) Q)
        -∗ WP c (.op (.load uk4M (Rect.unit (s := S4x128x2048) off S1x128x512.size inb) hl) k) Q) := by
  subst hoff
  exact wp_ld uk4M c (S := (rU s).set) (by rw [setOn_whole]; exact sub_rU s n) rfl

/-- The load of columns of slot `s` of the third buffer. -/
theorem wp_ldW (s : Dev nD) (n : Fin 4) {q : PosShare TreeShare} {off : Fin 3 → ℕ} {inb : ∀ a, off a + S1x128x512.size a ≤ S4x128x2048.size a} {hl}
    {k : ((Rect.unit (s := S4x128x2048) off S1x128x512.size inb).shape.Idx → Elt F .bf16) → Prog (TpuEff nD τ sig (Elt F) Λ₀ .tc) α}
    (hoff : off = ![s.val, 0, 512 * n.val]) :
    slotPay I 2 c s q
      ⊢ iprop((slotPay I 2 c s q -∗ WP c (k (vS I s n)) Q)
        -∗ WP c (.op (.load uv4M (Rect.unit (s := S4x128x2048) off S1x128x512.size inb) hl) k) Q) := by
  subst hoff
  exact wp_ld uv4M c (S := (rU s).set) (by rw [setOn_whole]; exact sub_rU s n) rfl

/-- Device `c`'s own slot of the first buffer, its first `n` quarters stored. -/
def slotQ (n : ℕ) : sProp 𝕄 :=
  iprop(∃ f : Buf (Elt F) ((c : Thread nD τ).loc cc0_scratch0), ⌜∀ i : S4x128x1024.Idx, i ∈ (rC c).set → (i 2).val < 256 * n → f i = c4All I i⌝
    ∗ (((c : Thread nD τ).loc cc0_scratch0) ↦[(rC c).set]{fullShare} f))

theorem slotQ_start : slotAny (F := F) 0 c c ⊢ slotQ I c 0 := by
  rw [slotAny_0]; unfold slotQ
  iintro ⟨%f, H⟩
  iexists f
  isplitr
  · ipureintro; intro i _ h; omega
  iexact H

theorem slotQ_end : slotQ I c 4 ⊢ slotPay I 0 c c fullShare := by
  rw [slotPay_0]; unfold slotQ
  iintro ⟨%f, %hf, H⟩
  ihave H2 := (Entails.of_eq (pointsTo_congr (g := c4All I) (fun i hi => hf i hi (by have : (i 2).val < 1024 := (i 2).isLt; omega)))) $$ H
  iexact H2

theorem inb_c4q (r : Fin 4) : ∀ a, (![c.val, 0, 256 * r.val] : Fin 3 → ℕ) a + S1x128x256.size a ≤ S4x128x1024.size a := by
  revert r c; decide

theorem sub_rC (r : Fin 4) :
    (Rect.unit (s := S4x128x1024) ![c.val, 0, 256 * r.val] S1x128x256.size (inb_c4q c r)).set ⊆ (rC c).set := fun i hi => by
  rw [Rect.mem_set_unit] at hi ⊢
  intro a
  match a with
  | ⟨0, _⟩ => exact hi ⟨0, by decide⟩
  | ⟨1, _⟩ => exact hi ⟨1, by decide⟩
  | ⟨2, _⟩ => exact ⟨Nat.zero_le _, by show (i 2).val < 0 + 1024; have : (i 2).val < 1024 := (i 2).isLt; omega⟩

/-- A load of a quarter about to be stored. -/
theorem wp_ldOwn (n : ℕ) (r : Fin 4) {off : Fin 3 → ℕ} {inb : ∀ a, off a + S1x128x256.size a ≤ S4x128x1024.size a} {hl}
    {p : Prog (TpuEff nD τ sig (Elt F) Λ₀ .tc) α} (hoff : off = ![c.val, 0, 256 * r.val]) :
    slotQ I c n
      ⊢ iprop((slotQ I c n -∗ WP c p Q)
        -∗ WP c (.op (.load c4M (Rect.unit (s := S4x128x1024) off S1x128x256.size inb) hl) (fun _ => p)) Q) := by
  subst hoff
  unfold slotQ
  iintro ⟨%f, %hf, H⟩ Hk
  iapply (wp_ld c4M c (S := (rC c).set) (by rw [setOn_whole]; exact sub_rC c r) rfl) $$ H
  iintro H
  iapply Hk
  iexists f
  isplitr
  · ipureintro; exact hf
  iexact H

/-- A store of a quarter of the own slot. -/
theorem wp_stOwn (r : Fin 4) {off : Fin 3 → ℕ} {inb : ∀ a, off a + S1x128x256.size a ≤ S4x128x1024.size a}
    {w : (Rect.unit (s := S4x128x1024) off S1x128x256.size inb).shape.Idx → Elt F .bf16} {hx hm}
    {k : PUnit → Prog (TpuEff nD τ sig (Elt F) Λ₀ .tc) α} (hoff : off = ![c.val, 0, 256 * r.val]) (hw : cq I c r = w) :
    slotQ I c r.val
      ⊢ iprop((slotQ I c (r.val + 1) -∗ WP c (k ⟨⟩) Q)
        -∗ WP c (.op (.store c4M (Rect.unit (s := S4x128x1024) off S1x128x256.size inb) w Finset.univ hx hm) k) Q) := by
  subst hoff
  subst hw
  unfold slotQ
  iintro ⟨%f, %hf, H⟩ Hk
  iapply (wp_st c4M c (S := (rC c).set) (f := f) (g := (c4M.access (Rect.unit (s := S4x128x1024) ![c.val, 0, 256 * r.val] S1x128x256.size inb) : View sig .tc _ _ _).write (Elt F) f (cq I c r) Finset.univ) (by rw [setOn_access]; exact sub_rC c r) (fun i _ => rfl)) $$ H
  iintro H
  iapply Hk
  iexists ((c4M.access (Rect.unit (s := S4x128x1024) ![c.val, 0, 256 * r.val] S1x128x256.size inb) : View sig .tc _ _ _).write (Elt F) f (cq I c r) Finset.univ)
  isplitr
  · ipureintro
    intro i hi hlt
    by_cases hm : i ∈ (Rect.unit (s := S4x128x1024) ![c.val, 0, 256 * r.val] S1x128x256.size inb).set
    · rw [← Rect.map_emb_univ] at hm
      obtain ⟨j, -, rfl⟩ := Finset.mem_map.1 hm
      refine (wr_in (b := cc0_scratch0) _ _ _ j).trans ?_
      unfold c4All
      have h0 : (j 0).val < 1 := (j 0).isLt
      have h1 : (j 1).val < 128 := (j 1).isLt
      have h2 : (j 2).val < 256 := (j 2).isLt
      have e0 : ((Rect.unit (s := S4x128x1024) ![c.val, 0, 256 * r.val] S1x128x256.size inb).emb j 0 : Fin 4) = c := Fin.ext (by
        show c.val + 1 * (j 0).val = c.val; omega)
      have e2 : ((Rect.unit (s := S4x128x1024) ![c.val, 0, 256 * r.val] S1x128x256.size inb).emb j 2).val = 256 * r.val + (j 2).val := by
        show 256 * r.val + 1 * (j 2).val = _; omega
      have e1 : ((Rect.unit (s := S4x128x1024) ![c.val, 0, 256 * r.val] S1x128x256.size inb).emb j 1).val = (j 1).val := by
        show 0 + 1 * (j 1).val = _; omega
      have er : (⟨((Rect.unit (s := S4x128x1024) ![c.val, 0, 256 * r.val] S1x128x256.size inb).emb j 2).val / 256, Nat.div_lt_of_lt_mul (Fin.isLt _)⟩ : Fin 4) = r :=
        Fin.ext (by show _ / 256 = r.val; rw [e2]; omega)
      refine congr (congrArg₂ (cq I) e0.symm er.symm) (funext fun a => ?_)
      match a with
      | ⟨0, _⟩ => exact Fin.ext (by show (j 0).val = 0; omega)
      | ⟨1, _⟩ => exact Fin.ext e1.symm
      | ⟨2, _⟩ => exact Fin.ext (by show (j 2).val = _ % 256; rw [e2]; omega)
    · refine (wr_out (b := cc0_scratch0) _ _ _ i hm).trans (hf i hi ?_)
      by_contra hge
      apply hm
      rw [Rect.mem_set_unit] at hi ⊢
      intro a
      match a with
      | ⟨0, _⟩ => exact hi ⟨0, by decide⟩
      | ⟨1, _⟩ => exact hi ⟨1, by decide⟩
      | ⟨2, _⟩ => exact ⟨by show 256 * r.val ≤ (i 2).val; omega, by show (i 2).val < 256 * r.val + 256; omega⟩
  iexact H

/-- A load of the own slot of the second buffer before it is stored, -/
theorem wp_ldOwnU {off : Fin 3 → ℕ} {inb : ∀ a, off a + S1x128x2048.size a ≤ S4x128x2048.size a} {hl}
    {p : Prog (TpuEff nD τ sig (Elt F) Λ₀ .tc) α} (hoff : off = ![c.val, 0, 0]) :
    slotAny (F := F) 1 c c
      ⊢ iprop((slotAny (F := F) 1 c c -∗ WP c p Q)
        -∗ WP c (.op (.load uk4M (Rect.unit (s := S4x128x2048) off S1x128x2048.size inb) hl) (fun _ => p)) Q) := by
  subst hoff
  rw [slotAny_1]
  iintro ⟨%f, H⟩ Hk
  iapply (wp_ld uk4M c (S := (rU c).set) (le_of_eq (setOn_whole _ _)) rfl) $$ H
  iintro H
  iapply Hk
  iexists f
  iexact H

/-- and its store. -/
theorem wp_stOwnU {off : Fin 3 → ℕ} {inb : ∀ a, off a + S1x128x2048.size a ≤ S4x128x2048.size a}
    {w : (Rect.unit (s := S4x128x2048) off S1x128x2048.size inb).shape.Idx → Elt F .bf16} {hx hm}
    {k : PUnit → Prog (TpuEff nD τ sig (Elt F) Λ₀ .tc) α} (hoff : off = ![c.val, 0, 0])
    (hw : (k0_pay8 (k0_pay7 (rd (I.wk c) (Rect.unit (s := S128x2048) ![0, 0] S128x2048.size inb_S128x2048_S128x2048_0_0))) : S1x128x2048.Idx → Elt F .bf16) = w) :
    slotAny (F := F) 1 c c
      ⊢ iprop((slotPay I 1 c c fullShare -∗ WP c (k ⟨⟩) Q)
        -∗ WP c (.op (.store uk4M (Rect.unit (s := S4x128x2048) off S1x128x2048.size inb) w Finset.univ hx hm) k) Q) := by
  subst hoff
  subst hw
  rw [slotAny_1, slotPay_1]
  iintro ⟨%f, H⟩ Hk
  iapply (wp_st uk4M c (S := (rU c).set) (g := ukAll I) (le_of_eq (setOn_access _ _)) (fun i hi => ?_)) $$ H
  · rw [← Rect.map_emb_univ] at hi
    obtain ⟨j, -, rfl⟩ := Finset.mem_map.1 hi
    refine (wr_in (b := cc0_scratch1) _ _ _ j).trans ?_
    unfold ukAll
    have h0 : (j 0).val < 1 := (j 0).isLt
    have e0 : ((Rect.unit (s := S4x128x2048) ![c.val, 0, 0] S1x128x2048.size inb).emb j 0 : Fin 4) = c := Fin.ext (by
      show c.val + 1 * (j 0).val = c.val; omega)
    have ej : j = ix3 0 ((Rect.unit (s := S4x128x2048) ![c.val, 0, 0] S1x128x2048.size inb).emb j 1) ((Rect.unit (s := S4x128x2048) ![c.val, 0, 0] S1x128x2048.size inb).emb j 2) := by
      funext a
      match a with
      | ⟨0, _⟩ => exact Fin.ext (by show (j 0).val = 0; omega)
      | ⟨1, _⟩ => exact Fin.ext (by show (j 1).val = 0 + 1 * (j 1).val; omega)
      | ⟨2, _⟩ => exact Fin.ext (by show (j 2).val = 0 + 1 * (j 2).val; omega)
    rw [e0]
    exact congrArg _ ej
  iintro H
  iapply Hk
  iexact H

/-- A load of the own slot of the third buffer before it is stored, -/
theorem wp_ldOwnW {off : Fin 3 → ℕ} {inb : ∀ a, off a + S1x128x2048.size a ≤ S4x128x2048.size a} {hl}
    {p : Prog (TpuEff nD τ sig (Elt F) Λ₀ .tc) α} (hoff : off = ![c.val, 0, 0]) :
    slotAny (F := F) 2 c c
      ⊢ iprop((slotAny (F := F) 2 c c -∗ WP c p Q)
        -∗ WP c (.op (.load uv4M (Rect.unit (s := S4x128x2048) off S1x128x2048.size inb) hl) (fun _ => p)) Q) := by
  subst hoff
  rw [slotAny_2]
  iintro ⟨%f, H⟩ Hk
  iapply (wp_ld uv4M c (S := (rU c).set) (le_of_eq (setOn_whole _ _)) rfl) $$ H
  iintro H
  iapply Hk
  iexists f
  iexact H

/-- and its store. -/
theorem wp_stOwnW {off : Fin 3 → ℕ} {inb : ∀ a, off a + S1x128x2048.size a ≤ S4x128x2048.size a}
    {w : (Rect.unit (s := S4x128x2048) off S1x128x2048.size inb).shape.Idx → Elt F .bf16} {hx hm}
    {k : PUnit → Prog (TpuEff nD τ sig (Elt F) Λ₀ .tc) α} (hoff : off = ![c.val, 0, 0])
    (hw : (k0_pay9 (rd (I.wv c) (Rect.unit (s := S128x2048) ![0, 0] S128x2048.size inb_S128x2048_S128x2048_0_0)) : S1x128x2048.Idx → Elt F .bf16) = w) :
    slotAny (F := F) 2 c c
      ⊢ iprop((slotPay I 2 c c fullShare -∗ WP c (k ⟨⟩) Q)
        -∗ WP c (.op (.store uv4M (Rect.unit (s := S4x128x2048) off S1x128x2048.size inb) w Finset.univ hx hm) k) Q) := by
  subst hoff
  subst hw
  rw [slotAny_2, slotPay_2]
  iintro ⟨%f, H⟩ Hk
  iapply (wp_st uv4M c (S := (rU c).set) (g := uvAll I) (le_of_eq (setOn_access _ _)) (fun i hi => ?_)) $$ H
  · rw [← Rect.map_emb_univ] at hi
    obtain ⟨j, -, rfl⟩ := Finset.mem_map.1 hi
    refine (wr_in (b := cc0_scratch2) _ _ _ j).trans ?_
    unfold uvAll
    have h0 : (j 0).val < 1 := (j 0).isLt
    have e0 : ((Rect.unit (s := S4x128x2048) ![c.val, 0, 0] S1x128x2048.size inb).emb j 0 : Fin 4) = c := Fin.ext (by
      show c.val + 1 * (j 0).val = c.val; omega)
    have ej : j = ix3 0 ((Rect.unit (s := S4x128x2048) ![c.val, 0, 0] S1x128x2048.size inb).emb j 1) ((Rect.unit (s := S4x128x2048) ![c.val, 0, 0] S1x128x2048.size inb).emb j 2) := by
      funext a
      match a with
      | ⟨0, _⟩ => exact Fin.ext (by show (j 0).val = 0; omega)
      | ⟨1, _⟩ => exact Fin.ext (by show (j 1).val = 0 + 1 * (j 1).val; omega)
      | ⟨2, _⟩ => exact Fin.ext (by show (j 2).val = 0 + 1 * (j 2).val; omega)
    rw [e0]
    exact congrArg _ ej
  iintro H
  iapply Hk
  iexact H

end Slots

end Cert.KernelIdeal.Fused

end
-- ==== Proof.Comm.lean ====
/-
The rules of the fused kernel's signals, remote copies and local copies, the ring's cells' records at hand.
-/
module

public import proofs.«01_k».proof.Proof.Rules

@[expose] public section

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Inp F)

/-! ## The cells by number, and the records of all of them -/

theorem csem_lt (i : Fin 19) : 10 + i.val < sig.nDmaSem := by revert i; decide
/-- The nineteen cells of a device: its barrier's, nine departures', nine arrivals'. -/
def csem (i : Fin 19) : SemLoc sig := if i.val = 0 then .reg barS else .dma ⟨10 + i.val, csem_lt i⟩
abbrev kcell (p : Dev nD × Fin 19) : GSem nD τ sig := ((p.1 : Thread nD τ), csem p.2)

def sI (t h : Fin 3) : Fin 19 := ⟨1 + 3 * t.val + h.val, by omega⟩
def rI (t h : Fin 3) : Fin 19 := ⟨10 + 3 * t.val + h.val, by omega⟩
theorem csem_s (t h : Fin 3) : csem (sI t h) = .dma (sS t h) := by revert t h; decide
theorem csem_r (t h : Fin 3) : csem (rI t h) = .dma (rS t h) := by revert t h; decide
theorem csem_b : csem 0 = .reg barS := rfl

variable (K : Dev nD × Fin 19 → ℕ)

/-- Every cell's invariant, that every barrier cell's round 0 has begun, and the levels. -/
def recs : sProp 𝕄 :=
  iprop((bigSep Finset.univ fun p : Dev nD × Fin 19 => (cellInv ER (Rd I) (K p) (kcell p) : sProp 𝕄))
    ∗ (bigSep Finset.univ fun c : Dev nD => (reached ER (barCell c) 0 : sProp 𝕄)) ∗ levAts L lv)

instance recs_persistent : BI.Persistent (recs I K) := by unfold recs; infer_instance

theorem inv_at (p : Dev nD × Fin 19) :
    (bigSep Finset.univ fun p : Dev nD × Fin 19 => (cellInv ER (Rd I) (K p) (kcell p) : sProp 𝕄)) ⊢ cellInv ER (Rd I) (K p) (kcell p) :=
  bigSep_elim (Finset.mem_univ p)

theorem recs_inv (p : Dev nD × Fin 19) : recs I K ⊢ cellInv ER (Rd I) (K p) (kcell p) := by
  unfold recs
  iintro ⟨H, -, -⟩
  iapply (inv_at I K p) $$ H
theorem recs_lev : recs I K ⊢ levAts L lv := by
  unfold recs
  iintro ⟨-, -, H⟩
  iexact H

section
variable (c : Dev nD) (t h : Fin 3)
theorem inv_bar : recs I K ⊢ cellInv ER (Rd I) (K (c, 0)) (barCell c) := recs_inv I K (c, 0)
theorem inv_s : recs I K ⊢ cellInv ER (Rd I) (K (c, sI t h)) (sCell c t h) := by
  have := recs_inv I K (c, sI t h); unfold kcell at this; rw [csem_s] at this; exact this
theorem inv_r : recs I K ⊢ cellInv ER (Rd I) (K (c, rI t h)) (rCell c t h) := by
  have := recs_inv I K (c, rI t h); unfold kcell at this; rw [csem_r] at this; exact this
theorem reached_bar : recs I K ⊢ reached ER (barCell c) 0 := by
  unfold recs
  iintro ⟨-, H, -⟩
  iapply (show (bigSep Finset.univ fun c : Dev nD => (reached ER (barCell c) 0 : sProp 𝕄)) ⊢ reached ER (barCell c) 0 from
    bigSep_elim (Finset.mem_univ c)) $$ H
end

/-! ## The barrier -/

section Bar
variable {α : Type} {Q : α → sProp (MT nD τ sig Unit (Elt F) ℕ UU ℕ)} (c : Dev nD)

/-- The signal to the left neighbour, handing it the slots it will write. -/
theorem wp_sigL {n : Dev nD} {m : ℕ} {p : Prog (TpuEff nD τ sig (Elt F) Λ₀ .tc) α} (hn : n = prv c) (hm : m = 1) :
    iprop(recs I K ∗ dutyTok ER (barCell (prv c)) 0 true ∗ (slotsAny (F := F) c (sub (prv c) 0) ∗ slotsAny (F := F) c (sub (prv c) 1) ∗ slotsAny (F := F) c (sub (prv c) 2))
        ∗ ow c (O₀ c))
      ⊢ iprop((ow c (O₁ c) -∗ WP c p Q) -∗ WP c (.op (.semSignal (Dev.tc n : Thread nD τ) barS m) (fun _ => p)) Q) := by
  subst hn hm
  unfold ow O₀
  iintro ⟨#HR, Ht, Hs, ⟨%W, HO⟩⟩ Hk
  iapply (Rounds.wp_signal 𝒱₀ ER (Rd I) (c : Thread nD τ) none (dst := (prv c : Thread nD τ)) (κ := K (prv c, 0))
      (d := true) (by rw [duties_bar]; exact Finset.mem_univ _) (amount_bar I (prv c) true) () (O₁ c) rfl) $$ [HO Ht Hs]
  · isplitr; · iapply (inv_bar I K (prv c)) $$ HR
    isplitl [HO]; · iexact HO
    isplitl [Ht]; · iexact Ht
    isplitl [Hs]
    · rw [payload_bar_true]; unfold barPay; rw [nxt_prv]; iexact Hs
    · iapply (reached_bar I K (prv c)) $$ HR
  iintro HO
  iapply Hk
  iexists W
  iexact HO

/-- The signal to the right neighbour. -/
theorem wp_sigR {n : Dev nD} {m : ℕ} {p : Prog (TpuEff nD τ sig (Elt F) Λ₀ .tc) α} (hn : n = nxt c) (hm : m = 1) :
    iprop(recs I K ∗ dutyTok ER (barCell (nxt c)) 0 false ∗ ow c (O₁ c))
      ⊢ iprop((ow c (OR c 9) -∗ WP c p Q) -∗ WP c (.op (.semSignal (Dev.tc n : Thread nD τ) barS m) (fun _ => p)) Q) := by
  subst hn hm
  unfold ow O₁
  iintro ⟨#HR, Ht, ⟨%W, HO⟩⟩ Hk
  iapply (Rounds.wp_signal 𝒱₀ ER (Rd I) (c : Thread nD τ) none (dst := (nxt c : Thread nD τ)) (κ := K (nxt c, 0))
      (d := false) (by rw [duties_bar]; exact Finset.mem_univ _) (amount_bar I (nxt c) false) () (OR c 9) rfl) $$ [HO Ht]
  · isplitr; · iapply (inv_bar I K (nxt c)) $$ HR
    isplitl [HO]; · iexact HO
    isplitl [Ht]; · iexact Ht
    isplitr
    · rw [payload_bar_false]; iempintro
    · iapply (reached_bar I K (nxt c)) $$ HR
  iintro HO
  iapply Hk
  iexists W
  iexact HO

/-- The wait for both neighbours, after which the right neighbour's slots are at hand. -/
theorem wp_waitBar {m : ℕ} {p : Prog (TpuEff nD τ sig (Elt F) Λ₀ .tc) α} (hm : m = 2) :
    iprop(recs I K ∗ cred (tallyAt (barCell c) () 2) ∗ atPos ER (barCell c) 0 ∅ 0 ∗ ow c (OR c 9))
      ⊢ iprop((iprop(barPay (F := F) c ∗ semVal (barCell c) 0 ∗ ow c (OR c 9)) -∗ WP c p Q)
        -∗ WP c (.op (.semWait barS m) (fun _ => p)) Q) := by
  subst hm
  unfold ow
  iintro ⟨#HR, Hc, Ha, ⟨%W, HO⟩⟩ Hk
  iapply (Rounds.wp_wait_rest_token 𝒱₀ ER (Rd I) (c : Thread nD τ) none (κ := K (c, 0))
      (wpE_semWait_eq 𝒱₀ (c : Thread nD τ) none Set.univ) (Set.mem_univ _) () (O := OR c 9) (W := W) (R := 0) (m := 0) (T := ∅)
      (by rw [expect_bar])) $$ [Hc HO Ha]
  · isplitr; · iapply (inv_bar I K c) $$ HR
    isplitl [Hc]; · iexact Hc
    isplitl [HO]; · iexact HO
    isplitr
    · ihave #HL := (recs_lev I K) $$ HR
      iapply (mayWait_OR c _ 9 1 (lv_bar c) (by decide)) $$ HL
    iexact Ha
  iintro ⟨HO, Ha, -, Hp⟩
  ihave Hp := (Entails.of_eq (rest_bar I c)) $$ Hp
  icases Hp with ⟨-, Hp⟩
  imod (Rounds.cell_close ER (Rd I) (Set.mem_univ (K (c, 0))) (fun h => h) (R := 0 + 1) (duties_later I (barCell c))) $$ [Ha] with Hz
  · isplitr; · iapply (inv_bar I K c) $$ HR
    iexact Ha
  iapply Hk
  isplitl [Hp]; · iexact Hp
  isplitl [Hz]; · iexact Hz
  iexists _
  iexact HO

end Bar

/-! ## The remote copies -/

/-- What device `c` holds for its copy of buffer `t` on hop `h` before it issues it, -/
def sTok (c : Dev nD) (t h : Fin 3) : sProp 𝕄 :=
  iprop(dutyTok ER (sCell c t h) 0 false ∗ dutyTok ER (rCell (nxt c) t h) 0 false ∗ atPos ER (sCell c t h) 0 ∅ 0
    ∗ reached ER (sCell c t h) 0)
/-- while it is under way, -/
def sFly (c : Dev nD) (t h : Fin 3) : sProp 𝕄 :=
  iprop(cred (tallyAt (sCell c t h) () (Nt t)) ∗ atPos ER (sCell c t h) 0 ∅ 0)
/-- and for the copy it is to receive. -/
def rTok (c : Dev nD) (t h : Fin 3) : sProp 𝕄 :=
  iprop(cred (tallyAt (rCell c t h) () (Nt t)) ∗ atPos ER (rCell c t h) 0 ∅ 0)

theorem slot_share (t : Fin 3) (c s : Dev nD) :
    slotPay I t c s fullShare ⊣⊢ iprop(slotPay I t c s fullShare.left ∗ slotPay I t c s fullShare.right) := by
  match t with
  | 0 => exact pointsTo_share (PosShare.mem_left_op_right fullShare)
  | 1 => exact pointsTo_share (PosShare.mem_left_op_right fullShare)
  | 2 => exact pointsTo_share (PosShare.mem_left_op_right fullShare)

section Remote
variable {α : Type} {Q : α → sProp (MT nD τ sig Unit (Elt F) ℕ UU ℕ)} (c : Dev nD)

/-- A view written with what it reads of other contents holds those contents. -/
theorem write_read_on {κ : Kind} {sp : Space} {s : Shape} {e : EltTy} (v : View sig κ sp s e) (f g : v.ty.Contents (Elt F)) (i : v.ty.Idx) (hi : i ∈ v.set) :
    v.write (Elt F) f (v.read (Elt F) g) Finset.univ i = g i := by
  rw [View.write_read_eq_piecewise]; exact Finset.piecewise_eq_of_mem _ _ _ hi

theorem set_mC (s : Dev nD) (inb) : (mC ![s.val, 0, 0] inb).view.set = (rC s).set := by
  show (((View.whole cc0_scratch0).slice _).reshape _ _).set = _
  rw [View.set_reshape, View.set_slice_whole]

/-- The copy of buffer `0` on hop `h`. -/
theorem wp_sendC (h : Fin 3) (a : ℕ) (ha : h.val = a) (j : ℕ) (hj : j < 9) (hjt : tJ j = 0) (hjh : hJ j = h) {n : Dev nD} (hn : n = nxt c) {s1 s2 : DmaSem sig}
    (h1 : s1 = sS 0 h) (h2 : s2 = rS 0 h) {off inb} (hoff : off = ![(sub c a).val, 0, 0]) {hsc hsrc hdst hsem}
    {p : Prog (TpuEff nD τ sig (Elt F) Λ₀ .tc) α} :
    iprop(recs I K ∗ sTok c 0 h ∗ slotIn (F := F) 0 (nxt c) (sub c a) ∗ slotPay I 0 c (sub c a) fullShare ∗ ow c (OR c (9 - j)))
      ⊢ iprop((iprop(sFly (F := F) c 0 h ∗ slotPay I 0 c (sub c a) fullShare.left ∗ ow c (OR c (8 - j))) -∗ WP c p Q)
        -∗ WP c (.op (TpuEff.enqueueDma (p := .tc) (mC off inb) (.remote (Dev.tc n : Thread nD τ) (mC off inb) (.dma s1) hsc) (.dma s2) hsrc hdst hsem) (fun _ => p)) Q) := by
  subst ha hoff hn h1 h2
  unfold slotIn
  rw [slotAny_0]
  unfold sTok sFly ow
  iintro ⟨#HR, ⟨Ht1, Ht2, Ha, #Hrs⟩, ⟨Hd, #Hop⟩, Hs, ⟨%W, HO⟩⟩ Hk
  ihave Hs := (slot_share I 0 c (sub c h.val)).1 $$ Hs
  icases Hs with ⟨Hl, Hr⟩
  icases Hd with ⟨%fd, Hd⟩
  iapply (Rounds.wp_send_pointsTo 𝒱₀ ER (Rd I) (c : Thread nD τ) none (c' := (nxt c : Thread nD τ))
      (src := mC ![(sub c h.val).val, 0, 0] inb) (dst := mC ![(sub c h.val).val, 0, 0] inb)
      (κ₁ := K (c, sI 0 h)) (κ₂ := K (nxt c, rI 0 h))
      (r₁ := 0) (r₂ := 0) (d₁ := false) (d₂ := false) (q := fullShare.right) (fs := c4All I) (fd := fd) (O₀ := OR c (9 - j))
      (by rw [duties_s]; exact Finset.mem_singleton_self _) (by rw [duties_r]; exact Finset.mem_singleton_self _)
      () () (Nt 0) rfl (amount_s I c 0 h false) (amount_r I (nxt c) 0 h false) (OR c (8 - j))
      (by
        have e : 9 - j = (8 - j) + 1 := by omega
        rw [e]
        show OR c (8 - j) + tallyAt (rCell (nxt c) (tJ (8 - (8 - j))) (hJ (8 - (8 - j)))) () (Nt (tJ (8 - (8 - j)))) = _
        rw [show 8 - (8 - j) = j by omega, hjt, hjh]) (W := W)
      (by rw [payload_s, set_mC]; exact BI.Entails.refl _)
      (by
        rw [payload_r, sub_nxt, slotPay_0]
        rw [pointsTo_congr (g := c4All I) (fun i hi => write_read_on (mC ![(sub c h.val).val, 0, 0] inb).view _ _ i hi), set_mC]))
    $$ [Hr Hd HO Ht1 Ht2]
  · isplitr; · iapply (inv_s I K c 0 h) $$ HR
    isplitr; · iapply (inv_r I K (nxt c) 0 h) $$ HR
    isplitl [Hr]; · rw [set_mC, ← slotPay_0]; iexact Hr
    isplitl [Hd]; · rw [set_mC]; iexact Hd
    isplitl [HO]; · iexact HO
    isplitl [Ht1]; · iexact Ht1
    isplitr; · iexact Hrs
    isplitl [Ht2]; · iexact Ht2
    iapply (opened_at 0 h (nxt c)) $$ Hop
  iintro ⟨Hc, HO⟩
  iapply Hk
  isplitl [Hc Ha]
  · isplitl [Hc]; · iexact Hc
    iexact Ha
  isplitl [Hl]; · iexact Hl
  iexists W
  iexact HO

theorem set_mK (s : Dev nD) (inb) : (mK ![s.val, 0, 0] inb).view.set = (rU s).set := by
  show (((View.whole cc0_scratch1).slice _).reshape _ _).set = _
  rw [View.set_reshape, View.set_slice_whole]

/-- The copy of buffer `1` on hop `h`. -/
theorem wp_sendK (h : Fin 3) (a : ℕ) (ha : h.val = a) (j : ℕ) (hj : j < 9) (hjt : tJ j = 1) (hjh : hJ j = h) {n : Dev nD} (hn : n = nxt c) {s1 s2 : DmaSem sig}
    (h1 : s1 = sS 1 h) (h2 : s2 = rS 1 h) {off inb} (hoff : off = ![(sub c a).val, 0, 0]) {hsc hsrc hdst hsem}
    {p : Prog (TpuEff nD τ sig (Elt F) Λ₀ .tc) α} :
    iprop(recs I K ∗ sTok c 1 h ∗ slotIn (F := F) 1 (nxt c) (sub c a) ∗ slotPay I 1 c (sub c a) fullShare ∗ ow c (OR c (9 - j)))
      ⊢ iprop((iprop(sFly (F := F) c 1 h ∗ slotPay I 1 c (sub c a) fullShare.left ∗ ow c (OR c (8 - j))) -∗ WP c p Q)
        -∗ WP c (.op (TpuEff.enqueueDma (p := .tc) (mK off inb) (.remote (Dev.tc n : Thread nD τ) (mK off inb) (.dma s1) hsc) (.dma s2) hsrc hdst hsem) (fun _ => p)) Q) := by
  subst ha hoff hn h1 h2
  unfold slotIn
  rw [slotAny_1]
  unfold sTok sFly ow
  iintro ⟨#HR, ⟨Ht1, Ht2, Ha, #Hrs⟩, ⟨Hd, #Hop⟩, Hs, ⟨%W, HO⟩⟩ Hk
  ihave Hs := (slot_share I 1 c (sub c h.val)).1 $$ Hs
  icases Hs with ⟨Hl, Hr⟩
  icases Hd with ⟨%fd, Hd⟩
  iapply (Rounds.wp_send_pointsTo 𝒱₀ ER (Rd I) (c : Thread nD τ) none (c' := (nxt c : Thread nD τ))
      (src := mK ![(sub c h.val).val, 0, 0] inb) (dst := mK ![(sub c h.val).val, 0, 0] inb)
      (κ₁ := K (c, sI 1 h)) (κ₂ := K (nxt c, rI 1 h))
      (r₁ := 0) (r₂ := 0) (d₁ := false) (d₂ := false) (q := fullShare.right) (fs := ukAll I) (fd := fd) (O₀ := OR c (9 - j))
      (by rw [duties_s]; exact Finset.mem_singleton_self _) (by rw [duties_r]; exact Finset.mem_singleton_self _)
      () () (Nt 1) rfl (amount_s I c 1 h false) (amount_r I (nxt c) 1 h false) (OR c (8 - j))
      (by
        have e : 9 - j = (8 - j) + 1 := by omega
        rw [e]
        show OR c (8 - j) + tallyAt (rCell (nxt c) (tJ (8 - (8 - j))) (hJ (8 - (8 - j)))) () (Nt (tJ (8 - (8 - j)))) = _
        rw [show 8 - (8 - j) = j by omega, hjt, hjh]) (W := W)
      (by rw [payload_s, set_mK]; exact BI.Entails.refl _)
      (by
        rw [payload_r, sub_nxt, slotPay_1]
        rw [pointsTo_congr (g := ukAll I) (fun i hi => write_read_on (mK ![(sub c h.val).val, 0, 0] inb).view _ _ i hi), set_mK]))
    $$ [Hr Hd HO Ht1 Ht2]
  · isplitr; · iapply (inv_s I K c 1 h) $$ HR
    isplitr; · iapply (inv_r I K (nxt c) 1 h) $$ HR
    isplitl [Hr]; · rw [set_mK, ← slotPay_1]; iexact Hr
    isplitl [Hd]; · rw [set_mK]; iexact Hd
    isplitl [HO]; · iexact HO
    isplitl [Ht1]; · iexact Ht1
    isplitr; · iexact Hrs
    isplitl [Ht2]; · iexact Ht2
    iapply (opened_at 1 h (nxt c)) $$ Hop
  iintro ⟨Hc, HO⟩
  iapply Hk
  isplitl [Hc Ha]
  · isplitl [Hc]; · iexact Hc
    iexact Ha
  isplitl [Hl]; · iexact Hl
  iexists W
  iexact HO

theorem set_mV (s : Dev nD) (inb) : (mV ![s.val, 0, 0] inb).view.set = (rU s).set := by
  show (((View.whole cc0_scratch2).slice _).reshape _ _).set = _
  rw [View.set_reshape, View.set_slice_whole]

/-- The copy of buffer `2` on hop `h`. -/
theorem wp_sendV (h : Fin 3) (a : ℕ) (ha : h.val = a) (j : ℕ) (hj : j < 9) (hjt : tJ j = 2) (hjh : hJ j = h) {n : Dev nD} (hn : n = nxt c) {s1 s2 : DmaSem sig}
    (h1 : s1 = sS 2 h) (h2 : s2 = rS 2 h) {off inb} (hoff : off = ![(sub c a).val, 0, 0]) {hsc hsrc hdst hsem}
    {p : Prog (TpuEff nD τ sig (Elt F) Λ₀ .tc) α} :
    iprop(recs I K ∗ sTok c 2 h ∗ slotIn (F := F) 2 (nxt c) (sub c a) ∗ slotPay I 2 c (sub c a) fullShare ∗ ow c (OR c (9 - j)))
      ⊢ iprop((iprop(sFly (F := F) c 2 h ∗ slotPay I 2 c (sub c a) fullShare.left ∗ ow c (OR c (8 - j))) -∗ WP c p Q)
        -∗ WP c (.op (TpuEff.enqueueDma (p := .tc) (mV off inb) (.remote (Dev.tc n : Thread nD τ) (mV off inb) (.dma s1) hsc) (.dma s2) hsrc hdst hsem) (fun _ => p)) Q) := by
  subst ha hoff hn h1 h2
  unfold slotIn
  rw [slotAny_2]
  unfold sTok sFly ow
  iintro ⟨#HR, ⟨Ht1, Ht2, Ha, #Hrs⟩, ⟨Hd, #Hop⟩, Hs, ⟨%W, HO⟩⟩ Hk
  ihave Hs := (slot_share I 2 c (sub c h.val)).1 $$ Hs
  icases Hs with ⟨Hl, Hr⟩
  icases Hd with ⟨%fd, Hd⟩
  iapply (Rounds.wp_send_pointsTo 𝒱₀ ER (Rd I) (c : Thread nD τ) none (c' := (nxt c : Thread nD τ))
      (src := mV ![(sub c h.val).val, 0, 0] inb) (dst := mV ![(sub c h.val).val, 0, 0] inb)
      (κ₁ := K (c, sI 2 h)) (κ₂ := K (nxt c, rI 2 h))
      (r₁ := 0) (r₂ := 0) (d₁ := false) (d₂ := false) (q := fullShare.right) (fs := uvAll I) (fd := fd) (O₀ := OR c (9 - j))
      (by rw [duties_s]; exact Finset.mem_singleton_self _) (by rw [duties_r]; exact Finset.mem_singleton_self _)
      () () (Nt 2) rfl (amount_s I c 2 h false) (amount_r I (nxt c) 2 h false) (OR c (8 - j))
      (by
        have e : 9 - j = (8 - j) + 1 := by omega
        rw [e]
        show OR c (8 - j) + tallyAt (rCell (nxt c) (tJ (8 - (8 - j))) (hJ (8 - (8 - j)))) () (Nt (tJ (8 - (8 - j)))) = _
        rw [show 8 - (8 - j) = j by omega, hjt, hjh]) (W := W)
      (by rw [payload_s, set_mV]; exact BI.Entails.refl _)
      (by
        rw [payload_r, sub_nxt, slotPay_2]
        rw [pointsTo_congr (g := uvAll I) (fun i hi => write_read_on (mV ![(sub c h.val).val, 0, 0] inb).view _ _ i hi), set_mV]))
    $$ [Hr Hd HO Ht1 Ht2]
  · isplitr; · iapply (inv_s I K c 2 h) $$ HR
    isplitr; · iapply (inv_r I K (nxt c) 2 h) $$ HR
    isplitl [Hr]; · rw [set_mV, ← slotPay_2]; iexact Hr
    isplitl [Hd]; · rw [set_mV]; iexact Hd
    isplitl [HO]; · iexact HO
    isplitl [Ht1]; · iexact Ht1
    isplitr; · iexact Hrs
    isplitl [Ht2]; · iexact Ht2
    iapply (opened_at 2 h (nxt c)) $$ Hop
  iintro ⟨Hc, HO⟩
  iapply Hk
  isplitl [Hc Ha]
  · isplitl [Hc]; · iexact Hc
    iexact Ha
  isplitl [Hl]; · iexact Hl
  iexists W
  iexact HO

/-- The wait for a departure. -/
theorem wp_waitS (t h : Fin 3) (a : ℕ) (ha : h.val = a) (k : ℕ) {s1 : DmaSem sig} (h1 : s1 = sS t h) {sp sp' : Space} {s s' : Shape} {e e' : EltTy}
    {srcw : Memref sig .tc sp' s' e'} {dstw : Memref sig .tc sp s e} {hsrc hdst} (hN : dstw.view.dmaCredit = Nt t)
    {p : Prog (TpuEff nD τ sig (Elt F) Λ₀ .tc) α} :
    iprop(recs I K ∗ sFly (F := F) c t h ∗ slotPay I t c (sub c a) fullShare.left ∗ ow c (OR c k))
      ⊢ iprop((iprop(slotPay I t c (sub c a) fullShare ∗ semVal (sCell c t h) 0 ∗ ow c (OR c k)) -∗ WP c p Q)
        -∗ WP c (.op (TpuEff.waitDma2 (p := .tc) s1 srcw dstw hsrc hdst) (fun _ => p)) Q) := by
  subst ha h1
  unfold sFly ow
  iintro ⟨#HR, ⟨Hc, Ha⟩, Hl, ⟨%W, HO⟩⟩ Hk
  iapply (Rounds.wp_wait_rest_token 𝒱₀ ER (Rd I) (c : Thread nD τ) none (κ := K (c, sI t h))
      (wpE_waitDma2_eq 𝒱₀ (c : Thread nD τ) none Set.univ) (Set.mem_univ _) () (O := OR c k) (W := W) (R := 0) (m := 0) (T := ∅)
      (by rw [expect_s, Nat.zero_add, hN])) $$ [Hc HO Ha]
  · isplitr; · iapply (inv_s I K c t h) $$ HR
    isplitl [Hc]; · rw [hN]; iexact Hc
    isplitl [HO]; · iexact HO
    isplitr
    · ihave #HL := (recs_lev I K) $$ HR
      iapply (mayWait_OR c _ k 0 (lv_s c t h) (fun _ => by omega)) $$ HL
    iexact Ha
  iintro ⟨HO, Ha, -, Hp⟩
  ihave Hp := (Entails.of_eq (rest_s I c t h)) $$ Hp
  imod (Rounds.cell_close ER (Rd I) (Set.mem_univ (K (c, sI t h))) (fun h => h) (R := 0 + 1) (duties_later I (sCell c t h))) $$ [Ha] with Hz
  · isplitr; · iapply (inv_s I K c t h) $$ HR
    iexact Ha
  iapply Hk
  isplitl [Hp Hl]
  · iapply (slot_share I t c (sub c h.val)).2
    isplitl [Hl]; · iexact Hl
    iexact Hp
  isplitl [Hz]; · iexact Hz
  iexists _
  iexact HO

/-- The wait for an arrival. -/
theorem wp_waitR (t h : Fin 3) (a : ℕ) (ha : h.val + 1 = a) (k : ℕ) (hk : ∀ k' : Fin k, h.val + 2 < (hJ (8 - k'.val)).val + 2) {s1 : DmaSem sig} (h1 : s1 = rS t h) {sp sp' : Space} {s s' : Shape} {e e' : EltTy}
    {srcw : Memref sig .tc sp' s' e'} {dstw : Memref sig .tc sp s e} {hsrc hdst} (hN : dstw.view.dmaCredit = Nt t)
    {p : Prog (TpuEff nD τ sig (Elt F) Λ₀ .tc) α} :
    iprop(recs I K ∗ rTok (F := F) c t h ∗ ow c (OR c k))
      ⊢ iprop((iprop(slotPay I t c (sub c a) fullShare ∗ semVal (rCell c t h) 0 ∗ ow c (OR c k)) -∗ WP c p Q)
        -∗ WP c (.op (TpuEff.waitDma2 (p := .tc) s1 srcw dstw hsrc hdst) (fun _ => p)) Q) := by
  subst ha h1
  unfold rTok ow
  iintro ⟨#HR, ⟨Hc, Ha⟩, ⟨%W, HO⟩⟩ Hk
  iapply (Rounds.wp_wait_rest_token 𝒱₀ ER (Rd I) (c : Thread nD τ) none (κ := K (c, rI t h))
      (wpE_waitDma2_eq 𝒱₀ (c : Thread nD τ) none Set.univ) (Set.mem_univ _) () (O := OR c k) (W := W) (R := 0) (m := 0) (T := ∅)
      (by rw [expect_r, Nat.zero_add, hN])) $$ [Hc HO Ha]
  · isplitr; · iapply (inv_r I K c t h) $$ HR
    isplitl [Hc]; · rw [hN]; iexact Hc
    isplitl [HO]; · iexact HO
    isplitr
    · ihave #HL := (recs_lev I K) $$ HR
      iapply (mayWait_OR c _ k (h.val + 2) (lv_r c t h) hk) $$ HL
    iexact Ha
  iintro ⟨HO, Ha, -, Hp⟩
  ihave Hp := (Entails.of_eq (rest_r I c t h)) $$ Hp
  imod (Rounds.cell_close ER (Rd I) (Set.mem_univ (K (c, rI t h))) (fun h => h) (R := 0 + 1) (duties_later I (rCell c t h))) $$ [Ha] with Hz
  · isplitr; · iapply (inv_r I K c t h) $$ HR
    iexact Ha
  iapply Hk
  isplitl [Hp]; · iexact Hp
  isplitl [Hz]; · iexact Hz
  iexists _
  iexact HO

end Remote

/-! ## The local copies of the query projection -/

section Local
variable {α : Type} {Q : α → sProp (MT nD τ sig Unit (Elt F) ℕ UU ℕ)} (c : Dev nD)

/-- A column block of the query projection in its buffer, -/
abbrev mWq (off : Fin 2 → ℕ) (inb : ∀ a, off a + S2048x128.size a ≤ S2048x2048.size a) : Memref sig .tc .hbm S2048x128 .f32 :=
  wqM.slice (Rect.unit (s := S2048x2048) off S2048x128.size inb) (fun _ => rfl)
/-- and one half of the buffer it is copied to. -/
abbrev mWb (off : Fin 3 → ℕ) (inb : ∀ a, off a + S1x2048x128.size a ≤ S2x2048x128.size a) : Memref sig .tc .vmem S2048x128 .f32 :=
  (wbM.slice (Rect.unit (s := S2x2048x128) off S1x2048x128.size inb) (fun _ => rfl)).squeeze S2048x128 squeezes_S1x2048x128_S2048x128

theorem inb_wb (i : Fin 2) : ∀ a, (![i.val, 0, 0] : Fin 3 → ℕ) a + S1x2048x128.size a ≤ S2x2048x128.size a := by revert i; decide
abbrev wb (i : Fin 2) : Memref sig .tc .vmem S2048x128 .f32 := mWb ![i.val, 0, 0] (inb_wb i)
/-- The two halves' semaphores. -/
def wS (i : Fin 2) : DmaSem sig := ⟨29 + i.val, by revert i; decide⟩

theorem lv_w (i : Fin 2) : lv ((c : Thread nD τ), .dma (wS i)) () = 0 := by
  dsimp only [lv]; revert i; decide

/-- Half `i` of the buffer, whatever it holds, -/
def wbAny (i : Fin 2) : sProp 𝕄 :=
  iprop(∃ f : Buf (Elt F) ((wb i).view.loc (c : Thread nD τ)), (wb i).view.loc (c : Thread nD τ) ↦[(wb i).view.set]{fullShare} f)
/-- holding column block `n`, -/
def wbHas (i : Fin 2) (n : Fin 16) : sProp 𝕄 :=
  iprop(∃ f : Buf (Elt F) ((wb i).view.loc (c : Thread nD τ)), ⌜(wb i).view.read (Elt F) f = wqC I c n⌝
    ∗ ((wb i).view.loc (c : Thread nD τ) ↦[(wb i).view.set]{fullShare} f))
/-- and while column block `n` is on its way to it, with the rest of the query projection. -/
def wbFly (i : Fin 2) (n : Fin 16) : sProp 𝕄 :=
  iprop((∃ fd : Buf (Elt F) ((wb i).view.loc (c : Thread nD τ)),
      Transfers.Flight EC (c : Thread nD τ) (.dma (wS i)) () (wb i).view.dmaCredit
        iprop(((wb i).view.loc (c : Thread nD τ) ↦[(wb i).view.set]{fullShare} ((wb i).view.write (Elt F) fd (wqC I c n) Finset.univ))
          ∗ ((mWq ![0, 128 * n.val] (inb_wq n)).view.loc (c : Thread nD τ) ↦[(mWq ![0, 128 * n.val] (inb_wq n)).view.set]{fullShare} (I.wq c))))
    ∗ (((c : Thread nD τ).loc main_arg4) ↦[Finset.univ \ (mWq ![0, 128 * n.val] (inb_wq n)).view.set]{fullShare} (I.wq c)))

theorem wb_has_any (i : Fin 2) (n : Fin 16) : wbHas I c i n ⊢ wbAny (F := F) c i := by
  unfold wbHas wbAny
  iintro ⟨%f, -, H⟩
  iexists f
  iexact H

/-- The start of the copy of column block `n` to half `i`. -/
theorem wp_wqStart (i : Fin 2) (n : Fin 16) {off inb off' inb'} (hoff : off = ![0, 128 * n.val]) (hoff' : off' = ![i.val, 0, 0])
    {s1 : DmaSem sig} (h1 : s1 = wS i) {hsrc hdst hsem} {p : Prog (TpuEff nD τ sig (Elt F) Λ₀ .tc) α} :
    iprop(pt c main_arg4 fullShare (I.wq c) ∗ wbAny (F := F) c i ∗ semVal ((c : Thread nD τ), .dma (wS i)) 0)
      ⊢ iprop((wbFly I c i n -∗ WP c p Q)
        -∗ WP c (.op (TpuEff.enqueueDma (p := .tc) (mWq off inb) (.here (mWb off' inb')) (.dma s1) hsrc hdst hsem) (fun _ => p)) Q) := by
  subst hoff hoff' h1
  unfold wbAny wbFly
  iintro ⟨Hw, ⟨%fd, Hd⟩, Hz⟩ Hk
  ihave Hw := (pointsTo_split_subset (Finset.subset_univ (mWq ![0, 128 * n.val] (inb_wq n)).view.set)).1 $$ Hw
  icases Hw with ⟨Hw, Hrest⟩
  iapply (Transfers.wp_dmaLocal EC 𝒱₀ (c : Thread nD τ) none (src := mWq ![0, 128 * n.val] inb) (dst := wb i) (via := .same) (q := fullShare) (fs := I.wq c) (fd := fd)
    () (wb i).view.dmaCredit rfl (View.dmaCredit_pos _ (by decide)) (Finset.Subset.refl _)) $$ [Hw Hd Hz]
  · isplitl [Hw]; · iexact Hw
    isplitl [Hd]; · iexact Hd
    iexact Hz
  iintro HF
  iapply Hk
  isplitl [HF]
  · iexists fd
    iexact HF
  iexact Hrest

/-- The wait for it. -/
theorem wp_wqWait (i : Fin 2) (n : Fin 16) (k : ℕ) {off' inb'} (hoff' : off' = ![i.val, 0, 0])
    {s1 : DmaSem sig} (h1 : s1 = wS i) {sp' : Space} {s' : Shape} {e' : EltTy} {srcw : Memref sig .tc sp' s' e'} {hsrc hdst}
    {p : Prog (TpuEff nD τ sig (Elt F) Λ₀ .tc) α} :
    iprop(recs I K ∗ wbFly I c i n ∗ ow c (OR c k))
      ⊢ iprop((iprop(pt c main_arg4 fullShare (I.wq c) ∗ wbHas I c i n ∗ semVal ((c : Thread nD τ), .dma (wS i)) 0 ∗ ow c (OR c k)) -∗ WP c p Q)
        -∗ WP c (.op (TpuEff.waitDma2 (p := .tc) s1 srcw (mWb off' inb') hsrc hdst) (fun _ => p)) Q) := by
  subst hoff' h1
  unfold wbHas wbFly ow
  iintro ⟨#HR, ⟨⟨%fd, HF⟩, Hrest⟩, ⟨%W, HO⟩⟩ Hk
  iapply (Transfers.wp_waitLocalO EC 𝒱₀ (c : Thread nD τ) none () rfl) $$ [HF HO]
  · isplitl [HF]; · iexact HF
    isplitl [HO]; · iexact HO
    ihave #HL := (recs_lev I K) $$ HR
    iapply (mayWait_OR c _ k 0 (lv_w c i) (fun _ => by omega)) $$ HL
  iintro ⟨⟨Hd, Hw⟩, Hz, HO⟩
  iapply Hk
  isplitl [Hw Hrest]
  · iapply (pointsTo_split_subset (Finset.subset_univ (mWq ![0, 128 * n.val] (inb_wq n)).view.set)).2
    isplitl [Hw]; · iexact Hw
    iexact Hrest
  isplitl [Hd]
  · iexists _
    isplitr
    · ipureintro
      exact View.read_write_univ fd (wqC I c n)
    iexact Hd
  isplitl [Hz]; · iexact Hz
  iexists _
  iexact HO

/-- A load of rows of the column block at hand. -/
theorem wp_ldWb (i : Fin 2) (n : Fin 16) (m : Fin 4) {off' inb'} (hoff' : off' = ![i.val, 0, 0]) {off : Fin 2 → ℕ} {inb : ∀ a, off a + S512x128.size a ≤ S2048x128.size a}
    (hoff : off = ![512 * m.val, 0]) {hl}
    {k : ((Rect.unit (s := S2048x128) off S512x128.size inb).shape.Idx → Elt F .f32) → Prog (TpuEff nD τ sig (Elt F) Λ₀ .tc) α} :
    wbHas I c i n
      ⊢ iprop((wbHas I c i n -∗ WP c (k (wqCR I c n m)) Q)
        -∗ WP c (.op (TpuEff.load (p := .tc) (mWb off' inb') (Rect.unit (s := S2048x128) off S512x128.size inb) hl) k) Q) := by
  subst hoff hoff'
  unfold wbHas
  iintro ⟨%f, %hf, H⟩ Hk
  iapply (wp_ld (wb i) c (S := (wb i).view.set) (v := wqCR I c n m) (View.setOn_subset_set _ _) (by
    unfold wqCR; rw [← hf]; rfl)) $$ H
  iintro H
  iapply Hk
  iexists f
  isplitr
  · ipureintro; exact hf
  iexact H

end Local

end Cert.KernelIdeal.Fused

end
-- ==== Proof.Launch.lean ====
/-
The launch of the fused call: the ring's ghost state, minted once and dealt around the ring; what each device is owed; the
splitting of the three ring buffers into their slots and of the copy buffer into its halves, and their rejoining.
-/
module

public import proofs.«01_k».proof.Proof.Comm
public import Idealize.ShloMosaic.Lib.Ring
public import Idealize.ShloMosaic.Lib.Rounds.Family

@[expose] public section

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Inp F)

/-! ## The nineteen cells and the twenty semaphores of the kernel's own, sorted -/

theorem bigSep_cup {J : Type} [DecidableEq J] {s t : Finset J} (h : Disjoint s t) {Φ : J → sProp 𝕄} :
    bigSep (s ∪ t) Φ = iprop(bigSep s Φ ∗ bigSep t Φ) := BI.bigSep_union h

theorem bigSep_each {J : Type} [DecidableEq J] {s : Finset J} {Φ Ψ : J → sProp 𝕄} (h : ∀ i, Φ i ⊢ Ψ i) : (bigSep s Φ : sProp 𝕄) ⊢ bigSep s Ψ :=
  bigSep_mono fun i _ => h i

def sIe : Fin 3 × Fin 3 ↪ Fin 19 := ⟨fun p => sI p.1 p.2, by decide⟩
def rIe : Fin 3 × Fin 3 ↪ Fin 19 := ⟨fun p => rI p.1 p.2, by decide⟩

/-- A conjunction over a device's cells is the barrier's conjunct, those of the departures and those of the arrivals. -/
theorem bigSep_cells (Φ : Fin 19 → sProp 𝕄) :
    bigSep Finset.univ Φ = iprop(Φ 0 ∗ (bigSep Finset.univ fun p : Fin 3 × Fin 3 => Φ (sI p.1 p.2)) ∗ bigSep Finset.univ fun p : Fin 3 × Fin 3 => Φ (rI p.1 p.2)) := by
  rw [show (Finset.univ : Finset (Fin 19)) = {0} ∪ (Finset.univ.map sIe ∪ Finset.univ.map rIe) from by decide,
    bigSep_cup (by decide), bigSep_cup (by decide), bigSep_map, bigSep_map, bigSep_singleton]
  rfl

/-- A conjunction over hops and buffers, one by one. -/
theorem bigSep_nine (Φ : Fin 3 → Fin 3 → sProp 𝕄) :
    (bigSep Finset.univ fun p : Fin 3 × Fin 3 => Φ p.1 p.2)
      = iprop(Φ 0 0 ∗ Φ 1 0 ∗ Φ 2 0 ∗ Φ 0 1 ∗ Φ 1 1 ∗ Φ 2 1 ∗ Φ 0 2 ∗ Φ 1 2 ∗ Φ 2 2) :=
  bigSep_univ_eq_bigSepL [(0, 0), (1, 0), (2, 0), (0, 1), (1, 1), (2, 1), (0, 2), (1, 2), (2, 2)] (by decide) (by decide) _

theorem osem_lt (i : Fin 20) : 11 + i.val < sig.nDmaSem := by revert i; decide
/-- The kernel's own semaphores: the departures', the arrivals', and the two of the copies of the query projection. -/
def osem (i : Fin 20) : SemLoc sig := .dma ⟨11 + i.val, osem_lt i⟩

theorem osem_injective : Function.Injective osem := by decide

theorem ownSemFacts : Pipeline.OwnSemFacts cfg0.spec osem := by decide

def sOe : Fin 3 × Fin 3 ↪ Fin 20 := ⟨fun p => ⟨3 * p.1.val + p.2.val, by omega⟩, by decide⟩
def rOe : Fin 3 × Fin 3 ↪ Fin 20 := ⟨fun p => ⟨9 + 3 * p.1.val + p.2.val, by omega⟩, by decide⟩
theorem osem_s (p : Fin 3 × Fin 3) : osem (sOe p) = .dma (sS p.1 p.2) := by revert p; decide
theorem osem_r (p : Fin 3 × Fin 3) : osem (rOe p) = .dma (rS p.1 p.2) := by revert p; decide
theorem osem_w0 : osem 18 = .dma (wS 0) := by decide
theorem osem_w1 : osem 19 = .dma (wS 1) := by decide

theorem ownSems0_eq (c : Dev nD) :
    (Pipeline.ownSems0 (Ix := Unit) (Name := ℕ) (U := UU) (Lvl := ℕ) (Val := Elt F) (τ := τ) osem c : sProp 𝕄)
      = iprop((bigSep Finset.univ fun p : Fin 3 × Fin 3 => semVal (sCell c p.1 p.2) 0)
        ∗ (bigSep Finset.univ fun p : Fin 3 × Fin 3 => semVal (rCell c p.1 p.2) 0)
        ∗ semVal ((c : Thread nD τ), .dma (wS 0)) 0 ∗ semVal ((c : Thread nD τ), .dma (wS 1)) 0) := by
  unfold Pipeline.ownSems0
  rw [show (Finset.univ : Finset (Fin 20)) = Finset.univ.map sOe ∪ (Finset.univ.map rOe ∪ ({18} ∪ {19})) from by decide,
    bigSep_cup (by decide), bigSep_cup (by decide), bigSep_cup (by decide), bigSep_map, bigSep_map, bigSep_singleton, bigSep_singleton,
    osem_w0, osem_w1]
  simp only [osem_s, osem_r]

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The ring's ghost state at launch -/

theorem kcell_b (c : Dev nD) : kcell (c, 0) = barCell c := rfl
theorem kcell_s (c : Dev nD) (t h : Fin 3) : kcell (c, sI t h) = sCell c t h := by unfold kcell; rw [csem_s]
theorem kcell_r (c : Dev nD) (t h : Fin 3) : kcell (c, rI t h) = rCell c t h := by unfold kcell; rw [csem_r]

theorem kcell_injective : Function.Injective (kcell : Dev nD × Fin 19 → GSem nD τ sig) := by
  rintro ⟨c, k⟩ ⟨c', k'⟩ h
  have h1 : c = c' := by have := congrArg (fun g : GSem nD τ sig => g.1.1) h; exact this
  subst h1
  have h2 : csem k = csem k' := congrArg Prod.snd h
  have inj : ∀ k k' : Fin 19, csem k = csem k' → k = k' := by decide
  have : k = k' := inj k k' h2
  subst this; rfl
/-- The barriers' cells, funded from their counters at launch, -/
def barE : Dev nD ↪ GSem nD τ sig := ⟨barCell, fun _ _ h => congrArg (fun g : GSem nD τ sig => g.1.1) h⟩
/-- the departures' cells -/
def sE : Dev nD × (Fin 3 × Fin 3) ↪ GSem nD τ sig := ⟨fun x => sCell x.1 x.2.1 x.2.2, fun x y h =>
  Prod.ext (congrArg (fun g : GSem nD τ sig => g.1.1) h) (sOe.injective (by
    have e : (SemLoc.dma (sS x.2.1 x.2.2) : SemLoc sig) = .dma (sS y.2.1 y.2.2) := congrArg Prod.snd h
    rw [← osem_s x.2, ← osem_s y.2] at e; exact osem_injective e))⟩
/-- and the arrivals', which wait unopened for the call. -/
def rE : Dev nD × (Fin 3 × Fin 3) ↪ GSem nD τ sig := ⟨fun x => rCell x.1 x.2.1 x.2.2, fun x y h =>
  Prod.ext (congrArg (fun g : GSem nD τ sig => g.1.1) h) (rOe.injective (by
    have e : (SemLoc.dma (rS x.2.1 x.2.2) : SemLoc sig) = .dma (rS y.2.1 y.2.2) := congrArg Prod.snd h
    rw [← osem_r x.2, ← osem_r y.2] at e; exact osem_injective e))⟩
def barCells : Finset (GSem nD τ sig) := Finset.univ.map barE
def copyCells : Finset (GSem nD τ sig) := Finset.univ.map sE ∪ Finset.univ.map rE

theorem s_ne_r (p q : Fin 3 × Fin 3) : (SemLoc.dma (sS p.1 p.2) : SemLoc sig) ≠ .dma (rS q.1 q.2) := by
  rw [← osem_s, ← osem_r]
  intro h
  have : ∀ p q : Fin 3 × Fin 3, sOe p ≠ rOe q := by decide
  exact this p q (osem_injective h)
theorem copy_disjoint : Disjoint (Finset.univ.map sE) (Finset.univ.map rE) := by
  rw [Finset.disjoint_left]
  intro g h1 h2
  obtain ⟨x, -, rfl⟩ := Finset.mem_map.1 h1
  obtain ⟨y, -, h⟩ := Finset.mem_map.1 h2
  exact s_ne_r x.2 y.2 (congrArg Prod.snd h).symm
theorem cells_disjoint : Disjoint barCells copyCells := by
  rw [Finset.disjoint_left]
  intro g h1 h2
  obtain ⟨c, -, rfl⟩ := Finset.mem_map.1 h1
  rcases Finset.mem_union.1 h2 with h2 | h2 <;> obtain ⟨x, -, h⟩ := Finset.mem_map.1 h2 <;> cases congrArg Prod.snd h
theorem number (k : Fin 19) : k = 0 ∨ (∃ t h : Fin 3, k = sI t h) ∨ ∃ t h : Fin 3, k = rI t h := by revert k; decide
theorem kcell_mem (p : Dev nD × Fin 19) : kcell p ∈ barCells ∪ copyCells := by
  obtain ⟨c, k⟩ := p
  rcases number k with rfl | ⟨t, h, rfl⟩ | ⟨t, h, rfl⟩
  · exact Finset.mem_union_left _ (Finset.mem_map_of_mem barE (Finset.mem_univ c))
  · rw [kcell_s]; exact Finset.mem_union_right _ (Finset.mem_union_left _ (Finset.mem_map_of_mem sE (Finset.mem_univ (c, (t, h)))))
  · rw [kcell_r]; exact Finset.mem_union_right _ (Finset.mem_union_right _ (Finset.mem_map_of_mem rE (Finset.mem_univ (c, (t, h)))))

/-- The duty tokens of a device's own cells: each cell's `false`, -/
def tokF : Dev nD × Fin 19 ↪ GSem nD τ sig × ℕ × Bool :=
  ⟨fun p => (kcell p, 0, false), fun p p' h => kcell_injective (congrArg Prod.fst h)⟩
/-- and the barrier's `true`. -/
def tokT : Dev nD ↪ GSem nD τ sig × ℕ × Bool :=
  ⟨fun c => (barCell c, 0, true), fun c c' h => by
    have := congrArg (fun x : GSem nD τ sig × ℕ × Bool => x.1.1.1) h; exact this⟩
theorem tok_disjoint : Disjoint (Finset.univ.map tokF) (Finset.univ.map tokT) := by
  rw [Finset.disjoint_left]
  intro x h1 h2
  obtain ⟨p, -, rfl⟩ := Finset.mem_map.1 h1
  obtain ⟨c, -, h⟩ := Finset.mem_map.1 h2
  have : true = false := congrArg (fun x : GSem nD τ sig × ℕ × Bool => x.2.2) h
  exact absurd this (by decide)
def ringToks : Finset (GSem nD τ sig × ℕ × Bool) := Finset.univ.map tokF ∪ Finset.univ.map tokT

/-- The launch element: the staging pipelines' rounds, the ring's, and no counter. -/
def u₀ : UU :=
  (initOf (Pipeline.cells cfgs cellOf_inj) (Pipeline.launchToks cfgs cellOf_inj), (launchOf barCells copyCells ringToks, 1))

/-- The ring's launch element, kept whole by device `0` until all of the machine is at hand. -/
def G (c : Dev nD) : sProp 𝕄 := if c = 0 then BI.own (ER (launchOf barCells copyCells ringToks)) else iprop(emp)
theorem bigSep_G : (bigSep Finset.univ G : sProp 𝕄) = BI.own (ER (launchOf barCells copyCells ringToks)) := by
  rw [bigSep_univ_at _ 0, bigSep_congr (s := Finset.univ.erase (0 : Dev nD)) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

/-- The duty tokens of device `c`'s own cells. -/
def toks (c : Dev nD) : sProp 𝕄 :=
  iprop((bigSep Finset.univ fun k : Fin 19 => dutyTok ER (kcell (c, k)) 0 false) ∗ dutyTok ER (barCell c) 0 true)
theorem toks_eq : bigSep ringToks (fun x => (dutyTok ER x.1 x.2.1 x.2.2 : sProp 𝕄)) = bigSep Finset.univ fun c : Dev nD => toks c := by
  unfold ringToks toks
  rw [bigSep_cup tok_disjoint, bigSep_map, bigSep_map, bigSep_univ_prod, bigSep_sep']; rfl

/-- The tokens of the duties device `c` pays. -/
def payToks (c : Dev nD) : sProp 𝕄 :=
  iprop((dutyTok ER (barCell (nxt c)) 0 false ∗ (bigSep Finset.univ fun p : Fin 3 × Fin 3 => dutyTok ER (sCell c p.1 p.2) 0 false)
      ∗ (bigSep Finset.univ fun p : Fin 3 × Fin 3 => dutyTok ER (rCell (nxt c) p.1 p.2) 0 false)) ∗ dutyTok ER (barCell (prv c)) 0 true)
theorem toks_around : (bigSep Finset.univ fun c : Dev nD => (toks c : sProp 𝕄)) ⊢ bigSep Finset.univ fun c : Dev nD => payToks c := by
  unfold toks payToks
  simp only [bigSep_cells, kcell_s, kcell_r, kcell_b]
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (bigSep Finset.univ fun p : Fin 3 × Fin 3 => dutyTok ER (rCell c p.1 p.2) 0 false : sProp 𝕄))]
  exact Entails.refl _

/-- What device `c` keeps until the call: its place at the barrier, the right to open its copies' cells, the tokens of the
    duties it pays. -/
def unopened (c : Dev nD) : sProp 𝕄 :=
  iprop(atPos ER (barCell c) 0 ∅ 0 ∗ ((bigSep Finset.univ fun p : Fin 3 × Fin 3 => openTok ER (sCell c p.1 p.2))
      ∗ bigSep Finset.univ fun p : Fin 3 × Fin 3 => openTok ER (rCell c p.1 p.2)) ∗ payToks c)
/-- Its positions. -/
def positions (c : Dev nD) : sProp 𝕄 :=
  iprop(atPos ER (barCell c) 0 ∅ 0 ∗ (bigSep Finset.univ fun p : Fin 3 × Fin 3 => iprop(atPos ER (sCell c p.1 p.2) 0 ∅ 0 ∗ reached ER (sCell c p.1 p.2) 0))
      ∗ (bigSep Finset.univ fun p : Fin 3 × Fin 3 => atPos ER (rCell c p.1 p.2) 0 ∅ 0))
/-- What the call begins with: its positions, the tokens of the duties it pays, the semaphores of its local copies, and that
    its arrivals' cells are open. -/
def linear (c : Dev nD) : sProp 𝕄 :=
  iprop(positions c ∗ payToks c ∗ (semVal ((c : Thread nD τ), .dma (wS 0)) 0 ∗ semVal ((c : Thread nD τ), .dma (wS 1)) 0)
    ∗ opened (F := F) 0 c ∗ opened (F := F) 1 c ∗ opened (F := F) 2 c)

theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem open_s (K : Dev nD × Fin 19 → ℕ) (c : Dev nD) :
    iprop(recs I K ∗ (bigSep Finset.univ fun p : Fin 3 × Fin 3 => openTok ER (sCell c p.1 p.2))
        ∗ (bigSep Finset.univ fun p : Fin 3 × Fin 3 => semVal (sCell c p.1 p.2) 0))
      ⊢ (|={Set.univ}=> bigSep Finset.univ fun p : Fin 3 × Fin 3 => iprop(atPos ER (sCell c p.1 p.2) 0 ∅ 0 ∗ reached ER (sCell c p.1 p.2) 0) : sProp 𝕄) := by
  iintro ⟨#HR, Ho, Hv⟩
  iapply (Rounds.cells_open ER (Rd I) (Finset.univ : Finset (Fin 3 × Fin 3)) (fun p => sCell c p.1 p.2) (fun p => K (c, sI p.1 p.2)) (fun _ _ => Set.mem_univ _))
  isplitl [Ho]
  · iapply (with_persistent (R := recs I K) (Φ := fun p : Fin 3 × Fin 3 => openTok ER (sCell c p.1 p.2)) fun p _ => sep_mono_left (inv_s I K c p.1 p.2))
    isplitr; · iexact HR
    iexact Ho
  · iexact Hv
theorem open_r (K : Dev nD × Fin 19 → ℕ) (c : Dev nD) :
    iprop(recs I K ∗ (bigSep Finset.univ fun p : Fin 3 × Fin 3 => openTok ER (rCell c p.1 p.2))
        ∗ (bigSep Finset.univ fun p : Fin 3 × Fin 3 => semVal (rCell c p.1 p.2) 0))
      ⊢ (|={Set.univ}=> bigSep Finset.univ fun p : Fin 3 × Fin 3 => iprop(atPos ER (rCell c p.1 p.2) 0 ∅ 0 ∗ reached ER (rCell c p.1 p.2) 0) : sProp 𝕄) := by
  iintro ⟨#HR, Ho, Hv⟩
  iapply (Rounds.cells_open ER (Rd I) (Finset.univ : Finset (Fin 3 × Fin 3)) (fun p => rCell c p.1 p.2) (fun p => K (c, rI p.1 p.2)) (fun _ _ => Set.mem_univ _))
  isplitl [Ho]
  · iapply (with_persistent (R := recs I K) (Φ := fun p : Fin 3 × Fin 3 => openTok ER (rCell c p.1 p.2)) fun p _ => sep_mono_left (inv_r I K c p.1 p.2))
    isplitr; · iexact HR
    iexact Ho
  · iexact Hv

theorem opened_of (c : Dev nD) : (bigSep Finset.univ fun p : Fin 3 × Fin 3 => (reached ER (rCell c p.1 p.2) 0 : sProp 𝕄))
    ⊢ iprop(opened (F := F) 0 c ∗ opened (F := F) 1 c ∗ opened (F := F) 2 c) := by
  rw [bigSep_nine (F := F) fun t h => reached ER (rCell c t h) 0]
  unfold opened
  iintro ⟨#H00, #H10, #H20, #H01, #H11, #H21, #H02, #H12, #H22⟩
  isplitr
  · isplitr; · iexact H00
    isplitr; · iexact H01
    iexact H02
  isplitr
  · isplitr; · iexact H10
    isplitr; · iexact H11
    iexact H12
  isplitr; · iexact H20
  isplitr; · iexact H21
  iexact H22

/-- The call's own counters at hand, its copies' cells are opened. -/
theorem open_cells (K : Dev nD × Fin 19 → ℕ) (c : Dev nD) :
    iprop(recs I K ∗ unopened c ∗ Pipeline.ownSems0 (Ix := Unit) (Name := ℕ) (U := UU) (Lvl := ℕ) (Val := Elt F) (τ := τ) osem c)
      ⊢ (|={Set.univ}=> linear c : sProp 𝕄) := by
  rw [ownSems0_eq]
  unfold unopened linear positions
  iintro ⟨#HR, ⟨HaB, ⟨HoS, HoR⟩, Htk⟩, HvS, HvR, HW⟩
  imod (open_s I K c) $$ [HoS HvS] with HS
  · isplitr; · iexact HR
    isplitl [HoS] <;> iassumption
  imod (open_r I K c) $$ [HoR HvR] with HV
  · isplitr; · iexact HR
    isplitl [HoR] <;> iassumption
  ihave HV := (Entails.of_eq (bigSep_sep' Finset.univ (fun p : Fin 3 × Fin 3 => (atPos ER (rCell c p.1 p.2) 0 ∅ 0 : sProp 𝕄)) fun p => reached ER (rCell c p.1 p.2) 0)) $$ HV
  icases HV with ⟨HaR, HrR⟩
  imodintro
  isplitl [HaB HS HaR]
  · isplitl [HaB]; · iexact HaB
    isplitl [HS] <;> iassumption
  isplitl [Htk]; · iexact Htk
  isplitl [HW]; · iexact HW
  iapply (opened_of (F := F) c) $$ HrR

/-! ### Dealing it around the ring -/

/-- The machine's barriers, its ring's launch element and the levels make every device's records and share. -/
theorem deal :
    iprop((bigSep Finset.univ fun c : Dev nD => semVal (barCell c) 0) ∗ BI.own (ER (launchOf barCells copyCells ringToks)) ∗ levAts L lv)
      ⊢ (|={Set.univ}=> iprop(∃ K, recs I K ∗ bigSep Finset.univ fun c : Dev nD => unopened c) : sProp 𝕄) := by
  have hv : (bigSep Finset.univ fun c : Dev nD => (semVal (barCell c) 0 : sProp 𝕄)) ⊢ bigSep barCells fun g => semVal g 0 :=
    Entails.of_eq (bigSep_map (s := Finset.univ) barE (Φ := fun g : GSem nD τ sig => (semVal g 0 : sProp 𝕄))).symm
  have hat : (bigSep barCells fun g => (atPos ER g 0 ∅ 0 : sProp 𝕄)) ⊢ bigSep Finset.univ fun c : Dev nD => atPos ER (barCell c) 0 ∅ 0 :=
    Entails.of_eq (bigSep_map (s := Finset.univ) barE (Φ := fun g : GSem nD τ sig => (atPos ER g 0 ∅ 0 : sProp 𝕄)))
  have hrch : (bigSep barCells fun g => (reached ER g 0 : sProp 𝕄)) ⊢ bigSep Finset.univ fun c : Dev nD => reached ER (barCell c) 0 :=
    Entails.of_eq (bigSep_map (s := Finset.univ) barE (Φ := fun g : GSem nD τ sig => (reached ER g 0 : sProp 𝕄)))
  have hopen : (bigSep copyCells fun g => (openTok ER g : sProp 𝕄))
      ⊢ bigSep Finset.univ fun c : Dev nD => iprop((bigSep Finset.univ fun p : Fin 3 × Fin 3 => openTok ER (sCell c p.1 p.2))
          ∗ bigSep Finset.univ fun p : Fin 3 × Fin 3 => openTok ER (rCell c p.1 p.2)) := by
    unfold copyCells
    rw [bigSep_cup copy_disjoint, bigSep_map, bigSep_map, bigSep_univ_prod, bigSep_univ_prod, bigSep_sep']
    exact Entails.refl _
  iintro ⟨Hv, Hu, #HL⟩
  imod (Rounds.fund_launch ER (Rd I) cells_disjoint (fun g _ h => h) ringToks) $$ [Hv Hu] with ⟨%κ, -, #Hinv, #Hr, Hat, Hopen, Htok⟩
  · isplitl [Hv]
    · iapply hv $$ Hv
    · iexact Hu
  imodintro
  iexists fun p => κ (kcell p)
  isplitr
  · unfold recs
    isplitr
    · iapply ((BI.bigSep_of_persistent (Finset.univ : Finset (Dev nD × Fin 19)) (bigSep (barCells ∪ copyCells) fun g => (cellInv ER (Rd I) (κ g) g : sProp 𝕄))).trans
        (bigSep_mono fun p _ => bigSep_elim (kcell_mem p)))
      iexact Hinv
    isplitr
    · iapply hrch; iexact Hr
    · iexact HL
  unfold unopened
  rw [bigSep_sep', bigSep_sep']
  isplitl [Hat]; · iapply hat $$ Hat
  isplitl [Hopen]
  · iapply hopen $$ Hopen
  iapply (toks_around (F := F))
  iapply (Entails.of_eq (toks_eq (F := F))) $$ Htok

/-! ## What a device is owed -/

theorem bar_eq_iff {a b : Dev nD} : Iff (barCell a = barCell b) (a = b) :=
  ⟨fun h => Fin.ext (congrArg (fun g : GSem nD τ sig => g.1.1.val) h), fun h => h ▸ rfl⟩
theorem r_eq_iff {a b : Dev nD} {t h t' h' : Fin 3} : Iff (rCell a t h = rCell b t' h') (a = b ∧ t = t' ∧ h = h') := by
  constructor
  · intro e
    have h1 : a = b := Fin.ext (congrArg (fun g : GSem nD τ sig => g.1.1.val) e)
    have h2 : (SemLoc.dma (rS t h) : SemLoc sig) = .dma (rS t' h') := congrArg Prod.snd e
    have key : ∀ t h t' h' : Fin 3, (SemLoc.dma (rS t h) : SemLoc sig) = .dma (rS t' h') → t = t' ∧ h = h' := by decide
    exact ⟨h1, key t h t' h' h2⟩
  · rintro ⟨rfl, rfl, rfl⟩; rfl
theorem r_ne_bar {a b : Dev nD} {t h : Fin 3} : rCell a t h ≠ barCell b := fun e => by cases congrArg Prod.snd e

theorem OR_bar (d c : Dev nD) (k : ℕ) : OR d k (barCell c) () = 0 := by
  by_contra h
  obtain ⟨k', -, hg⟩ := OR_pos (Nat.pos_of_ne_zero h)
  exact r_ne_bar hg.symm

theorem owed_bar (d c : Dev nD) : O₀ d (barCell c) () = (if d = prv c then 1 else 0) + (if d = nxt c then 1 else 0) := by
  unfold O₀ O₁
  rw [Pi.add_apply, Finsupp.add_apply, Pi.add_apply, Finsupp.add_apply, OR_bar, tallyAt_apply, tallyAt_apply, Nat.zero_add]
  congr 1
  · by_cases h : d = prv c
    · subst h; rw [nxt_prv, if_pos ⟨rfl, rfl⟩, if_pos rfl]
    · rw [if_neg (fun ⟨h1, _⟩ => h (by rw [← prv_nxt d]; exact congrArg prv (bar_eq_iff.mp h1).symm)), if_neg h]
  · by_cases h : d = nxt c
    · subst h; rw [prv_nxt, if_pos ⟨rfl, rfl⟩, if_pos rfl]
    · rw [if_neg (fun ⟨h1, _⟩ => h (by rw [← nxt_prv d]; exact congrArg nxt (bar_eq_iff.mp h1).symm)), if_neg h]

theorem OR_nine (d c : Dev nD) (t h : Fin 3) : OR d 9 (rCell c t h) () = if c = nxt d then Nt t else 0 := by
  simp only [OR, Pi.add_apply, Finsupp.add_apply, tallyAt_apply, r_eq_iff, Pi.zero_apply, Finsupp.zero_apply]
  by_cases e : c = nxt d
  · subst e
    fin_cases t <;> fin_cases h <;> simp [tJ, hJ]
  · simp [e]

theorem owed_r (d c : Dev nD) (t h : Fin 3) : O₀ d (rCell c t h) () = if d = prv c then Nt t else 0 := by
  unfold O₀ O₁
  rw [Pi.add_apply, Finsupp.add_apply, Pi.add_apply, Finsupp.add_apply, OR_nine,
    tallyAt_ne_cell r_ne_bar, tallyAt_ne_cell r_ne_bar, Finsupp.zero_apply, Nat.add_zero, Nat.add_zero]
  by_cases e : d = prv c
  · subst e; rw [nxt_prv, if_pos rfl, if_pos rfl]
  · rw [if_neg e, if_neg (fun h => e (by rw [h, prv_nxt]))]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_r (c : Dev nD) (t h : Fin 3) :
    tallyOn (rCell c t h) (launchCredit (Pipeline.owing O₀) 0 (rCell c t h)) = (tallyAt (rCell c t h) () (Nt t) : CellTallies nD τ sig Unit) := by
  unfold tallyAt; refine congrArg _ (Finsupp.ext fun u => ?_); cases u
  rw [Pipeline.launchCredit_owing, Finsupp.single_eq_same, Finset.sum_congr rfl fun d _ => owed_r d c t h, Finset.sum_ite_eq' Finset.univ (prv c) fun _ => Nt t,
    if_pos (Finset.mem_univ _)]

def rSe : Fin 3 × Fin 3 ↪ SemLoc sig := ⟨fun p => .dma (rS p.1 p.2), by decide⟩

/-- Device `c`'s credits: two units at its barrier, and each arrival's. -/
theorem creds (c : Dev nD) :
    (Pipeline.launchCred O₀ c : sProp 𝕄) ⊢ iprop(cred (tallyAt (barCell c) () 2)
      ∗ bigSep Finset.univ fun p : Fin 3 × Fin 3 => cred (tallyAt (rCell c p.1 p.2) () (Nt p.1))) := by
  unfold Pipeline.launchCred
  rw [bigSep_univ_at _ (SemLoc.reg barS), launch_bar]
  refine sep_mono_right ?_
  refine (bigSep_subset (t := Finset.univ.map rSe) fun x hx => ?_).trans ?_
  · obtain ⟨p, -, rfl⟩ := Finset.mem_map.1 hx
    exact Finset.mem_erase.mpr ⟨(fun h => by cases h), Finset.mem_univ _⟩
  · rw [bigSep_map]
    exact Entails.of_eq (bigSep_congr fun p _ => congrArg cred (launch_r c p.1 p.2))

/-! ## The buffers, slot by slot -/

theorem rC_mem (s : Dev nD) (i : S4x128x1024.Idx) : Iff (i ∈ (rC s).set) (i 0 = s) := by
  rw [Rect.mem_set_unit]
  constructor
  · intro h
    have h0 := h 0
    refine Fin.ext ?_
    have h1 : s.val ≤ (i 0).val ∧ (i 0).val < s.val + 1 := h0
    omega
  · intro h a
    have hs : (i 0).val = s.val := congrArg Fin.val h
    match a with
    | ⟨0, _⟩ => show s.val ≤ (i 0).val ∧ (i 0).val < s.val + 1; omega
    | ⟨1, _⟩ => exact ⟨Nat.zero_le _, by show (i 1).val < 0 + 128; have : (i 1).val < 128 := (i 1).isLt; omega⟩
    | ⟨2, _⟩ => exact ⟨Nat.zero_le _, by show (i 2).val < 0 + 1024; have : (i 2).val < 1024 := (i 2).isLt; omega⟩
theorem rU_mem (s : Dev nD) (i : S4x128x2048.Idx) : Iff (i ∈ (rU s).set) (i 0 = s) := by
  rw [Rect.mem_set_unit]
  constructor
  · intro h
    have h0 := h 0
    refine Fin.ext ?_
    have h1 : s.val ≤ (i 0).val ∧ (i 0).val < s.val + 1 := h0
    omega
  · intro h a
    have hs : (i 0).val = s.val := congrArg Fin.val h
    match a with
    | ⟨0, _⟩ => show s.val ≤ (i 0).val ∧ (i 0).val < s.val + 1; omega
    | ⟨1, _⟩ => exact ⟨Nat.zero_le _, by show (i 1).val < 0 + 128; have : (i 1).val < 128 := (i 1).isLt; omega⟩
    | ⟨2, _⟩ => exact ⟨Nat.zero_le _, by show (i 2).val < 0 + 2048; have : (i 2).val < 2048 := (i 2).isLt; omega⟩

theorem rC_disjoint (s s' : Dev nD) (h : s ≠ s') : Disjoint (rC s).set (rC s').set :=
  Finset.disjoint_left.2 fun i h1 h2 => h (((rC_mem s i).1 h1).symm.trans ((rC_mem s' i).1 h2))
theorem rU_disjoint (s s' : Dev nD) (h : s ≠ s') : Disjoint (rU s).set (rU s').set :=
  Finset.disjoint_left.2 fun i h1 h2 => h (((rU_mem s i).1 h1).symm.trans ((rU_mem s' i).1 h2))
theorem rC_cover : Finset.univ.biUnion (fun s : Dev nD => (rC s).set) = Finset.univ :=
  Finset.eq_univ_of_forall fun i => Finset.mem_biUnion.2 ⟨i 0, Finset.mem_univ _, (rC_mem _ i).2 rfl⟩
theorem rU_cover : Finset.univ.biUnion (fun s : Dev nD => (rU s).set) = Finset.univ :=
  Finset.eq_univ_of_forall fun i => Finset.mem_biUnion.2 ⟨i 0, Finset.mem_univ _, (rU_mem _ i).2 rfl⟩

/-- The four devices, from the slot device `c` fills to the one it is sent last. -/
theorem bigSep_slots (c : Dev nD) (Φ : Dev nD → sProp 𝕄) :
    bigSep Finset.univ Φ = iprop(Φ (sub c 0) ∗ Φ (sub c 1) ∗ Φ (sub c 2) ∗ Φ (sub c 3)) :=
  bigSep_univ_eq_bigSepL [sub c 0, sub c 1, sub c 2, sub c 3] (by revert c; decide) (by revert c; decide) Φ

theorem sub_prv (c : Dev nD) (h : ℕ) : sub (prv c) h = sub c (h + 1) := by rw [← sub_nxt, nxt_prv]

/-- A ring buffer held whole, -/
def bufAny (t : Fin 3) (c : Dev nD) : sProp 𝕄 :=
  match t with
  | 0 => iprop(∃ f : Buf (Elt F) ((c : Thread nD τ).loc cc0_scratch0), ((c : Thread nD τ).loc cc0_scratch0) ↦{fullShare} f)
  | 1 => iprop(∃ f : Buf (Elt F) ((c : Thread nD τ).loc cc0_scratch1), ((c : Thread nD τ).loc cc0_scratch1) ↦{fullShare} f)
  | 2 => iprop(∃ f : Buf (Elt F) ((c : Thread nD τ).loc cc0_scratch2), ((c : Thread nD τ).loc cc0_scratch2) ↦{fullShare} f)

/-- is held slot by slot, -/
theorem buf_all (t : Fin 3) (c : Dev nD) : bufAny (F := F) t c ⊢ bigSep Finset.univ fun s : Dev nD => slotAny (F := F) t c s := by
  match t with
  | 0 =>
    have h (f : Buf (Elt F) ((c : Thread nD τ).loc cc0_scratch0)) (s : Dev nD) :
        (((c : Thread nD τ).loc cc0_scratch0) ↦[(rC s).set]{fullShare} f : sProp 𝕄) ⊢ slotAny (F := F) 0 c s := by
      rw [slotAny_0]; iintro H; iexists f; iexact H
    unfold bufAny
    iintro ⟨%f, H⟩
    ihave H := (Entails.of_eq (Ring.pointsTo_blocks (ℓ := (c : Thread nD τ).loc cc0_scratch0) (fun s : Dev nD => (rC s).set) rC_disjoint rC_cover f)) $$ H
    iapply (bigSep_each (s := (Finset.univ : Finset (Dev nD))) (h f)) $$ H
  | 1 =>
    have h (f : Buf (Elt F) ((c : Thread nD τ).loc cc0_scratch1)) (s : Dev nD) :
        (((c : Thread nD τ).loc cc0_scratch1) ↦[(rU s).set]{fullShare} f : sProp 𝕄) ⊢ slotAny (F := F) 1 c s := by
      rw [slotAny_1]; iintro H; iexists f; iexact H
    unfold bufAny
    iintro ⟨%f, H⟩
    ihave H := (Entails.of_eq (Ring.pointsTo_blocks (ℓ := (c : Thread nD τ).loc cc0_scratch1) (fun s : Dev nD => (rU s).set) rU_disjoint rU_cover f)) $$ H
    iapply (bigSep_each (s := (Finset.univ : Finset (Dev nD))) (h f)) $$ H
  | 2 =>
    have h (f : Buf (Elt F) ((c : Thread nD τ).loc cc0_scratch2)) (s : Dev nD) :
        (((c : Thread nD τ).loc cc0_scratch2) ↦[(rU s).set]{fullShare} f : sProp 𝕄) ⊢ slotAny (F := F) 2 c s := by
      rw [slotAny_2]; iintro H; iexists f; iexact H
    unfold bufAny
    iintro ⟨%f, H⟩
    ihave H := (Entails.of_eq (Ring.pointsTo_blocks (ℓ := (c : Thread nD τ).loc cc0_scratch2) (fun s : Dev nD => (rU s).set) rU_disjoint rU_cover f)) $$ H
    iapply (bigSep_each (s := (Finset.univ : Finset (Dev nD))) (h f)) $$ H

/-- its own and the left neighbour's three; -/
theorem buf_split (t : Fin 3) (c : Dev nD) :
    bufAny (F := F) t c ⊢ iprop(slotAny (F := F) t c c ∗ slotAny (F := F) t c (sub (prv c) 0) ∗ slotAny (F := F) t c (sub (prv c) 1) ∗ slotAny (F := F) t c (sub (prv c) 2)) := by
  have e := bigSep_slots c (fun s => slotAny (F := F) t c s)
  rw [sub_zero] at e
  rw [sub_prv c 0, sub_prv c 1, sub_prv c 2]
  exact BIBase.Entails.trans (buf_all t c) (Entails.of_eq e)

/-- and its four filled slots make it whole again. -/
theorem buf_join (t : Fin 3) (c : Dev nD) :
    iprop(slotPay I t c (sub c 0) fullShare ∗ slotPay I t c (sub c 1) fullShare ∗ slotPay I t c (sub c 2) fullShare ∗ slotPay I t c (sub c 3) fullShare)
      ⊢ bufAny (F := F) t c := by
  rw [← bigSep_slots c (fun s => slotPay I t c s fullShare)]
  match t with
  | 0 =>
    unfold bufAny slotPay
    dsimp only
    rw [← Ring.pointsTo_blocks (ℓ := (c : Thread nD τ).loc cc0_scratch0) (fun s : Dev nD => (rC s).set) rC_disjoint rC_cover]
    iintro H; iexists _; iexact H
  | 1 =>
    unfold bufAny slotPay
    dsimp only
    rw [← Ring.pointsTo_blocks (ℓ := (c : Thread nD τ).loc cc0_scratch1) (fun s : Dev nD => (rU s).set) rU_disjoint rU_cover]
    iintro H; iexists _; iexact H
  | 2 =>
    unfold bufAny slotPay
    dsimp only
    rw [← Ring.pointsTo_blocks (ℓ := (c : Thread nD τ).loc cc0_scratch2) (fun s : Dev nD => (rU s).set) rU_disjoint rU_cover]
    iintro H; iexists _; iexact H

/-! ## The copy buffer, half by half -/

theorem wb_set (i : Fin 2) : (wb i).view.set = (Rect.unit (s := S2x2048x128) ![i.val, 0, 0] S1x2048x128.size (inb_wb i)).set := by
  show (((View.whole cc0_scratch3).slice _).reshape _ _).set = _
  rw [View.set_reshape, View.set_slice_whole]

theorem wb_mem (i : Fin 2) (j : S2x2048x128.Idx) : Iff (j ∈ (wb i).view.set) (j 0 = i) := by
  rw [wb_set, Rect.mem_set_unit]
  constructor
  · intro h
    have h1 : i.val ≤ (j 0).val ∧ (j 0).val < i.val + 1 := h 0
    exact Fin.ext (by omega)
  · intro h a
    have hs : (j 0).val = i.val := congrArg Fin.val h
    match a with
    | ⟨0, _⟩ => show i.val ≤ (j 0).val ∧ (j 0).val < i.val + 1; omega
    | ⟨1, _⟩ => exact ⟨Nat.zero_le _, by show (j 1).val < 0 + 2048; have : (j 1).val < 2048 := (j 1).isLt; omega⟩
    | ⟨2, _⟩ => exact ⟨Nat.zero_le _, by show (j 2).val < 0 + 128; have : (j 2).val < 128 := (j 2).isLt; omega⟩
def wbSet (i : Fin 2) : Finset S2x2048x128.Idx := (wb i).view.set
theorem wb_disjoint (i i' : Fin 2) (h : i ≠ i') : Disjoint (wbSet i) (wbSet i') :=
  Finset.disjoint_left.2 fun j h1 h2 => h (((wb_mem i j).1 h1).symm.trans ((wb_mem i' j).1 h2))
theorem wb_cover : Finset.univ.biUnion wbSet = Finset.univ :=
  Finset.eq_univ_of_forall fun j => Finset.mem_biUnion.2 ⟨j 0, Finset.mem_univ _, (wb_mem _ j).2 rfl⟩

/-- The copy buffer held whole is held half by half, -/
theorem wb_split (c : Dev nD) : iprop(∃ f : Buf (Elt F) ((c : Thread nD τ).loc cc0_scratch3), ((c : Thread nD τ).loc cc0_scratch3) ↦{fullShare} f)
    ⊢ iprop(wbAny (F := F) c 0 ∗ wbAny (F := F) c 1) := by
  rw [← bigSep_univ_two (fun i : Fin 2 => wbAny (F := F) c i)]
  have h (f : Buf (Elt F) ((c : Thread nD τ).loc cc0_scratch3)) (i : Fin 2) :
      (((c : Thread nD τ).loc cc0_scratch3) ↦[wbSet i]{fullShare} f : sProp 𝕄) ⊢ wbAny (F := F) c i := by
    unfold wbAny; iintro H; iexists f; iexact H
  iintro ⟨%f, H⟩
  ihave H := (Entails.of_eq (Ring.pointsTo_blocks (ℓ := (c : Thread nD τ).loc cc0_scratch3) wbSet wb_disjoint wb_cover f)) $$ H
  iapply (bigSep_each (s := (Finset.univ : Finset (Fin 2))) (h f)) $$ H
/-- and its halves make it whole again. -/
theorem wb_join (c : Dev nD) : iprop(wbAny (F := F) c 0 ∗ wbAny (F := F) c 1)
    ⊢ iprop(∃ f : Buf (Elt F) ((c : Thread nD τ).loc cc0_scratch3), ((c : Thread nD τ).loc cc0_scratch3) ↦{fullShare} f) := by
  have h : iprop(wbAny (F := F) c 0 ∗ wbAny (F := F) c 1)
      = bigSep Finset.univ fun i : Fin 2 => iprop(∃ f : Buf (Elt F) ((c : Thread nD τ).loc cc0_scratch3), ((c : Thread nD τ).loc cc0_scratch3) ↦[wbSet i]{fullShare} f) := by
    rw [bigSep_univ_two]; rfl
  have h2 : iprop(wbAny (F := F) c 0)
      ⊢ iprop(⌜Nonempty (Buf (Elt F) ((c : Thread nD τ).loc cc0_scratch3))⌝ ∗ wbAny (F := F) c 0) := by
    unfold wbAny
    iintro ⟨%f, H⟩
    isplitr
    · ipureintro; exact ⟨f⟩
    · iexists f; iexact H
  iintro ⟨H0, H1⟩
  ihave H0 := h2 $$ H0
  icases H0 with ⟨%hf, H0⟩
  obtain ⟨f⟩ := hf
  iapply (Ring.pointsTo_blocks_join_exists (ℓ := (c : Thread nD τ).loc cc0_scratch3) wbSet wb_disjoint wb_cover f)
  iapply (Entails.of_eq h)
  isplitl [H0] <;> iassumption

end Cert.KernelIdeal.Fused

end
-- ==== Proof.Offs.lean ====
/-
The places the fused kernel reads and writes by device number, and small forms of the rules.
-/
module

public import proofs.«01_k».proof.Proof.Comm

@[expose] public section

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

section Places
variable (c : Dev nD)
theorem o1 : k0_off1 c = ![c.val, 0, 256 * (0 : Fin 4).val] := (k0_off1_eq c).trans (by revert c; decide)
theorem o2 : k0_off2 c = ![c.val, 0, 256 * (1 : Fin 4).val] := (k0_off2_eq c).trans (by revert c; decide)
theorem o3 : k0_off3 c = ![c.val, 0, 256 * (2 : Fin 4).val] := (k0_off3_eq c).trans (by revert c; decide)
theorem o4 : k0_off4 c = ![c.val, 0, 256 * (3 : Fin 4).val] := (k0_off4_eq c).trans (by revert c; decide)
theorem o5 : k0_off5 c = ![c.val, 0, 0] := (k0_off5_eq c).trans (by revert c; decide)
theorem o6_0 : k0_off6 c 0#32 = ![(sub c 0).val, 0, 0] := (k0_off6_eq c 0).trans (by revert c; decide)
theorem o6_1 : k0_off6 c 1#32 = ![(sub c 1).val, 0, 0] := (k0_off6_eq c 1).trans (by revert c; decide)
theorem o6_2 : k0_off6 c 2#32 = ![(sub c 2).val, 0, 0] := (k0_off6_eq c 2).trans (by revert c; decide)
theorem o7_0 : k0_off7 c 0#32 = ![(sub c 0).val, 0, 0] := (k0_off7_eq c 0).trans (by revert c; decide)
theorem o7_1 : k0_off7 c 1#32 = ![(sub c 1).val, 0, 0] := (k0_off7_eq c 1).trans (by revert c; decide)
theorem o7_2 : k0_off7 c 2#32 = ![(sub c 2).val, 0, 0] := (k0_off7_eq c 2).trans (by revert c; decide)
theorem o8 : k0_off8 c = ![(sub c 0).val, 0, 0] := (k0_off8_eq c).trans (by revert c; decide)
theorem o9 : k0_off9 c = ![(sub c 0).val, 0, 512 * (0 : Fin 4).val] := (k0_off9_eq c).trans (by revert c; decide)
theorem o10 : k0_off10 c = ![(sub c 0).val, 0, 512 * (1 : Fin 4).val] := (k0_off10_eq c).trans (by revert c; decide)
theorem o11 : k0_off11 c = ![(sub c 0).val, 0, 512 * (2 : Fin 4).val] := (k0_off11_eq c).trans (by revert c; decide)
theorem o12 : k0_off12 c = ![(sub c 0).val, 0, 512 * (3 : Fin 4).val] := (k0_off12_eq c).trans (by revert c; decide)
theorem o13_1 : k0_off13 c 1#32 = ![(sub c 1).val, 0, 0] := (k0_off13_eq c 0).trans (by revert c; decide)
theorem o14_1 : k0_off14 c 1#32 = ![(sub c 1).val, 0, 512 * (0 : Fin 4).val] := (k0_off14_eq c 0).trans (by revert c; decide)
theorem o15_1 : k0_off15 c 1#32 = ![(sub c 1).val, 0, 512 * (1 : Fin 4).val] := (k0_off15_eq c 0).trans (by revert c; decide)
theorem o16_1 : k0_off16 c 1#32 = ![(sub c 1).val, 0, 512 * (2 : Fin 4).val] := (k0_off16_eq c 0).trans (by revert c; decide)
theorem o17_1 : k0_off17 c 1#32 = ![(sub c 1).val, 0, 512 * (3 : Fin 4).val] := (k0_off17_eq c 0).trans (by revert c; decide)
theorem o13_2 : k0_off13 c 2#32 = ![(sub c 2).val, 0, 0] := (k0_off13_eq c 1).trans (by revert c; decide)
theorem o14_2 : k0_off14 c 2#32 = ![(sub c 2).val, 0, 512 * (0 : Fin 4).val] := (k0_off14_eq c 1).trans (by revert c; decide)
theorem o15_2 : k0_off15 c 2#32 = ![(sub c 2).val, 0, 512 * (1 : Fin 4).val] := (k0_off15_eq c 1).trans (by revert c; decide)
theorem o16_2 : k0_off16 c 2#32 = ![(sub c 2).val, 0, 512 * (2 : Fin 4).val] := (k0_off16_eq c 1).trans (by revert c; decide)
theorem o17_2 : k0_off17 c 2#32 = ![(sub c 2).val, 0, 512 * (3 : Fin 4).val] := (k0_off17_eq c 1).trans (by revert c; decide)
theorem o18 : k0_off18 c = ![(sub c 3).val, 0, 0] := (k0_off18_eq c).trans (by revert c; decide)
theorem o19 : k0_off19 c = ![(sub c 3).val, 0, 512 * (0 : Fin 4).val] := (k0_off19_eq c).trans (by revert c; decide)
theorem o20 : k0_off20 c = ![(sub c 3).val, 0, 512 * (1 : Fin 4).val] := (k0_off20_eq c).trans (by revert c; decide)
theorem o21 : k0_off21 c = ![(sub c 3).val, 0, 512 * (2 : Fin 4).val] := (k0_off21_eq c).trans (by revert c; decide)
theorem o22 : k0_off22 c = ![(sub c 3).val, 0, 512 * (3 : Fin 4).val] := (k0_off22_eq c).trans (by revert c; decide)

theorem dv1 {h} : (⟨k0_dev1 c, h⟩ : Dev nD) = prv c := Fin.ext (k0_dev1_eq c)
theorem dv2 {h} : (⟨k0_dev2 c, h⟩ : Dev nD) = nxt c := Fin.ext (k0_dev2_eq c)
theorem dv3 {h} : (⟨k0_dev3 c, h⟩ : Dev nD) = nxt c := Fin.ext (k0_dev3_eq c)
theorem dv4 {h} : (⟨k0_dev4 c, h⟩ : Dev nD) = nxt c := Fin.ext (k0_dev4_eq c)
theorem dv5 {h} : (⟨k0_dev5 c, h⟩ : Dev nD) = nxt c := Fin.ext (k0_dev5_eq c)
theorem dv6 {h} : (⟨k0_dev6 c, h⟩ : Dev nD) = nxt c := Fin.ext (k0_dev6_eq c)
theorem dv7 {h} : (⟨k0_dev7 c, h⟩ : Dev nD) = nxt c := Fin.ext (k0_dev7_eq c)
theorem dv8 {h} : (⟨k0_dev8 c, h⟩ : Dev nD) = nxt c := Fin.ext (k0_dev8_eq c)
theorem dv9 {h} : (⟨k0_dev9 c, h⟩ : Dev nD) = nxt c := Fin.ext (k0_dev9_eq c)
theorem dv10 {h} : (⟨k0_dev10 c, h⟩ : Dev nD) = nxt c := Fin.ext (k0_dev10_eq c)
theorem dv11 {h} : (⟨k0_dev11 c, h⟩ : Dev nD) = nxt c := Fin.ext (k0_dev11_eq c)

variable (I : Inp F)

theorem own_0 : slotQ I c 4 ⊢ slotPay I 0 c (sub c 0) fullShare := by rw [sub_zero]; exact slotQ_end I c
theorem own_1 : slotPay I 1 c c fullShare ⊢ slotPay I 1 c (sub c 0) fullShare := by rw [sub_zero]
theorem own_2 : slotPay I 2 c c fullShare ⊢ slotPay I 2 c (sub c 0) fullShare := by rw [sub_zero]

theorem ptK_next (f : S1024x2048.Idx → Elt F .f32) (p : ℕ) :
    pt c cc0_stg6_0 fullShare (kAt I c f p 4) ⊢ pt c cc0_stg6_0 fullShare (kAt I c f (p + 1) 0) := by
  rw [kAt_next]
theorem ptV_next (f : S1024x2048.Idx → Elt F .f32) (p : ℕ) :
    pt c cc0_stg7_0 fullShare (vAt I c f p 4) ⊢ pt c cc0_stg7_0 fullShare (vAt I c f (p + 1) 0) := by
  rw [vAt_next]

section Dead
variable {α : Type} {Q : α → sProp (MT nD τ sig Unit (Elt F) ℕ UU ℕ)}
theorem wp_ldDeadQ {f : S1024x2048.Idx → Elt F .f32} {r : LoadRect S1024x2048} {hl} {p : Prog (TpuEff nD τ sig (Elt F) Λ₀ .tc) α} :
    pt c cc0_stg8_0 fullShare f
      ⊢ iprop((pt c cc0_stg8_0 fullShare f -∗ WP c p Q) -∗ WP c (.op (.load qM r hl) (fun _ => p)) Q) :=
  wp_ldAny c qM (k := fun _ => p)
theorem wp_ldDeadQr {f : S512x1024.Idx → Elt F .f32} {r : LoadRect S512x1024} {hl} {p : Prog (TpuEff nD τ sig (Elt F) Λ₀ .tc) α} :
    pt c cc0_stg9_0 fullShare f
      ⊢ iprop((pt c cc0_stg9_0 fullShare f -∗ WP c p Q) -∗ WP c (.op (.load qrM r hl) (fun _ => p)) Q) :=
  wp_ldAny c qrM (k := fun _ => p)
theorem wp_ldDeadKr {f : S1024x32.Idx → Elt F .f32} {r : LoadRect S1024x32} {hl} {p : Prog (TpuEff nD τ sig (Elt F) Λ₀ .tc) α} :
    pt c cc0_stg10_0 fullShare f
      ⊢ iprop((pt c cc0_stg10_0 fullShare f -∗ WP c p Q) -∗ WP c (.op (.load krM r hl) (fun _ => p)) Q) :=
  wp_ldAny c krM (k := fun _ => p)
theorem wp_stK' (f0 : S1024x2048.Idx → Elt F .f32) (p : ℕ) (n : Fin 4) (a : ℕ) (ha : n.val = a) {off : Fin 2 → ℕ} {inb : ∀ a, off a + S1024x512.size a ≤ S1024x2048.size a}
    {w : (Rect.unit (s := S1024x2048) off S1024x512.size inb).shape.Idx → Elt F .f32} {hx hm}
    {k : PUnit → Prog (TpuEff nD τ sig (Elt F) Λ₀ .tc) α} (hoff : off = ![0, 512 * n.val]) (hw : kB I c f0 (p + 1) n = w) :
    pt c cc0_stg6_0 fullShare (kAt I c f0 p a)
      ⊢ iprop((pt c cc0_stg6_0 fullShare (kAt I c f0 p (a + 1)) -∗ WP c (k ⟨⟩) Q)
        -∗ WP c (.op (.store kM (Rect.unit (s := S1024x2048) off S1024x512.size inb) w Finset.univ hx hm) k) Q) := by
  subst ha; exact wp_stK I c f0 p n hoff hw
theorem wp_stV' (f0 : S1024x2048.Idx → Elt F .f32) (p : ℕ) (n : Fin 4) (a : ℕ) (ha : n.val = a) {off : Fin 2 → ℕ} {inb : ∀ a, off a + S1024x512.size a ≤ S1024x2048.size a}
    {w : (Rect.unit (s := S1024x2048) off S1024x512.size inb).shape.Idx → Elt F .f32} {hx hm}
    {k : PUnit → Prog (TpuEff nD τ sig (Elt F) Λ₀ .tc) α} (hoff : off = ![0, 512 * n.val]) (hw : vB I c f0 (p + 1) n = w) :
    pt c cc0_stg7_0 fullShare (vAt I c f0 p a)
      ⊢ iprop((pt c cc0_stg7_0 fullShare (vAt I c f0 p (a + 1)) -∗ WP c (k ⟨⟩) Q)
        -∗ WP c (.op (.store vM (Rect.unit (s := S1024x2048) off S1024x512.size inb) w Finset.univ hx hm) k) Q) := by
  subst ha; exact wp_stV I c f0 p n hoff hw
theorem wp_stQ' (f0 : S1024x2048.Idx → Elt F .f32) (n : Fin 16) (a : ℕ) (ha : n.val = a) {off : Fin 2 → ℕ} {inb : ∀ a, off a + S1024x128.size a ≤ S1024x2048.size a}
    {w : (Rect.unit (s := S1024x2048) off S1024x128.size inb).shape.Idx → Elt F .f32} {hx hm}
    {k : PUnit → Prog (TpuEff nD τ sig (Elt F) Λ₀ .tc) α} (hoff : off = ![0, 128 * n.val]) (hw : qB I c n = w) :
    pt c cc0_stg8_0 fullShare (qAt I c f0 a)
      ⊢ iprop((pt c cc0_stg8_0 fullShare (qAt I c f0 (a + 1)) -∗ WP c (k ⟨⟩) Q)
        -∗ WP c (.op (.store qM (Rect.unit (s := S1024x2048) off S1024x128.size inb) w Finset.univ hx hm) k) Q) := by
  subst ha; exact wp_stQ I c f0 n hoff hw
theorem wp_stQr' (f0 : S512x1024.Idx → Elt F .f32) (n : Fin 4) (a : ℕ) (ha : n.val = a) {off : Fin 2 → ℕ} {inb : ∀ a, off a + S512x256.size a ≤ S512x1024.size a}
    {w : (Rect.unit (s := S512x1024) off S512x256.size inb).shape.Idx → Elt F .f32} {hx hm}
    {k : PUnit → Prog (TpuEff nD τ sig (Elt F) Λ₀ .tc) α} (hoff : off = ![0, 256 * n.val]) (hw : qrB I c n = w) :
    pt c cc0_stg9_0 fullShare (qrAt I c f0 a)
      ⊢ iprop((pt c cc0_stg9_0 fullShare (qrAt I c f0 (a + 1)) -∗ WP c (k ⟨⟩) Q)
        -∗ WP c (.op (.store qrM (Rect.unit (s := S512x1024) off S512x256.size inb) w Finset.univ hx hm) k) Q) := by
  subst ha; exact wp_stQr I c f0 n hoff hw
theorem wp_ldK' (f0 : S1024x2048.Idx → Elt F .f32) (p : ℕ) (n : Fin 4) (a : ℕ) (ha : n.val = a) {off : Fin 2 → ℕ} {inb : ∀ a, off a + S1024x512.size a ≤ S1024x2048.size a} {hl}
    {k : ((Rect.unit (s := S1024x2048) off S1024x512.size inb).shape.Idx → Elt F .f32) → Prog (TpuEff nD τ sig (Elt F) Λ₀ .tc) α}
    (hoff : off = ![0, 512 * n.val]) :
    pt c cc0_stg6_0 fullShare (kAt I c f0 p a)
      ⊢ iprop((pt c cc0_stg6_0 fullShare (kAt I c f0 p a) -∗ WP c (k (kB I c f0 p n)) Q)
        -∗ WP c (.op (.load kM (Rect.unit (s := S1024x2048) off S1024x512.size inb) hl) k) Q) := by
  subst ha; exact wp_ldK I c f0 p n hoff
theorem wp_ldV' (f0 : S1024x2048.Idx → Elt F .f32) (p : ℕ) (n : Fin 4) (a : ℕ) (ha : n.val = a) {off : Fin 2 → ℕ} {inb : ∀ a, off a + S1024x512.size a ≤ S1024x2048.size a} {hl}
    {k : ((Rect.unit (s := S1024x2048) off S1024x512.size inb).shape.Idx → Elt F .f32) → Prog (TpuEff nD τ sig (Elt F) Λ₀ .tc) α}
    (hoff : off = ![0, 512 * n.val]) :
    pt c cc0_stg7_0 fullShare (vAt I c f0 p a)
      ⊢ iprop((pt c cc0_stg7_0 fullShare (vAt I c f0 p a) -∗ WP c (k (vB I c f0 p n)) Q)
        -∗ WP c (.op (.load vM (Rect.unit (s := S1024x2048) off S1024x512.size inb) hl) k) Q) := by
  subst ha; exact wp_ldV I c f0 p n hoff
theorem wp_stOwn' (r : Fin 4) (a : ℕ) (ha : r.val = a) {off : Fin 3 → ℕ} {inb : ∀ a, off a + S1x128x256.size a ≤ S4x128x1024.size a}
    {w : (Rect.unit (s := S4x128x1024) off S1x128x256.size inb).shape.Idx → Elt F .bf16} {hx hm}
    {k : PUnit → Prog (TpuEff nD τ sig (Elt F) Λ₀ .tc) α} (hoff : off = ![c.val, 0, 256 * r.val]) (hw : cq I c r = w) :
    slotQ I c a
      ⊢ iprop((slotQ I c (a + 1) -∗ WP c (k ⟨⟩) Q)
        -∗ WP c (.op (.store c4M (Rect.unit (s := S4x128x1024) off S1x128x256.size inb) w Finset.univ hx hm) k) Q) := by
  subst ha; exact wp_stOwn I c r hoff hw
theorem wp_done (a : α) : Q a ⊢ WP c (.ret a) Q := by
  unfold WP; rw [wp_ret]; iintro H; imodintro; iexact H
end Dead

end Places

end Cert.KernelIdeal.Fused

end
-- ==== Proof.Parts1.lean ====
/-
The body of the fused kernel, parts 1 to 6.
-/
module

public import proofs.«01_k».proof.Proof.Offs

@[expose] public section

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- Part 1 of the body. -/
theorem part1 (I : Inp F) (K : Dev nD × Fin 19 → ℕ) (c : Dev nD) (fK fV fQ : S1024x2048.Idx → Elt F .f32) (fQr : S512x1024.Idx → Elt F .f32) (fKr : S1024x32.Idx → Elt F .f32)
    {Q : (Σ' (d0 : Dev nD) (v2 : BitVec 32) (v7 : BitVec 32), FVec F S128x256 .bf16) → sProp 𝕄} :
    iprop(recs I K ∗ (dutyTok ER (barCell (prv c)) 0 true ∗ (slotsAny (F := F) c (sub (prv c) 0) ∗ slotsAny (F := F) c (sub (prv c) 1) ∗ slotsAny (F := F) c (sub (prv c) 2))) ∗ ow c (O₀ c) ∗ dutyTok ER (barCell (nxt c)) 0 false ∗ (cred (tallyAt (barCell c) () 2) ∗ atPos ER (barCell c) 0 ∅ 0) ∗ wbAny (F := F) c 0 ∗ pt c main_arg4 fullShare (I.wq c) ∗ semVal ((c : Thread nD τ), .dma (wS 0)) 0 ∗ pt c cc0_stg0_0 fullShare (I.x c) ∗ pt c cc0_stg1_0 fullShare (I.wd c) ∗ slotAny (F := F) 0 c c)
      ⊢ iprop((iprop(ow c (OR c 9) ∗ semVal (barCell c) 0 ∗ slotIn (F := F) 0 (nxt c) (sub c 0) ∗ slotIn (F := F) 0 (nxt c) (sub c 1) ∗ slotIn (F := F) 0 (nxt c) (sub c 2) ∗ slotIn (F := F) 1 (nxt c) (sub c 0) ∗ slotIn (F := F) 1 (nxt c) (sub c 1) ∗ slotIn (F := F) 1 (nxt c) (sub c 2) ∗ slotIn (F := F) 2 (nxt c) (sub c 0) ∗ slotIn (F := F) 2 (nxt c) (sub c 1) ∗ slotIn (F := F) 2 (nxt c) (sub c 2) ∗ wbFly I c 0 0 ∗ pt c cc0_stg0_0 fullShare (I.x c) ∗ pt c cc0_stg1_0 fullShare (I.wd c) ∗ slotQ I c 0) -∗ Q ⟨c, (Scalar.remsi (Scalar.divsi (Dev.word c) 1#32) 4#32), (Scalar.remsi (Scalar.addi (Scalar.remsi (Scalar.divsi (Dev.word c) 1#32) 4#32) 1#32) 4#32), k0_pay2 (rd (I.x c) (Rect.unit (s := S1024x2048) ![256 * (0 : Fin 4).val, 0] S256x2048.size (inb_xq 0))) (rd (I.wd c) (Rect.unit (s := S2048x128) ![0, 0] S2048x128.size inb_S2048x128_S2048x128_0_0))⟩) -∗ WP c (k0_part1 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6) Q) := by
  rw [k0_part1_eq_skeleton]; unfold k0_part1_skel
  simp only [semSignalWord, semWaitWord, Prog.lift, Prog.bind_op, Prog.bind_ret, Prog.pure_eq_ret, wp_deviceId]
  iintro ⟨#HR, HsigL, How, HsigR, Hbar, Hwb0, Hwq, Hwz0, Hx, Hwd, Hslot00⟩ Hk
  icases HsigL with ⟨HsigL, HsigS⟩
  iapply (wp_sigL I K c (dv1 c) (by decide)) $$ [HsigL HsigS How]
  · isplitr; · iexact HR
    isplitl [HsigL]; · iexact HsigL
    isplitl [HsigS]; · iexact HsigS
    iexact How
  iintro How
  iapply (wp_sigR I K c (dv2 c) (by decide)) $$ [HsigR How]
  · isplitr; · iexact HR
    isplitl [HsigR]; · iexact HsigR
    iexact How
  iintro How
  icases Hbar with ⟨Hbar, Hbara⟩
  iapply (wp_waitBar I K c (by decide)) $$ [Hbar Hbara How]
  · isplitr; · iexact HR
    isplitl [Hbar]; · iexact Hbar
    isplitl [Hbara]; · iexact Hbara
    iexact How
  unfold barPay slotsAny
  iintro ⟨⟨⟨Hrem00, Hrem10, Hrem20⟩, ⟨Hrem01, Hrem11, Hrem21⟩, ⟨Hrem02, Hrem12, Hrem22⟩⟩, Hbar, How⟩
  iapply (wp_wqStart I c 0 0 rfl rfl (by rfl)) $$ [Hwq Hwb0 Hwz0]
  · isplitl [Hwq]; · iexact Hwq
    isplitl [Hwb0]; · iexact Hwb0
    iexact Hwz0
  iintro Hwb0
  iapply (wp_ldXQ I c 0 rfl) $$ Hx
  iintro Hx
  iapply (wp_ldWd I c rfl) $$ Hwd
  iintro Hwd
  ihave Hslot00 := (slotQ_start I c) $$ Hslot00
  iapply (wp_ldOwn I c 0 0 (o1 c)) $$ Hslot00
  iintro Hslot00
  iapply (wp_done c)
  iapply Hk
  isplitl [How]; · iexact How
  isplitl [Hbar]; · iexact Hbar
  isplitl [Hrem00]; · iexact Hrem00
  isplitl [Hrem01]; · iexact Hrem01
  isplitl [Hrem02]; · iexact Hrem02
  isplitl [Hrem10]; · iexact Hrem10
  isplitl [Hrem11]; · iexact Hrem11
  isplitl [Hrem12]; · iexact Hrem12
  isplitl [Hrem20]; · iexact Hrem20
  isplitl [Hrem21]; · iexact Hrem21
  isplitl [Hrem22]; · iexact Hrem22
  isplitl [Hwb0]; · iexact Hwb0
  isplitl [Hx]; · iexact Hx
  isplitl [Hwd]; · iexact Hwd
  iexact Hslot00

/-- Part 2 of the body. -/
theorem part2 (I : Inp F) (K : Dev nD × Fin 19 → ℕ) (c : Dev nD) (fK fV fQ : S1024x2048.Idx → Elt F .f32) (fQr : S512x1024.Idx → Elt F .f32) (fKr : S1024x32.Idx → Elt F .f32) (v2 : BitVec 32)
    {Q : (FVec F S128x2048 .f32) → sProp 𝕄} :
    iprop(recs I K ∗ slotQ I c 0 ∗ pt c cc0_stg0_0 fullShare (I.x c) ∗ pt c cc0_stg1_0 fullShare (I.wd c) ∗ pt c cc0_stg2_0 fullShare (I.wk c))
      ⊢ iprop((iprop(slotPay I 0 c (sub c 0) fullShare ∗ pt c cc0_stg0_0 fullShare (I.x c) ∗ pt c cc0_stg1_0 fullShare (I.wd c) ∗ pt c cc0_stg2_0 fullShare (I.wk c)) -∗ Q ((k0_pay7 (rd (I.wk c) (Rect.unit (s := S128x2048) ![0, 0] S128x2048.size inb_S128x2048_S128x2048_0_0))))) -∗ WP c (k0_part2 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 c v2 (k0_pay2 (rd (I.x c) (Rect.unit (s := S1024x2048) ![256 * (0 : Fin 4).val, 0] S256x2048.size (inb_xq 0))) (rd (I.wd c) (Rect.unit (s := S2048x128) ![0, 0] S2048x128.size inb_S2048x128_S2048x128_0_0)))) Q) := by
  rw [k0_part2_eq_skeleton]; unfold k0_part2_skel
  simp only [semSignalWord, semWaitWord, Prog.lift, Prog.bind_op, Prog.bind_ret, Prog.pure_eq_ret, wp_deviceId]
  iintro ⟨#HR, Hslot00, Hx, Hwd, Hwk⟩ Hk
  iapply (wp_stOwn' c I 0 0 rfl (o1 c) (by rfl)) $$ Hslot00
  iintro Hslot00
  iapply (wp_ldXQ I c 1 rfl) $$ Hx
  iintro Hx
  iapply (wp_ldWd I c rfl) $$ Hwd
  iintro Hwd
  iapply (wp_ldOwn I c 1 1 (o2 c)) $$ Hslot00
  iintro Hslot00
  iapply (wp_stOwn' c I 1 1 rfl (o2 c) (by rfl)) $$ Hslot00
  iintro Hslot00
  iapply (wp_ldXQ I c 2 rfl) $$ Hx
  iintro Hx
  iapply (wp_ldWd I c rfl) $$ Hwd
  iintro Hwd
  iapply (wp_ldOwn I c 2 2 (o3 c)) $$ Hslot00
  iintro Hslot00
  iapply (wp_stOwn' c I 2 2 rfl (o3 c) (by rfl)) $$ Hslot00
  iintro Hslot00
  iapply (wp_ldXQ I c 3 rfl) $$ Hx
  iintro Hx
  iapply (wp_ldWd I c rfl) $$ Hwd
  iintro Hwd
  iapply (wp_ldOwn I c 3 3 (o4 c)) $$ Hslot00
  iintro Hslot00
  iapply (wp_stOwn' c I 3 3 rfl (o4 c) (by rfl)) $$ Hslot00
  iintro Hslot00
  ihave Hslot00 := (own_0 c I) $$ Hslot00
  iapply (wp_ldWk I c rfl) $$ Hwk
  iintro Hwk
  iapply (wp_done c)
  iapply Hk
  isplitl [Hslot00]; · iexact Hslot00
  isplitl [Hx]; · iexact Hx
  isplitl [Hwd]; · iexact Hwd
  iexact Hwk

/-- Part 3 of the body. -/
theorem part3 (I : Inp F) (K : Dev nD × Fin 19 → ℕ) (c : Dev nD) (fK fV fQ : S1024x2048.Idx → Elt F .f32) (fQr : S512x1024.Idx → Elt F .f32) (fKr : S1024x32.Idx → Elt F .f32) (v2 v7 : BitVec 32)
    {Q : (PUnit) → sProp 𝕄} :
    iprop(recs I K ∗ slotAny (F := F) 1 c c ∗ pt c cc0_stg3_0 fullShare (I.wv c) ∗ slotAny (F := F) 2 c c ∗ slotPay I 0 c (sub c 0) fullShare ∗ ow c (OR c 9) ∗ sTok (F := F) c 0 0 ∗ slotIn (F := F) 0 (nxt c) (sub c 0))
      ⊢ iprop((iprop(slotPay I 1 c (sub c 0) fullShare ∗ pt c cc0_stg3_0 fullShare (I.wv c) ∗ slotPay I 2 c (sub c 0) fullShare ∗ slotPay I 0 c (sub c 0) fullShare.left ∗ ow c (OR c 8) ∗ sFly (F := F) c 0 0) -∗ Q ⟨⟩) -∗ WP c (k0_part3 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 c v2 v7 (k0_pay7 (rd (I.wk c) (Rect.unit (s := S128x2048) ![0, 0] S128x2048.size inb_S128x2048_S128x2048_0_0)))) Q) := by
  rw [k0_part3_eq_skeleton]; unfold k0_part3_skel
  simp only [semSignalWord, semWaitWord, Prog.lift, Prog.bind_op, Prog.bind_ret, Prog.pure_eq_ret, wp_deviceId]
  iintro ⟨#HR, Hslot10, Hwv, Hslot20, Hslot00, How, HtokS00, Hrem00⟩ Hk
  iapply (wp_ldOwnU c (o5 c)) $$ Hslot10
  iintro Hslot10
  iapply (wp_stOwnU I c (o5 c) (by rfl)) $$ Hslot10
  iintro Hslot10
  ihave Hslot10 := (own_1 c I) $$ Hslot10
  iapply (wp_ldWv I c rfl) $$ Hwv
  iintro Hwv
  iapply (wp_ldOwnW c (o5 c)) $$ Hslot20
  iintro Hslot20
  iapply (wp_stOwnW I c (o5 c) (by rfl)) $$ Hslot20
  iintro Hslot20
  ihave Hslot20 := (own_2 c I) $$ Hslot20
  iapply (wp_sendC I K c 0 0 rfl 0 (by decide) rfl rfl (dv3 c) (by rfl) (by rfl) (o6_0 c)) $$ [HtokS00 Hrem00 Hslot00 How]
  · isplitr; · iexact HR
    isplitl [HtokS00]; · iexact HtokS00
    isplitl [Hrem00]; · iexact Hrem00
    isplitl [Hslot00]; · iexact Hslot00
    iexact How
  iintro ⟨HtokS00, Hslot00, How⟩
  iapply (wp_done c)
  iapply Hk
  isplitl [Hslot10]; · iexact Hslot10
  isplitl [Hwv]; · iexact Hwv
  isplitl [Hslot20]; · iexact Hslot20
  isplitl [Hslot00]; · iexact Hslot00
  isplitl [How]; · iexact How
  iexact HtokS00

/-- Part 4 of the body. -/
theorem part4 (I : Inp F) (K : Dev nD × Fin 19 → ℕ) (c : Dev nD) (fK fV fQ : S1024x2048.Idx → Elt F .f32) (fQr : S512x1024.Idx → Elt F .f32) (fKr : S1024x32.Idx → Elt F .f32) (v2 v7 : BitVec 32)
    {Q : (Σ' (v107 : FVec F S128x1024 .bf16), Vec F S1x128x512 .bf16) → sProp 𝕄} :
    iprop(recs I K ∗ slotPay I 1 c (sub c 0) fullShare ∗ ow c (OR c 8) ∗ sTok (F := F) c 1 0 ∗ slotIn (F := F) 1 (nxt c) (sub c 0) ∗ slotPay I 2 c (sub c 0) fullShare ∗ sTok (F := F) c 2 0 ∗ slotIn (F := F) 2 (nxt c) (sub c 0) ∗ slotPay I 0 c (sub c 0) fullShare.left ∗ pt c cc0_stg6_0 fullShare (kAt I c fK 0 0) ∗ pt c cc0_stg7_0 fullShare (vAt I c fV 0 0))
      ⊢ iprop((iprop(slotPay I 1 c (sub c 0) fullShare.left ∗ ow c (OR c 6) ∗ sFly (F := F) c 1 0 ∗ slotPay I 2 c (sub c 0) fullShare.left ∗ sFly (F := F) c 2 0 ∗ slotPay I 0 c (sub c 0) fullShare.left ∗ pt c cc0_stg6_0 fullShare (kAt I c fK 0 1) ∗ pt c cc0_stg7_0 fullShare (vAt I c fV 0 1)) -∗ Q ⟨k0_pay10 (cS I (sub c 0)), (kS I (sub c 0) 1)⟩) -∗ WP c (k0_part4 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 c v2 v7) Q) := by
  rw [k0_part4_eq_skeleton]; unfold k0_part4_skel
  simp only [semSignalWord, semWaitWord, Prog.lift, Prog.bind_op, Prog.bind_ret, Prog.pure_eq_ret, wp_deviceId]
  iintro ⟨#HR, Hslot10, How, HtokS10, Hrem10, Hslot20, HtokS20, Hrem20, Hslot00, HK, HV⟩ Hk
  iapply (wp_sendK I K c 0 0 rfl 1 (by decide) rfl rfl (dv4 c) (by rfl) (by rfl) (o7_0 c)) $$ [HtokS10 Hrem10 Hslot10 How]
  · isplitr; · iexact HR
    isplitl [HtokS10]; · iexact HtokS10
    isplitl [Hrem10]; · iexact Hrem10
    isplitl [Hslot10]; · iexact Hslot10
    iexact How
  iintro ⟨HtokS10, Hslot10, How⟩
  iapply (wp_sendV I K c 0 0 rfl 2 (by decide) rfl rfl (dv5 c) (by rfl) (by rfl) (o7_0 c)) $$ [HtokS20 Hrem20 Hslot20 How]
  · isplitr; · iexact HR
    isplitl [HtokS20]; · iexact HtokS20
    isplitl [Hrem20]; · iexact Hrem20
    isplitl [Hslot20]; · iexact Hslot20
    iexact How
  iintro ⟨HtokS20, Hslot20, How⟩
  iapply (wp_ldC I c (sub c 0) (o8 c)) $$ Hslot00
  iintro Hslot00
  iapply (wp_ldU I c (sub c 0) 0 (o9 c)) $$ Hslot10
  iintro Hslot10
  iapply (wp_ldK' c I fK 0 0 0 rfl rfl) $$ HK
  iintro HK
  iapply (wp_stK' c I fK 0 0 0 rfl rfl (by rfl)) $$ HK
  iintro HK
  iapply (wp_ldW I c (sub c 0) 0 (o9 c)) $$ Hslot20
  iintro Hslot20
  iapply (wp_ldV' c I fV 0 0 0 rfl rfl) $$ HV
  iintro HV
  iapply (wp_stV' c I fV 0 0 0 rfl rfl (by rfl)) $$ HV
  iintro HV
  iapply (wp_ldU I c (sub c 0) 1 (o10 c)) $$ Hslot10
  iintro Hslot10
  iapply (wp_done c)
  iapply Hk
  isplitl [Hslot10]; · iexact Hslot10
  isplitl [How]; · iexact How
  isplitl [HtokS10]; · iexact HtokS10
  isplitl [Hslot20]; · iexact Hslot20
  isplitl [HtokS20]; · iexact HtokS20
  isplitl [Hslot00]; · iexact Hslot00
  isplitl [HK]; · iexact HK
  iexact HV

/-- Part 5 of the body. -/
theorem part5 (I : Inp F) (K : Dev nD × Fin 19 → ℕ) (c : Dev nD) (fK fV fQ : S1024x2048.Idx → Elt F .f32) (fQr : S512x1024.Idx → Elt F .f32) (fKr : S1024x32.Idx → Elt F .f32) (v2 : BitVec 32)
    {Q : (FVec F S1024x512 .f32) → sProp 𝕄} :
    iprop(recs I K ∗ pt c cc0_stg6_0 fullShare (kAt I c fK 0 1) ∗ slotPay I 2 c (sub c 0) fullShare.left ∗ pt c cc0_stg7_0 fullShare (vAt I c fV 0 1) ∗ slotPay I 1 c (sub c 0) fullShare.left)
      ⊢ iprop((iprop(pt c cc0_stg6_0 fullShare (kAt I c fK 1 0) ∗ slotPay I 2 c (sub c 0) fullShare.left ∗ pt c cc0_stg7_0 fullShare (vAt I c fV 0 3) ∗ slotPay I 1 c (sub c 0) fullShare.left) -∗ Q ((k0_pay18 (k0_pay10 (cS I (sub c 0))) (vS I (sub c 0) 3)))) -∗ WP c (k0_part5 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 c v2 (k0_pay10 (cS I (sub c 0))) (kS I (sub c 0) 1)) Q) := by
  rw [k0_part5_eq_skeleton]; unfold k0_part5_skel
  simp only [semSignalWord, semWaitWord, Prog.lift, Prog.bind_op, Prog.bind_ret, Prog.pure_eq_ret, wp_deviceId]
  iintro ⟨#HR, HK, Hslot20, HV, Hslot10⟩ Hk
  iapply (wp_ldK' c I fK 0 1 1 rfl rfl) $$ HK
  iintro HK
  iapply (wp_stK' c I fK 0 1 1 rfl rfl (by rfl)) $$ HK
  iintro HK
  iapply (wp_ldW I c (sub c 0) 1 (o10 c)) $$ Hslot20
  iintro Hslot20
  iapply (wp_ldV' c I fV 0 1 1 rfl rfl) $$ HV
  iintro HV
  iapply (wp_stV' c I fV 0 1 1 rfl rfl (by rfl)) $$ HV
  iintro HV
  iapply (wp_ldU I c (sub c 0) 2 (o11 c)) $$ Hslot10
  iintro Hslot10
  iapply (wp_ldK' c I fK 0 2 2 rfl rfl) $$ HK
  iintro HK
  iapply (wp_stK' c I fK 0 2 2 rfl rfl (by rfl)) $$ HK
  iintro HK
  iapply (wp_ldW I c (sub c 0) 2 (o11 c)) $$ Hslot20
  iintro Hslot20
  iapply (wp_ldV' c I fV 0 2 2 rfl rfl) $$ HV
  iintro HV
  iapply (wp_stV' c I fV 0 2 2 rfl rfl (by rfl)) $$ HV
  iintro HV
  iapply (wp_ldU I c (sub c 0) 3 (o12 c)) $$ Hslot10
  iintro Hslot10
  iapply (wp_ldK' c I fK 0 3 3 rfl rfl) $$ HK
  iintro HK
  iapply (wp_stK' c I fK 0 3 3 rfl rfl (by rfl)) $$ HK
  iintro HK
  ihave HK := (ptK_next c I fK 0) $$ HK
  iapply (wp_ldW I c (sub c 0) 3 (o12 c)) $$ Hslot20
  iintro Hslot20
  iapply (wp_done c)
  iapply Hk
  isplitl [HK]; · iexact HK
  isplitl [Hslot20]; · iexact Hslot20
  isplitl [HV]; · iexact HV
  iexact Hslot10

/-- Part 6 of the body. -/
theorem part6 (I : Inp F) (K : Dev nD × Fin 19 → ℕ) (c : Dev nD) (fK fV fQ : S1024x2048.Idx → Elt F .f32) (fQr : S512x1024.Idx → Elt F .f32) (fKr : S1024x32.Idx → Elt F .f32)
    {Q : (Σ' (v170 : FVec F S1024x128 .f32), FVec F S1024x512 .f32) → sProp 𝕄} :
    iprop(recs I K ∗ pt c cc0_stg7_0 fullShare (vAt I c fV 0 3) ∗ ow c (OR c 6) ∗ wbFly I c 0 0 ∗ wbAny (F := F) c 1 ∗ semVal ((c : Thread nD τ), .dma (wS 1)) 0 ∗ pt c cc0_stg0_0 fullShare (I.x c))
      ⊢ iprop((iprop(pt c cc0_stg7_0 fullShare (vAt I c fV 1 0) ∗ ow c (OR c 6) ∗ wbHas I c 0 0 ∗ semVal ((c : Thread nD τ), .dma (wS 0)) 0 ∗ wbFly I c 1 1 ∗ pt c cc0_stg0_0 fullShare (I.x c)) -∗ Q ⟨k0_pay19 (xC I c 0) (wqCR I c 0 0) (xC I c 1) (wqCR I c 0 1), k0_pay20 (xC I c 2)⟩) -∗ WP c (k0_part6 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 (k0_pay18 (k0_pay10 (cS I (sub c 0))) (vS I (sub c 0) 3))) Q) := by
  rw [k0_part6_eq_skeleton]; unfold k0_part6_skel
  simp only [semSignalWord, semWaitWord, Prog.lift, Prog.bind_op, Prog.bind_ret, Prog.pure_eq_ret, wp_deviceId]
  iintro ⟨#HR, HV, How, Hwb0, Hwb1, Hwz1, Hx⟩ Hk
  iapply (wp_ldV' c I fV 0 3 3 rfl rfl) $$ HV
  iintro HV
  iapply (wp_stV' c I fV 0 3 3 rfl rfl (by rfl)) $$ HV
  iintro HV
  ihave HV := (ptV_next c I fV 0) $$ HV
  iapply (wp_wqWait I K c 0 0 6 rfl (by rfl)) $$ [Hwb0 How]
  · isplitr; · iexact HR
    isplitl [Hwb0]; · iexact Hwb0
    iexact How
  iintro ⟨Hwq, Hwb0, Hwz0, How⟩
  iapply (wp_wqStart I c 1 1 rfl rfl (by rfl)) $$ [Hwq Hwb1 Hwz1]
  · isplitl [Hwq]; · iexact Hwq
    isplitl [Hwb1]; · iexact Hwb1
    iexact Hwz1
  iintro Hwb1
  iapply (wp_ldXC I c 0 rfl) $$ Hx
  iintro Hx
  iapply (wp_ldWb I c 0 0 0 rfl rfl) $$ Hwb0
  iintro Hwb0
  iapply (wp_ldXC I c 1 rfl) $$ Hx
  iintro Hx
  iapply (wp_ldWb I c 0 0 1 rfl rfl) $$ Hwb0
  iintro Hwb0
  iapply (wp_ldXC I c 2 rfl) $$ Hx
  iintro Hx
  iapply (wp_done c)
  iapply Hk
  isplitl [HV]; · iexact HV
  isplitl [How]; · iexact How
  isplitl [Hwb0]; · iexact Hwb0
  isplitl [Hwz0]; · iexact Hwz0
  isplitl [Hwb1]; · iexact Hwb1
  iexact Hx

end Cert.KernelIdeal.Fused

end
-- ==== Proof.Parts2.lean ====
/-
The body of the fused kernel, parts 7 to 12.
-/
module

public import proofs.«01_k».proof.Proof.Offs

@[expose] public section

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- Part 7 of the body. -/
theorem part7 (I : Inp F) (K : Dev nD × Fin 19 → ℕ) (c : Dev nD) (fK fV fQ : S1024x2048.Idx → Elt F .f32) (fQr : S512x1024.Idx → Elt F .f32) (fKr : S1024x32.Idx → Elt F .f32)
    {Q : (FVec F S1024x512 .f32) → sProp 𝕄} :
    iprop(recs I K ∗ wbHas I c 0 0 ∗ pt c cc0_stg0_0 fullShare (I.x c) ∗ pt c cc0_stg8_0 fullShare (qAt I c fQ 0) ∗ ow c (OR c 6) ∗ wbFly I c 1 1 ∗ semVal ((c : Thread nD τ), .dma (wS 0)) 0)
      ⊢ iprop((iprop(wbFly I c 0 2 ∗ pt c cc0_stg0_0 fullShare (I.x c) ∗ pt c cc0_stg8_0 fullShare (qAt I c fQ 1) ∗ ow c (OR c 6) ∗ wbHas I c 1 1 ∗ semVal ((c : Thread nD τ), .dma (wS 1)) 0) -∗ Q ((k0_pay22 (xC I c 0)))) -∗ WP c (k0_part7 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 (k0_pay19 (xC I c 0) (wqCR I c 0 0) (xC I c 1) (wqCR I c 0 1)) (k0_pay20 (xC I c 2))) Q) := by
  rw [k0_part7_eq_skeleton]; unfold k0_part7_skel
  simp only [semSignalWord, semWaitWord, Prog.lift, Prog.bind_op, Prog.bind_ret, Prog.pure_eq_ret, wp_deviceId]
  iintro ⟨#HR, Hwb0, Hx, HQ, How, Hwb1, Hwz0⟩ Hk
  iapply (wp_ldWb I c 0 0 2 rfl rfl) $$ Hwb0
  iintro Hwb0
  iapply (wp_ldXC I c 3 rfl) $$ Hx
  iintro Hx
  iapply (wp_ldWb I c 0 0 3 rfl rfl) $$ Hwb0
  iintro Hwb0
  iapply (wp_ldDeadQ c) $$ HQ
  iintro HQ
  iapply (wp_stQ' c I fQ 0 0 rfl rfl (by rfl)) $$ HQ
  iintro HQ
  iapply (wp_wqWait I K c 1 1 6 rfl (by rfl)) $$ [Hwb1 How]
  · isplitr; · iexact HR
    isplitl [Hwb1]; · iexact Hwb1
    iexact How
  iintro ⟨Hwq, Hwb1, Hwz1, How⟩
  ihave Hwb0 := (wb_has_any I c 0 0) $$ Hwb0
  iapply (wp_wqStart I c 0 2 rfl rfl (by rfl)) $$ [Hwq Hwb0 Hwz0]
  · isplitl [Hwq]; · iexact Hwq
    isplitl [Hwb0]; · iexact Hwb0
    iexact Hwz0
  iintro Hwb0
  iapply (wp_ldXC I c 0 rfl) $$ Hx
  iintro Hx
  iapply (wp_done c)
  iapply Hk
  isplitl [Hwb0]; · iexact Hwb0
  isplitl [Hx]; · iexact Hx
  isplitl [HQ]; · iexact HQ
  isplitl [How]; · iexact How
  isplitl [Hwb1]; · iexact Hwb1
  iexact Hwz1

/-- Part 8 of the body. -/
theorem part8 (I : Inp F) (K : Dev nD × Fin 19 → ℕ) (c : Dev nD) (fK fV fQ : S1024x2048.Idx → Elt F .f32) (fQr : S512x1024.Idx → Elt F .f32) (fKr : S1024x32.Idx → Elt F .f32)
    {Q : (PUnit) → sProp 𝕄} :
    iprop(recs I K ∗ wbHas I c 1 1 ∗ pt c cc0_stg0_0 fullShare (I.x c) ∗ pt c cc0_stg8_0 fullShare (qAt I c fQ 1))
      ⊢ iprop((iprop(wbHas I c 1 1 ∗ pt c cc0_stg0_0 fullShare (I.x c) ∗ pt c cc0_stg8_0 fullShare (qAt I c fQ 2)) -∗ Q ⟨⟩) -∗ WP c (k0_part8 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 (k0_pay22 (xC I c 0))) Q) := by
  rw [k0_part8_eq_skeleton]; unfold k0_part8_skel
  simp only [semSignalWord, semWaitWord, Prog.lift, Prog.bind_op, Prog.bind_ret, Prog.pure_eq_ret, wp_deviceId]
  iintro ⟨#HR, Hwb1, Hx, HQ⟩ Hk
  iapply (wp_ldWb I c 1 1 0 rfl rfl) $$ Hwb1
  iintro Hwb1
  iapply (wp_ldXC I c 1 rfl) $$ Hx
  iintro Hx
  iapply (wp_ldWb I c 1 1 1 rfl rfl) $$ Hwb1
  iintro Hwb1
  iapply (wp_ldXC I c 2 rfl) $$ Hx
  iintro Hx
  iapply (wp_ldWb I c 1 1 2 rfl rfl) $$ Hwb1
  iintro Hwb1
  iapply (wp_ldXC I c 3 rfl) $$ Hx
  iintro Hx
  iapply (wp_ldWb I c 1 1 3 rfl rfl) $$ Hwb1
  iintro Hwb1
  iapply (wp_ldDeadQ c) $$ HQ
  iintro HQ
  iapply (wp_stQ' c I fQ 1 1 rfl rfl (by rfl)) $$ HQ
  iintro HQ
  iapply (wp_done c)
  iapply Hk
  isplitl [Hwb1]; · iexact Hwb1
  isplitl [Hx]; · iexact Hx
  iexact HQ

/-- Part 9 of the body. -/
theorem part9 (I : Inp F) (K : Dev nD × Fin 19 → ℕ) (c : Dev nD) (fK fV fQ : S1024x2048.Idx → Elt F .f32) (fQr : S512x1024.Idx → Elt F .f32) (fKr : S1024x32.Idx → Elt F .f32)
    {Q : (Σ' (v246 : FVec F S1024x128 .f32), FVec F S1024x512 .f32) → sProp 𝕄} :
    iprop(recs I K ∗ ow c (OR c 6) ∗ wbFly I c 0 2 ∗ wbHas I c 1 1 ∗ semVal ((c : Thread nD τ), .dma (wS 1)) 0 ∗ pt c cc0_stg0_0 fullShare (I.x c))
      ⊢ iprop((iprop(ow c (OR c 6) ∗ wbHas I c 0 2 ∗ semVal ((c : Thread nD τ), .dma (wS 0)) 0 ∗ wbFly I c 1 3 ∗ pt c cc0_stg0_0 fullShare (I.x c)) -∗ Q ⟨k0_pay24 (xC I c 0) (wqCR I c 2 0) (xC I c 1) (wqCR I c 2 1), k0_pay25 (xC I c 2)⟩) -∗ WP c (k0_part9 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6) Q) := by
  rw [k0_part9_eq_skeleton]; unfold k0_part9_skel
  simp only [semSignalWord, semWaitWord, Prog.lift, Prog.bind_op, Prog.bind_ret, Prog.pure_eq_ret, wp_deviceId]
  iintro ⟨#HR, How, Hwb0, Hwb1, Hwz1, Hx⟩ Hk
  iapply (wp_wqWait I K c 0 2 6 rfl (by rfl)) $$ [Hwb0 How]
  · isplitr; · iexact HR
    isplitl [Hwb0]; · iexact Hwb0
    iexact How
  iintro ⟨Hwq, Hwb0, Hwz0, How⟩
  ihave Hwb1 := (wb_has_any I c 1 1) $$ Hwb1
  iapply (wp_wqStart I c 1 3 rfl rfl (by rfl)) $$ [Hwq Hwb1 Hwz1]
  · isplitl [Hwq]; · iexact Hwq
    isplitl [Hwb1]; · iexact Hwb1
    iexact Hwz1
  iintro Hwb1
  iapply (wp_ldXC I c 0 rfl) $$ Hx
  iintro Hx
  iapply (wp_ldWb I c 0 2 0 rfl rfl) $$ Hwb0
  iintro Hwb0
  iapply (wp_ldXC I c 1 rfl) $$ Hx
  iintro Hx
  iapply (wp_ldWb I c 0 2 1 rfl rfl) $$ Hwb0
  iintro Hwb0
  iapply (wp_ldXC I c 2 rfl) $$ Hx
  iintro Hx
  iapply (wp_done c)
  iapply Hk
  isplitl [How]; · iexact How
  isplitl [Hwb0]; · iexact Hwb0
  isplitl [Hwz0]; · iexact Hwz0
  isplitl [Hwb1]; · iexact Hwb1
  iexact Hx

/-- Part 10 of the body. -/
theorem part10 (I : Inp F) (K : Dev nD × Fin 19 → ℕ) (c : Dev nD) (fK fV fQ : S1024x2048.Idx → Elt F .f32) (fQr : S512x1024.Idx → Elt F .f32) (fKr : S1024x32.Idx → Elt F .f32)
    {Q : (Σ' (v273 : FVec F S1024x512 .f32) (v276 : Vec F S512x128 .f32), FVec F S1024x128 .f32) → sProp 𝕄} :
    iprop(recs I K ∗ wbHas I c 0 2 ∗ pt c cc0_stg0_0 fullShare (I.x c) ∗ pt c cc0_stg8_0 fullShare (qAt I c fQ 2) ∗ ow c (OR c 6) ∗ wbFly I c 1 3 ∗ semVal ((c : Thread nD τ), .dma (wS 0)) 0)
      ⊢ iprop((iprop(wbFly I c 0 4 ∗ pt c cc0_stg0_0 fullShare (I.x c) ∗ pt c cc0_stg8_0 fullShare (qAt I c fQ 3) ∗ ow c (OR c 6) ∗ wbHas I c 1 3 ∗ semVal ((c : Thread nD τ), .dma (wS 1)) 0) -∗ Q ⟨k0_pay27 (xC I c 0), (wqCR I c 3 0), (constant S1024x128 .f32 0x00000000#32)⟩) -∗ WP c (k0_part10 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 (k0_pay24 (xC I c 0) (wqCR I c 2 0) (xC I c 1) (wqCR I c 2 1)) (k0_pay25 (xC I c 2))) Q) := by
  rw [k0_part10_eq_skeleton]; unfold k0_part10_skel
  simp only [semSignalWord, semWaitWord, Prog.lift, Prog.bind_op, Prog.bind_ret, Prog.pure_eq_ret, wp_deviceId]
  iintro ⟨#HR, Hwb0, Hx, HQ, How, Hwb1, Hwz0⟩ Hk
  iapply (wp_ldWb I c 0 2 2 rfl rfl) $$ Hwb0
  iintro Hwb0
  iapply (wp_ldXC I c 3 rfl) $$ Hx
  iintro Hx
  iapply (wp_ldWb I c 0 2 3 rfl rfl) $$ Hwb0
  iintro Hwb0
  iapply (wp_ldDeadQ c) $$ HQ
  iintro HQ
  iapply (wp_stQ' c I fQ 2 2 rfl rfl (by rfl)) $$ HQ
  iintro HQ
  iapply (wp_wqWait I K c 1 3 6 rfl (by rfl)) $$ [Hwb1 How]
  · isplitr; · iexact HR
    isplitl [Hwb1]; · iexact Hwb1
    iexact How
  iintro ⟨Hwq, Hwb1, Hwz1, How⟩
  ihave Hwb0 := (wb_has_any I c 0 2) $$ Hwb0
  iapply (wp_wqStart I c 0 4 rfl rfl (by rfl)) $$ [Hwq Hwb0 Hwz0]
  · isplitl [Hwq]; · iexact Hwq
    isplitl [Hwb0]; · iexact Hwb0
    iexact Hwz0
  iintro Hwb0
  iapply (wp_ldXC I c 0 rfl) $$ Hx
  iintro Hx
  iapply (wp_ldWb I c 1 3 0 rfl rfl) $$ Hwb1
  iintro Hwb1
  iapply (wp_done c)
  iapply Hk
  isplitl [Hwb0]; · iexact Hwb0
  isplitl [Hx]; · iexact Hx
  isplitl [HQ]; · iexact HQ
  isplitl [How]; · iexact How
  isplitl [Hwb1]; · iexact Hwb1
  iexact Hwz1

/-- Part 11 of the body. -/
theorem part11 (I : Inp F) (K : Dev nD × Fin 19 → ℕ) (c : Dev nD) (fK fV fQ : S1024x2048.Idx → Elt F .f32) (fQr : S512x1024.Idx → Elt F .f32) (fKr : S1024x32.Idx → Elt F .f32)
    {Q : (PUnit) → sProp 𝕄} :
    iprop(recs I K ∗ pt c cc0_stg0_0 fullShare (I.x c) ∗ wbHas I c 1 3 ∗ pt c cc0_stg8_0 fullShare (qAt I c fQ 3))
      ⊢ iprop((iprop(pt c cc0_stg0_0 fullShare (I.x c) ∗ wbHas I c 1 3 ∗ pt c cc0_stg8_0 fullShare (qAt I c fQ 4)) -∗ Q ⟨⟩) -∗ WP c (k0_part11 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 (k0_pay27 (xC I c 0)) (wqCR I c 3 0) (constant S1024x128 .f32 0x00000000#32)) Q) := by
  rw [k0_part11_eq_skeleton]; unfold k0_part11_skel
  simp only [semSignalWord, semWaitWord, Prog.lift, Prog.bind_op, Prog.bind_ret, Prog.pure_eq_ret, wp_deviceId]
  iintro ⟨#HR, Hx, Hwb1, HQ⟩ Hk
  iapply (wp_ldXC I c 1 rfl) $$ Hx
  iintro Hx
  iapply (wp_ldWb I c 1 3 1 rfl rfl) $$ Hwb1
  iintro Hwb1
  iapply (wp_ldXC I c 2 rfl) $$ Hx
  iintro Hx
  iapply (wp_ldWb I c 1 3 2 rfl rfl) $$ Hwb1
  iintro Hwb1
  iapply (wp_ldXC I c 3 rfl) $$ Hx
  iintro Hx
  iapply (wp_ldWb I c 1 3 3 rfl rfl) $$ Hwb1
  iintro Hwb1
  iapply (wp_ldDeadQ c) $$ HQ
  iintro HQ
  iapply (wp_stQ' c I fQ 3 3 rfl rfl (by rfl)) $$ HQ
  iintro HQ
  iapply (wp_done c)
  iapply Hk
  isplitl [Hx]; · iexact Hx
  isplitl [Hwb1]; · iexact Hwb1
  iexact HQ

/-- Part 12 of the body. -/
theorem part12 (I : Inp F) (K : Dev nD × Fin 19 → ℕ) (c : Dev nD) (fK fV fQ : S1024x2048.Idx → Elt F .f32) (fQr : S512x1024.Idx → Elt F .f32) (fKr : S1024x32.Idx → Elt F .f32)
    {Q : (FVec F S1024x128 .f32) → sProp 𝕄} :
    iprop(recs I K ∗ ow c (OR c 6) ∗ wbFly I c 0 4 ∗ wbHas I c 1 3 ∗ semVal ((c : Thread nD τ), .dma (wS 1)) 0 ∗ pt c cc0_stg0_0 fullShare (I.x c))
      ⊢ iprop((iprop(ow c (OR c 6) ∗ wbHas I c 0 4 ∗ semVal ((c : Thread nD τ), .dma (wS 0)) 0 ∗ wbFly I c 1 5 ∗ pt c cc0_stg0_0 fullShare (I.x c)) -∗ Q ((k0_pay29 (xC I c 0) (wqCR I c 4 0) (xC I c 1) (wqCR I c 4 1) (xC I c 2) (wqCR I c 4 2)))) -∗ WP c (k0_part12 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6) Q) := by
  rw [k0_part12_eq_skeleton]; unfold k0_part12_skel
  simp only [semSignalWord, semWaitWord, Prog.lift, Prog.bind_op, Prog.bind_ret, Prog.pure_eq_ret, wp_deviceId]
  iintro ⟨#HR, How, Hwb0, Hwb1, Hwz1, Hx⟩ Hk
  iapply (wp_wqWait I K c 0 4 6 rfl (by rfl)) $$ [Hwb0 How]
  · isplitr; · iexact HR
    isplitl [Hwb0]; · iexact Hwb0
    iexact How
  iintro ⟨Hwq, Hwb0, Hwz0, How⟩
  ihave Hwb1 := (wb_has_any I c 1 3) $$ Hwb1
  iapply (wp_wqStart I c 1 5 rfl rfl (by rfl)) $$ [Hwq Hwb1 Hwz1]
  · isplitl [Hwq]; · iexact Hwq
    isplitl [Hwb1]; · iexact Hwb1
    iexact Hwz1
  iintro Hwb1
  iapply (wp_ldXC I c 0 rfl) $$ Hx
  iintro Hx
  iapply (wp_ldWb I c 0 4 0 rfl rfl) $$ Hwb0
  iintro Hwb0
  iapply (wp_ldXC I c 1 rfl) $$ Hx
  iintro Hx
  iapply (wp_ldWb I c 0 4 1 rfl rfl) $$ Hwb0
  iintro Hwb0
  iapply (wp_ldXC I c 2 rfl) $$ Hx
  iintro Hx
  iapply (wp_ldWb I c 0 4 2 rfl rfl) $$ Hwb0
  iintro Hwb0
  iapply (wp_done c)
  iapply Hk
  isplitl [How]; · iexact How
  isplitl [Hwb0]; · iexact Hwb0
  isplitl [Hwz0]; · iexact Hwz0
  isplitl [Hwb1]; · iexact Hwb1
  iexact Hx

end Cert.KernelIdeal.Fused

end
-- ==== Proof.Parts3.lean ====
/-
The body of the fused kernel, parts 13 to 18.
-/
module

public import proofs.«01_k».proof.Proof.Offs

@[expose] public section

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- Part 13 of the body. -/
theorem part13 (I : Inp F) (K : Dev nD × Fin 19 → ℕ) (c : Dev nD) (fK fV fQ : S1024x2048.Idx → Elt F .f32) (fQr : S512x1024.Idx → Elt F .f32) (fKr : S1024x32.Idx → Elt F .f32) (v7 : BitVec 32)
    {Q : (PUnit) → sProp 𝕄} :
    iprop(recs I K ∗ pt c cc0_stg0_0 fullShare (I.x c) ∗ wbHas I c 0 4 ∗ pt c cc0_stg8_0 fullShare (qAt I c fQ 4) ∗ ow c (OR c 6) ∗ slotPay I 0 c (sub c 0) fullShare.left ∗ sFly (F := F) c 0 0 ∗ rTok (F := F) c 0 0)
      ⊢ iprop((iprop(pt c cc0_stg0_0 fullShare (I.x c) ∗ wbHas I c 0 4 ∗ pt c cc0_stg8_0 fullShare (qAt I c fQ 5) ∗ ow c (OR c 6) ∗ slotPay I 0 c (sub c 0) fullShare ∗ semVal (sCell c 0 0) 0 ∗ semVal (rCell c 0 0) 0 ∗ slotPay I 0 c (sub c 1) fullShare) -∗ Q ⟨⟩) -∗ WP c (k0_part13 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 c v7 (k0_pay29 (xC I c 0) (wqCR I c 4 0) (xC I c 1) (wqCR I c 4 1) (xC I c 2) (wqCR I c 4 2))) Q) := by
  rw [k0_part13_eq_skeleton]; unfold k0_part13_skel
  simp only [semSignalWord, semWaitWord, Prog.lift, Prog.bind_op, Prog.bind_ret, Prog.pure_eq_ret, wp_deviceId]
  iintro ⟨#HR, Hx, Hwb0, HQ, How, Hslot00, HtokS00, HtokR00⟩ Hk
  iapply (wp_ldXC I c 3 rfl) $$ Hx
  iintro Hx
  iapply (wp_ldWb I c 0 4 3 rfl rfl) $$ Hwb0
  iintro Hwb0
  iapply (wp_ldDeadQ c) $$ HQ
  iintro HQ
  iapply (wp_stQ' c I fQ 4 4 rfl rfl (by rfl)) $$ HQ
  iintro HQ
  iapply (wp_waitS I K c 0 0 0 rfl 6 (by rfl) (by rfl)) $$ [HtokS00 Hslot00 How]
  · isplitr; · iexact HR
    isplitl [HtokS00]; · iexact HtokS00
    isplitl [Hslot00]; · iexact Hslot00
    iexact How
  iintro ⟨Hslot00, HtokS00, How⟩
  iapply (wp_waitR I K c 0 0 1 rfl 6 (by decide) (by rfl) (by rfl)) $$ [HtokR00 How]
  · isplitr; · iexact HR
    isplitl [HtokR00]; · iexact HtokR00
    iexact How
  iintro ⟨Hslot01, HtokR00, How⟩
  iapply (wp_done c)
  iapply Hk
  isplitl [Hx]; · iexact Hx
  isplitl [Hwb0]; · iexact Hwb0
  isplitl [HQ]; · iexact HQ
  isplitl [How]; · iexact How
  isplitl [Hslot00]; · iexact Hslot00
  isplitl [HtokS00]; · iexact HtokS00
  isplitl [HtokR00]; · iexact HtokR00
  iexact Hslot01

/-- Part 14 of the body. -/
theorem part14 (I : Inp F) (K : Dev nD × Fin 19 → ℕ) (c : Dev nD) (fK fV fQ : S1024x2048.Idx → Elt F .f32) (fQr : S512x1024.Idx → Elt F .f32) (fKr : S1024x32.Idx → Elt F .f32) (v7 : BitVec 32)
    {Q : (PUnit) → sProp 𝕄} :
    iprop(recs I K ∗ ow c (OR c 6) ∗ slotPay I 1 c (sub c 0) fullShare.left ∗ sFly (F := F) c 1 0 ∗ rTok (F := F) c 1 0 ∗ slotPay I 2 c (sub c 0) fullShare.left ∗ sFly (F := F) c 2 0)
      ⊢ iprop((iprop(ow c (OR c 6) ∗ slotPay I 1 c (sub c 0) fullShare ∗ semVal (sCell c 1 0) 0 ∗ semVal (rCell c 1 0) 0 ∗ slotPay I 1 c (sub c 1) fullShare ∗ slotPay I 2 c (sub c 0) fullShare ∗ semVal (sCell c 2 0) 0) -∗ Q ⟨⟩) -∗ WP c (k0_part14 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 c v7) Q) := by
  rw [k0_part14_eq_skeleton]; unfold k0_part14_skel
  simp only [semSignalWord, semWaitWord, Prog.lift, Prog.bind_op, Prog.bind_ret, Prog.pure_eq_ret, wp_deviceId]
  iintro ⟨#HR, How, Hslot10, HtokS10, HtokR10, Hslot20, HtokS20⟩ Hk
  iapply (wp_waitS I K c 1 0 0 rfl 6 (by rfl) (by rfl)) $$ [HtokS10 Hslot10 How]
  · isplitr; · iexact HR
    isplitl [HtokS10]; · iexact HtokS10
    isplitl [Hslot10]; · iexact Hslot10
    iexact How
  iintro ⟨Hslot10, HtokS10, How⟩
  iapply (wp_waitR I K c 1 0 1 rfl 6 (by decide) (by rfl) (by rfl)) $$ [HtokR10 How]
  · isplitr; · iexact HR
    isplitl [HtokR10]; · iexact HtokR10
    iexact How
  iintro ⟨Hslot11, HtokR10, How⟩
  iapply (wp_waitS I K c 2 0 0 rfl 6 (by rfl) (by rfl)) $$ [HtokS20 Hslot20 How]
  · isplitr; · iexact HR
    isplitl [HtokS20]; · iexact HtokS20
    isplitl [Hslot20]; · iexact Hslot20
    iexact How
  iintro ⟨Hslot20, HtokS20, How⟩
  iapply (wp_done c)
  iapply Hk
  isplitl [How]; · iexact How
  isplitl [Hslot10]; · iexact Hslot10
  isplitl [HtokS10]; · iexact HtokS10
  isplitl [HtokR10]; · iexact HtokR10
  isplitl [Hslot11]; · iexact Hslot11
  isplitl [Hslot20]; · iexact Hslot20
  iexact HtokS20

/-- Part 15 of the body. -/
theorem part15 (I : Inp F) (K : Dev nD × Fin 19 → ℕ) (c : Dev nD) (fK fV fQ : S1024x2048.Idx → Elt F .f32) (fQr : S512x1024.Idx → Elt F .f32) (fKr : S1024x32.Idx → Elt F .f32) (v2 v7 : BitVec 32)
    {Q : (PUnit) → sProp 𝕄} :
    iprop(recs I K ∗ ow c (OR c 6) ∗ rTok (F := F) c 2 0 ∗ slotPay I 0 c (sub c 1) fullShare ∗ sTok (F := F) c 0 1 ∗ slotIn (F := F) 0 (nxt c) (sub c 1) ∗ slotPay I 1 c (sub c 1) fullShare ∗ sTok (F := F) c 1 1 ∗ slotIn (F := F) 1 (nxt c) (sub c 1))
      ⊢ iprop((iprop(ow c (OR c 4) ∗ semVal (rCell c 2 0) 0 ∗ slotPay I 2 c (sub c 1) fullShare ∗ slotPay I 0 c (sub c 1) fullShare.left ∗ sFly (F := F) c 0 1 ∗ slotPay I 1 c (sub c 1) fullShare.left ∗ sFly (F := F) c 1 1) -∗ Q ⟨⟩) -∗ WP c (k0_part15 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 c v2 v7) Q) := by
  rw [k0_part15_eq_skeleton]; unfold k0_part15_skel
  simp only [semSignalWord, semWaitWord, Prog.lift, Prog.bind_op, Prog.bind_ret, Prog.pure_eq_ret, wp_deviceId]
  iintro ⟨#HR, How, HtokR20, Hslot01, HtokS01, Hrem01, Hslot11, HtokS11, Hrem11⟩ Hk
  iapply (wp_waitR I K c 2 0 1 rfl 6 (by decide) (by rfl) (by rfl)) $$ [HtokR20 How]
  · isplitr; · iexact HR
    isplitl [HtokR20]; · iexact HtokR20
    iexact How
  iintro ⟨Hslot21, HtokR20, How⟩
  iapply (wp_sendC I K c 1 1 rfl 3 (by decide) rfl rfl (dv6 c) (by rfl) (by rfl) (o6_1 c)) $$ [HtokS01 Hrem01 Hslot01 How]
  · isplitr; · iexact HR
    isplitl [HtokS01]; · iexact HtokS01
    isplitl [Hrem01]; · iexact Hrem01
    isplitl [Hslot01]; · iexact Hslot01
    iexact How
  iintro ⟨HtokS01, Hslot01, How⟩
  iapply (wp_sendK I K c 1 1 rfl 4 (by decide) rfl rfl (dv7 c) (by rfl) (by rfl) (o7_1 c)) $$ [HtokS11 Hrem11 Hslot11 How]
  · isplitr; · iexact HR
    isplitl [HtokS11]; · iexact HtokS11
    isplitl [Hrem11]; · iexact Hrem11
    isplitl [Hslot11]; · iexact Hslot11
    iexact How
  iintro ⟨HtokS11, Hslot11, How⟩
  iapply (wp_done c)
  iapply Hk
  isplitl [How]; · iexact How
  isplitl [HtokR20]; · iexact HtokR20
  isplitl [Hslot21]; · iexact Hslot21
  isplitl [Hslot01]; · iexact Hslot01
  isplitl [HtokS01]; · iexact HtokS01
  isplitl [Hslot11]; · iexact Hslot11
  iexact HtokS11

/-- Part 16 of the body. -/
theorem part16 (I : Inp F) (K : Dev nD × Fin 19 → ℕ) (c : Dev nD) (fK fV fQ : S1024x2048.Idx → Elt F .f32) (fQr : S512x1024.Idx → Elt F .f32) (fKr : S1024x32.Idx → Elt F .f32) (v2 : BitVec 32)
    {Q : (Σ' (v415 : BitVec 32) (v418 : FVec F S128x1024 .bf16) (v437 : FVec F S128x512 .bf16), FVec F S1024x512 .f32) → sProp 𝕄} :
    iprop(recs I K ∗ slotPay I 2 c (sub c 1) fullShare ∗ ow c (OR c 4) ∗ sTok (F := F) c 2 1 ∗ slotIn (F := F) 2 (nxt c) (sub c 1) ∗ slotPay I 0 c (sub c 1) fullShare.left ∗ slotPay I 1 c (sub c 1) fullShare.left ∗ pt c cc0_stg6_0 fullShare (kAt I c fK 1 0) ∗ pt c cc0_stg7_0 fullShare (vAt I c fV 1 0))
      ⊢ iprop((iprop(slotPay I 2 c (sub c 1) fullShare.left ∗ ow c (OR c 3) ∗ sFly (F := F) c 2 1 ∗ slotPay I 0 c (sub c 1) fullShare.left ∗ slotPay I 1 c (sub c 1) fullShare.left ∗ pt c cc0_stg6_0 fullShare (kAt I c fK 1 1) ∗ pt c cc0_stg7_0 fullShare (vAt I c fV 1 1)) -∗ Q ⟨(Scalar.remsi (Scalar.subi (Scalar.addi v2 4#32) 1#32) 4#32), k0_pay31 (cS I (sub c 1)), k0_pay34 (kS I (sub c 1) 1), (constant S1024x512 .f32 0x00000000#32)⟩) -∗ WP c (k0_part16 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 c v2) Q) := by
  rw [k0_part16_eq_skeleton]; unfold k0_part16_skel
  simp only [semSignalWord, semWaitWord, Prog.lift, Prog.bind_op, Prog.bind_ret, Prog.pure_eq_ret, wp_deviceId]
  iintro ⟨#HR, Hslot21, How, HtokS21, Hrem21, Hslot01, Hslot11, HK, HV⟩ Hk
  iapply (wp_sendV I K c 1 1 rfl 5 (by decide) rfl rfl (dv8 c) (by rfl) (by rfl) (o7_1 c)) $$ [HtokS21 Hrem21 Hslot21 How]
  · isplitr; · iexact HR
    isplitl [HtokS21]; · iexact HtokS21
    isplitl [Hrem21]; · iexact Hrem21
    isplitl [Hslot21]; · iexact Hslot21
    iexact How
  iintro ⟨HtokS21, Hslot21, How⟩
  iapply (wp_ldC I c (sub c 1) (o13_1 c)) $$ Hslot01
  iintro Hslot01
  iapply (wp_ldU I c (sub c 1) 0 (o14_1 c)) $$ Hslot11
  iintro Hslot11
  iapply (wp_ldK' c I fK 1 0 0 rfl rfl) $$ HK
  iintro HK
  iapply (wp_ldK' c I fK 1 0 0 rfl rfl) $$ HK
  iintro HK
  iapply (wp_stK' c I fK 1 0 0 rfl rfl (by rfl)) $$ HK
  iintro HK
  iapply (wp_ldW I c (sub c 1) 0 (o14_1 c)) $$ Hslot21
  iintro Hslot21
  iapply (wp_ldV' c I fV 1 0 0 rfl rfl) $$ HV
  iintro HV
  iapply (wp_ldV' c I fV 1 0 0 rfl rfl) $$ HV
  iintro HV
  iapply (wp_stV' c I fV 1 0 0 rfl rfl (by rfl)) $$ HV
  iintro HV
  iapply (wp_ldU I c (sub c 1) 1 (o15_1 c)) $$ Hslot11
  iintro Hslot11
  iapply (wp_done c)
  iapply Hk
  isplitl [Hslot21]; · iexact Hslot21
  isplitl [How]; · iexact How
  isplitl [HtokS21]; · iexact HtokS21
  isplitl [Hslot01]; · iexact Hslot01
  isplitl [Hslot11]; · iexact Hslot11
  isplitl [HK]; · iexact HK
  iexact HV

/-- Part 17 of the body. -/
theorem part17 (I : Inp F) (K : Dev nD × Fin 19 → ℕ) (c : Dev nD) (fK fV fQ : S1024x2048.Idx → Elt F .f32) (fQr : S512x1024.Idx → Elt F .f32) (fKr : S1024x32.Idx → Elt F .f32) (v415 : BitVec 32)
    {Q : (PUnit) → sProp 𝕄} :
    iprop(recs I K ∗ pt c cc0_stg6_0 fullShare (kAt I c fK 1 1) ∗ slotPay I 2 c (sub c 1) fullShare.left ∗ pt c cc0_stg7_0 fullShare (vAt I c fV 1 1) ∗ slotPay I 1 c (sub c 1) fullShare.left)
      ⊢ iprop((iprop(pt c cc0_stg6_0 fullShare (kAt I c fK 1 3) ∗ slotPay I 2 c (sub c 1) fullShare.left ∗ pt c cc0_stg7_0 fullShare (vAt I c fV 1 3) ∗ slotPay I 1 c (sub c 1) fullShare.left) -∗ Q ⟨⟩) -∗ WP c (k0_part17 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 c v415 (k0_pay31 (cS I (sub c 1))) (k0_pay34 (kS I (sub c 1) 1)) (constant S1024x512 .f32 0x00000000#32)) Q) := by
  rw [k0_part17_eq_skeleton]; unfold k0_part17_skel
  simp only [semSignalWord, semWaitWord, Prog.lift, Prog.bind_op, Prog.bind_ret, Prog.pure_eq_ret, wp_deviceId]
  iintro ⟨#HR, HK, Hslot21, HV, Hslot11⟩ Hk
  iapply (wp_ldK' c I fK 1 1 1 rfl rfl) $$ HK
  iintro HK
  iapply (wp_ldK' c I fK 1 1 1 rfl rfl) $$ HK
  iintro HK
  iapply (wp_stK' c I fK 1 1 1 rfl rfl (by rfl)) $$ HK
  iintro HK
  iapply (wp_ldW I c (sub c 1) 1 (o15_1 c)) $$ Hslot21
  iintro Hslot21
  iapply (wp_ldV' c I fV 1 1 1 rfl rfl) $$ HV
  iintro HV
  iapply (wp_ldV' c I fV 1 1 1 rfl rfl) $$ HV
  iintro HV
  iapply (wp_stV' c I fV 1 1 1 rfl rfl (by rfl)) $$ HV
  iintro HV
  iapply (wp_ldU I c (sub c 1) 2 (o16_1 c)) $$ Hslot11
  iintro Hslot11
  iapply (wp_ldK' c I fK 1 2 2 rfl rfl) $$ HK
  iintro HK
  iapply (wp_ldK' c I fK 1 2 2 rfl rfl) $$ HK
  iintro HK
  iapply (wp_stK' c I fK 1 2 2 rfl rfl (by rfl)) $$ HK
  iintro HK
  iapply (wp_ldW I c (sub c 1) 2 (o16_1 c)) $$ Hslot21
  iintro Hslot21
  iapply (wp_ldV' c I fV 1 2 2 rfl rfl) $$ HV
  iintro HV
  iapply (wp_ldV' c I fV 1 2 2 rfl rfl) $$ HV
  iintro HV
  iapply (wp_stV' c I fV 1 2 2 rfl rfl (by rfl)) $$ HV
  iintro HV
  iapply (wp_done c)
  iapply Hk
  isplitl [HK]; · iexact HK
  isplitl [Hslot21]; · iexact Hslot21
  isplitl [HV]; · iexact HV
  iexact Hslot11

/-- Part 18 of the body. -/
theorem part18 (I : Inp F) (K : Dev nD × Fin 19 → ℕ) (c : Dev nD) (fK fV fQ : S1024x2048.Idx → Elt F .f32) (fQr : S512x1024.Idx → Elt F .f32) (fKr : S1024x32.Idx → Elt F .f32) (v415 : BitVec 32)
    {Q : (FVec F S1024x512 .f32) → sProp 𝕄} :
    iprop(recs I K ∗ slotPay I 1 c (sub c 1) fullShare.left ∗ pt c cc0_stg6_0 fullShare (kAt I c fK 1 3) ∗ slotPay I 2 c (sub c 1) fullShare.left ∗ pt c cc0_stg7_0 fullShare (vAt I c fV 1 3) ∗ ow c (OR c 3) ∗ wbFly I c 1 5 ∗ wbHas I c 0 4 ∗ semVal ((c : Thread nD τ), .dma (wS 0)) 0 ∗ pt c cc0_stg0_0 fullShare (I.x c))
      ⊢ iprop((iprop(slotPay I 1 c (sub c 1) fullShare.left ∗ pt c cc0_stg6_0 fullShare (kAt I c fK 2 0) ∗ slotPay I 2 c (sub c 1) fullShare.left ∗ pt c cc0_stg7_0 fullShare (vAt I c fV 2 0) ∗ ow c (OR c 3) ∗ wbHas I c 1 5 ∗ semVal ((c : Thread nD τ), .dma (wS 1)) 0 ∗ wbFly I c 0 6 ∗ pt c cc0_stg0_0 fullShare (I.x c)) -∗ Q ((k0_pay41 (xC I c 0)))) -∗ WP c (k0_part18 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 c v415 (k0_pay31 (cS I (sub c 1)))) Q) := by
  rw [k0_part18_eq_skeleton]; unfold k0_part18_skel
  simp only [semSignalWord, semWaitWord, Prog.lift, Prog.bind_op, Prog.bind_ret, Prog.pure_eq_ret, wp_deviceId]
  iintro ⟨#HR, Hslot11, HK, Hslot21, HV, How, Hwb1, Hwb0, Hwz0, Hx⟩ Hk
  iapply (wp_ldU I c (sub c 1) 3 (o17_1 c)) $$ Hslot11
  iintro Hslot11
  iapply (wp_ldK' c I fK 1 3 3 rfl rfl) $$ HK
  iintro HK
  iapply (wp_ldK' c I fK 1 3 3 rfl rfl) $$ HK
  iintro HK
  iapply (wp_stK' c I fK 1 3 3 rfl rfl (by rfl)) $$ HK
  iintro HK
  ihave HK := (ptK_next c I fK 1) $$ HK
  iapply (wp_ldW I c (sub c 1) 3 (o17_1 c)) $$ Hslot21
  iintro Hslot21
  iapply (wp_ldV' c I fV 1 3 3 rfl rfl) $$ HV
  iintro HV
  iapply (wp_ldV' c I fV 1 3 3 rfl rfl) $$ HV
  iintro HV
  iapply (wp_stV' c I fV 1 3 3 rfl rfl (by rfl)) $$ HV
  iintro HV
  ihave HV := (ptV_next c I fV 1) $$ HV
  iapply (wp_wqWait I K c 1 5 3 rfl (by rfl)) $$ [Hwb1 How]
  · isplitr; · iexact HR
    isplitl [Hwb1]; · iexact Hwb1
    iexact How
  iintro ⟨Hwq, Hwb1, Hwz1, How⟩
  ihave Hwb0 := (wb_has_any I c 0 4) $$ Hwb0
  iapply (wp_wqStart I c 0 6 rfl rfl (by rfl)) $$ [Hwq Hwb0 Hwz0]
  · isplitl [Hwq]; · iexact Hwq
    isplitl [Hwb0]; · iexact Hwb0
    iexact Hwz0
  iintro Hwb0
  iapply (wp_ldXC I c 0 rfl) $$ Hx
  iintro Hx
  iapply (wp_done c)
  iapply Hk
  isplitl [Hslot11]; · iexact Hslot11
  isplitl [HK]; · iexact HK
  isplitl [Hslot21]; · iexact Hslot21
  isplitl [HV]; · iexact HV
  isplitl [How]; · iexact How
  isplitl [Hwb1]; · iexact Hwb1
  isplitl [Hwz1]; · iexact Hwz1
  isplitl [Hwb0]; · iexact Hwb0
  iexact Hx

end Cert.KernelIdeal.Fused

end
-- ==== Proof.Parts4.lean ====
/-
The body of the fused kernel, parts 19 to 24.
-/
module

public import proofs.«01_k».proof.Proof.Offs

@[expose] public section

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- Part 19 of the body. -/
theorem part19 (I : Inp F) (K : Dev nD × Fin 19 → ℕ) (c : Dev nD) (fK fV fQ : S1024x2048.Idx → Elt F .f32) (fQr : S512x1024.Idx → Elt F .f32) (fKr : S1024x32.Idx → Elt F .f32)
    {Q : (PUnit) → sProp 𝕄} :
    iprop(recs I K ∗ wbHas I c 1 5 ∗ pt c cc0_stg0_0 fullShare (I.x c) ∗ pt c cc0_stg8_0 fullShare (qAt I c fQ 5))
      ⊢ iprop((iprop(wbHas I c 1 5 ∗ pt c cc0_stg0_0 fullShare (I.x c) ∗ pt c cc0_stg8_0 fullShare (qAt I c fQ 6)) -∗ Q ⟨⟩) -∗ WP c (k0_part19 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 (k0_pay41 (xC I c 0))) Q) := by
  rw [k0_part19_eq_skeleton]; unfold k0_part19_skel
  simp only [semSignalWord, semWaitWord, Prog.lift, Prog.bind_op, Prog.bind_ret, Prog.pure_eq_ret, wp_deviceId]
  iintro ⟨#HR, Hwb1, Hx, HQ⟩ Hk
  iapply (wp_ldWb I c 1 5 0 rfl rfl) $$ Hwb1
  iintro Hwb1
  iapply (wp_ldXC I c 1 rfl) $$ Hx
  iintro Hx
  iapply (wp_ldWb I c 1 5 1 rfl rfl) $$ Hwb1
  iintro Hwb1
  iapply (wp_ldXC I c 2 rfl) $$ Hx
  iintro Hx
  iapply (wp_ldWb I c 1 5 2 rfl rfl) $$ Hwb1
  iintro Hwb1
  iapply (wp_ldXC I c 3 rfl) $$ Hx
  iintro Hx
  iapply (wp_ldWb I c 1 5 3 rfl rfl) $$ Hwb1
  iintro Hwb1
  iapply (wp_ldDeadQ c) $$ HQ
  iintro HQ
  iapply (wp_stQ' c I fQ 5 5 rfl rfl (by rfl)) $$ HQ
  iintro HQ
  iapply (wp_done c)
  iapply Hk
  isplitl [Hwb1]; · iexact Hwb1
  isplitl [Hx]; · iexact Hx
  iexact HQ

/-- Part 20 of the body. -/
theorem part20 (I : Inp F) (K : Dev nD × Fin 19 → ℕ) (c : Dev nD) (fK fV fQ : S1024x2048.Idx → Elt F .f32) (fQr : S512x1024.Idx → Elt F .f32) (fKr : S1024x32.Idx → Elt F .f32)
    {Q : (Σ' (v543 : FVec F S1024x128 .f32), FVec F S1024x512 .f32) → sProp 𝕄} :
    iprop(recs I K ∗ ow c (OR c 3) ∗ wbFly I c 0 6 ∗ wbHas I c 1 5 ∗ semVal ((c : Thread nD τ), .dma (wS 1)) 0 ∗ pt c cc0_stg0_0 fullShare (I.x c))
      ⊢ iprop((iprop(ow c (OR c 3) ∗ wbHas I c 0 6 ∗ semVal ((c : Thread nD τ), .dma (wS 0)) 0 ∗ wbFly I c 1 7 ∗ pt c cc0_stg0_0 fullShare (I.x c)) -∗ Q ⟨k0_pay43 (xC I c 0) (wqCR I c 6 0) (xC I c 1) (wqCR I c 6 1), k0_pay44 (xC I c 2)⟩) -∗ WP c (k0_part20 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6) Q) := by
  rw [k0_part20_eq_skeleton]; unfold k0_part20_skel
  simp only [semSignalWord, semWaitWord, Prog.lift, Prog.bind_op, Prog.bind_ret, Prog.pure_eq_ret, wp_deviceId]
  iintro ⟨#HR, How, Hwb0, Hwb1, Hwz1, Hx⟩ Hk
  iapply (wp_wqWait I K c 0 6 3 rfl (by rfl)) $$ [Hwb0 How]
  · isplitr; · iexact HR
    isplitl [Hwb0]; · iexact Hwb0
    iexact How
  iintro ⟨Hwq, Hwb0, Hwz0, How⟩
  ihave Hwb1 := (wb_has_any I c 1 5) $$ Hwb1
  iapply (wp_wqStart I c 1 7 rfl rfl (by rfl)) $$ [Hwq Hwb1 Hwz1]
  · isplitl [Hwq]; · iexact Hwq
    isplitl [Hwb1]; · iexact Hwb1
    iexact Hwz1
  iintro Hwb1
  iapply (wp_ldXC I c 0 rfl) $$ Hx
  iintro Hx
  iapply (wp_ldWb I c 0 6 0 rfl rfl) $$ Hwb0
  iintro Hwb0
  iapply (wp_ldXC I c 1 rfl) $$ Hx
  iintro Hx
  iapply (wp_ldWb I c 0 6 1 rfl rfl) $$ Hwb0
  iintro Hwb0
  iapply (wp_ldXC I c 2 rfl) $$ Hx
  iintro Hx
  iapply (wp_done c)
  iapply Hk
  isplitl [How]; · iexact How
  isplitl [Hwb0]; · iexact Hwb0
  isplitl [Hwz0]; · iexact Hwz0
  isplitl [Hwb1]; · iexact Hwb1
  iexact Hx

/-- Part 21 of the body. -/
theorem part21 (I : Inp F) (K : Dev nD × Fin 19 → ℕ) (c : Dev nD) (fK fV fQ : S1024x2048.Idx → Elt F .f32) (fQr : S512x1024.Idx → Elt F .f32) (fKr : S1024x32.Idx → Elt F .f32)
    {Q : (Σ' (v570 : FVec F S1024x512 .f32), Vec F S512x128 .f32) → sProp 𝕄} :
    iprop(recs I K ∗ wbHas I c 0 6 ∗ pt c cc0_stg0_0 fullShare (I.x c) ∗ pt c cc0_stg8_0 fullShare (qAt I c fQ 6) ∗ ow c (OR c 3) ∗ wbFly I c 1 7 ∗ semVal ((c : Thread nD τ), .dma (wS 0)) 0)
      ⊢ iprop((iprop(wbFly I c 0 8 ∗ pt c cc0_stg0_0 fullShare (I.x c) ∗ pt c cc0_stg8_0 fullShare (qAt I c fQ 7) ∗ ow c (OR c 3) ∗ wbHas I c 1 7 ∗ semVal ((c : Thread nD τ), .dma (wS 1)) 0) -∗ Q ⟨k0_pay46 (xC I c 0), (wqCR I c 7 0)⟩) -∗ WP c (k0_part21 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 (k0_pay43 (xC I c 0) (wqCR I c 6 0) (xC I c 1) (wqCR I c 6 1)) (k0_pay44 (xC I c 2))) Q) := by
  rw [k0_part21_eq_skeleton]; unfold k0_part21_skel
  simp only [semSignalWord, semWaitWord, Prog.lift, Prog.bind_op, Prog.bind_ret, Prog.pure_eq_ret, wp_deviceId]
  iintro ⟨#HR, Hwb0, Hx, HQ, How, Hwb1, Hwz0⟩ Hk
  iapply (wp_ldWb I c 0 6 2 rfl rfl) $$ Hwb0
  iintro Hwb0
  iapply (wp_ldXC I c 3 rfl) $$ Hx
  iintro Hx
  iapply (wp_ldWb I c 0 6 3 rfl rfl) $$ Hwb0
  iintro Hwb0
  iapply (wp_ldDeadQ c) $$ HQ
  iintro HQ
  iapply (wp_stQ' c I fQ 6 6 rfl rfl (by rfl)) $$ HQ
  iintro HQ
  iapply (wp_wqWait I K c 1 7 3 rfl (by rfl)) $$ [Hwb1 How]
  · isplitr; · iexact HR
    isplitl [Hwb1]; · iexact Hwb1
    iexact How
  iintro ⟨Hwq, Hwb1, Hwz1, How⟩
  ihave Hwb0 := (wb_has_any I c 0 6) $$ Hwb0
  iapply (wp_wqStart I c 0 8 rfl rfl (by rfl)) $$ [Hwq Hwb0 Hwz0]
  · isplitl [Hwq]; · iexact Hwq
    isplitl [Hwb0]; · iexact Hwb0
    iexact Hwz0
  iintro Hwb0
  iapply (wp_ldXC I c 0 rfl) $$ Hx
  iintro Hx
  iapply (wp_ldWb I c 1 7 0 rfl rfl) $$ Hwb1
  iintro Hwb1
  iapply (wp_done c)
  iapply Hk
  isplitl [Hwb0]; · iexact Hwb0
  isplitl [Hx]; · iexact Hx
  isplitl [HQ]; · iexact HQ
  isplitl [How]; · iexact How
  isplitl [Hwb1]; · iexact Hwb1
  iexact Hwz1

/-- Part 22 of the body. -/
theorem part22 (I : Inp F) (K : Dev nD × Fin 19 → ℕ) (c : Dev nD) (fK fV fQ : S1024x2048.Idx → Elt F .f32) (fQr : S512x1024.Idx → Elt F .f32) (fKr : S1024x32.Idx → Elt F .f32)
    {Q : (PUnit) → sProp 𝕄} :
    iprop(recs I K ∗ pt c cc0_stg0_0 fullShare (I.x c) ∗ wbHas I c 1 7 ∗ pt c cc0_stg8_0 fullShare (qAt I c fQ 7))
      ⊢ iprop((iprop(pt c cc0_stg0_0 fullShare (I.x c) ∗ wbHas I c 1 7 ∗ pt c cc0_stg8_0 fullShare (qAt I c fQ 8)) -∗ Q ⟨⟩) -∗ WP c (k0_part22 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 (k0_pay46 (xC I c 0)) (wqCR I c 7 0)) Q) := by
  rw [k0_part22_eq_skeleton]; unfold k0_part22_skel
  simp only [semSignalWord, semWaitWord, Prog.lift, Prog.bind_op, Prog.bind_ret, Prog.pure_eq_ret, wp_deviceId]
  iintro ⟨#HR, Hx, Hwb1, HQ⟩ Hk
  iapply (wp_ldXC I c 1 rfl) $$ Hx
  iintro Hx
  iapply (wp_ldWb I c 1 7 1 rfl rfl) $$ Hwb1
  iintro Hwb1
  iapply (wp_ldXC I c 2 rfl) $$ Hx
  iintro Hx
  iapply (wp_ldWb I c 1 7 2 rfl rfl) $$ Hwb1
  iintro Hwb1
  iapply (wp_ldXC I c 3 rfl) $$ Hx
  iintro Hx
  iapply (wp_ldWb I c 1 7 3 rfl rfl) $$ Hwb1
  iintro Hwb1
  iapply (wp_ldDeadQ c) $$ HQ
  iintro HQ
  iapply (wp_stQ' c I fQ 7 7 rfl rfl (by rfl)) $$ HQ
  iintro HQ
  iapply (wp_done c)
  iapply Hk
  isplitl [Hx]; · iexact Hx
  isplitl [Hwb1]; · iexact Hwb1
  iexact HQ

/-- Part 23 of the body. -/
theorem part23 (I : Inp F) (K : Dev nD × Fin 19 → ℕ) (c : Dev nD) (fK fV fQ : S1024x2048.Idx → Elt F .f32) (fQr : S512x1024.Idx → Elt F .f32) (fKr : S1024x32.Idx → Elt F .f32)
    {Q : (FVec F S1024x128 .f32) → sProp 𝕄} :
    iprop(recs I K ∗ ow c (OR c 3) ∗ wbFly I c 0 8 ∗ wbHas I c 1 7 ∗ semVal ((c : Thread nD τ), .dma (wS 1)) 0 ∗ pt c cc0_stg0_0 fullShare (I.x c))
      ⊢ iprop((iprop(ow c (OR c 3) ∗ wbHas I c 0 8 ∗ semVal ((c : Thread nD τ), .dma (wS 0)) 0 ∗ wbFly I c 1 9 ∗ pt c cc0_stg0_0 fullShare (I.x c)) -∗ Q ((k0_pay48 (xC I c 0) (wqCR I c 8 0) (xC I c 1) (wqCR I c 8 1) (xC I c 2) (wqCR I c 8 2)))) -∗ WP c (k0_part23 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6) Q) := by
  rw [k0_part23_eq_skeleton]; unfold k0_part23_skel
  simp only [semSignalWord, semWaitWord, Prog.lift, Prog.bind_op, Prog.bind_ret, Prog.pure_eq_ret, wp_deviceId]
  iintro ⟨#HR, How, Hwb0, Hwb1, Hwz1, Hx⟩ Hk
  iapply (wp_wqWait I K c 0 8 3 rfl (by rfl)) $$ [Hwb0 How]
  · isplitr; · iexact HR
    isplitl [Hwb0]; · iexact Hwb0
    iexact How
  iintro ⟨Hwq, Hwb0, Hwz0, How⟩
  ihave Hwb1 := (wb_has_any I c 1 7) $$ Hwb1
  iapply (wp_wqStart I c 1 9 rfl rfl (by rfl)) $$ [Hwq Hwb1 Hwz1]
  · isplitl [Hwq]; · iexact Hwq
    isplitl [Hwb1]; · iexact Hwb1
    iexact Hwz1
  iintro Hwb1
  iapply (wp_ldXC I c 0 rfl) $$ Hx
  iintro Hx
  iapply (wp_ldWb I c 0 8 0 rfl rfl) $$ Hwb0
  iintro Hwb0
  iapply (wp_ldXC I c 1 rfl) $$ Hx
  iintro Hx
  iapply (wp_ldWb I c 0 8 1 rfl rfl) $$ Hwb0
  iintro Hwb0
  iapply (wp_ldXC I c 2 rfl) $$ Hx
  iintro Hx
  iapply (wp_ldWb I c 0 8 2 rfl rfl) $$ Hwb0
  iintro Hwb0
  iapply (wp_done c)
  iapply Hk
  isplitl [How]; · iexact How
  isplitl [Hwb0]; · iexact Hwb0
  isplitl [Hwz0]; · iexact Hwz0
  isplitl [Hwb1]; · iexact Hwb1
  iexact Hx

/-- Part 24 of the body. -/
theorem part24 (I : Inp F) (K : Dev nD × Fin 19 → ℕ) (c : Dev nD) (fK fV fQ : S1024x2048.Idx → Elt F .f32) (fQr : S512x1024.Idx → Elt F .f32) (fKr : S1024x32.Idx → Elt F .f32)
    {Q : (Σ' (v650 : FVec F S1024x128 .f32), FVec F S1024x512 .f32) → sProp 𝕄} :
    iprop(recs I K ∗ pt c cc0_stg0_0 fullShare (I.x c) ∗ wbHas I c 0 8 ∗ pt c cc0_stg8_0 fullShare (qAt I c fQ 8) ∗ ow c (OR c 3) ∗ wbFly I c 1 9 ∗ semVal ((c : Thread nD τ), .dma (wS 0)) 0)
      ⊢ iprop((iprop(pt c cc0_stg0_0 fullShare (I.x c) ∗ wbFly I c 0 10 ∗ pt c cc0_stg8_0 fullShare (qAt I c fQ 9) ∗ ow c (OR c 3) ∗ wbHas I c 1 9 ∗ semVal ((c : Thread nD τ), .dma (wS 1)) 0) -∗ Q ⟨k0_pay50 (xC I c 0) (wqCR I c 9 0), k0_pay51 (xC I c 1)⟩) -∗ WP c (k0_part24 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 (k0_pay48 (xC I c 0) (wqCR I c 8 0) (xC I c 1) (wqCR I c 8 1) (xC I c 2) (wqCR I c 8 2))) Q) := by
  rw [k0_part24_eq_skeleton]; unfold k0_part24_skel
  simp only [semSignalWord, semWaitWord, Prog.lift, Prog.bind_op, Prog.bind_ret, Prog.pure_eq_ret, wp_deviceId]
  iintro ⟨#HR, Hx, Hwb0, HQ, How, Hwb1, Hwz0⟩ Hk
  iapply (wp_ldXC I c 3 rfl) $$ Hx
  iintro Hx
  iapply (wp_ldWb I c 0 8 3 rfl rfl) $$ Hwb0
  iintro Hwb0
  iapply (wp_ldDeadQ c) $$ HQ
  iintro HQ
  iapply (wp_stQ' c I fQ 8 8 rfl rfl (by rfl)) $$ HQ
  iintro HQ
  iapply (wp_wqWait I K c 1 9 3 rfl (by rfl)) $$ [Hwb1 How]
  · isplitr; · iexact HR
    isplitl [Hwb1]; · iexact Hwb1
    iexact How
  iintro ⟨Hwq, Hwb1, Hwz1, How⟩
  ihave Hwb0 := (wb_has_any I c 0 8) $$ Hwb0
  iapply (wp_wqStart I c 0 10 rfl rfl (by rfl)) $$ [Hwq Hwb0 Hwz0]
  · isplitl [Hwq]; · iexact Hwq
    isplitl [Hwb0]; · iexact Hwb0
    iexact Hwz0
  iintro Hwb0
  iapply (wp_ldXC I c 0 rfl) $$ Hx
  iintro Hx
  iapply (wp_ldWb I c 1 9 0 rfl rfl) $$ Hwb1
  iintro Hwb1
  iapply (wp_ldXC I c 1 rfl) $$ Hx
  iintro Hx
  iapply (wp_done c)
  iapply Hk
  isplitl [Hx]; · iexact Hx
  isplitl [Hwb0]; · iexact Hwb0
  isplitl [HQ]; · iexact HQ
  isplitl [How]; · iexact How
  isplitl [Hwb1]; · iexact Hwb1
  iexact Hwz1

end Cert.KernelIdeal.Fused

end
-- ==== Proof.Parts5.lean ====
/-
The body of the fused kernel, parts 25 to 30.
-/
module

public import proofs.«01_k».proof.Proof.Offs

@[expose] public section

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- Part 25 of the body. -/
theorem part25 (I : Inp F) (K : Dev nD × Fin 19 → ℕ) (c : Dev nD) (fK fV fQ : S1024x2048.Idx → Elt F .f32) (fQr : S512x1024.Idx → Elt F .f32) (fKr : S1024x32.Idx → Elt F .f32)
    {Q : (Σ' (v677 : FVec F S512x256 .f32), FVec F S512x512 .f32) → sProp 𝕄} :
    iprop(recs I K ∗ wbHas I c 1 9 ∗ pt c cc0_stg0_0 fullShare (I.x c) ∗ pt c cc0_stg8_0 fullShare (qAt I c fQ 9) ∗ pt c cc0_stg4_0 fullShare (I.wqr c))
      ⊢ iprop((iprop(wbHas I c 1 9 ∗ pt c cc0_stg0_0 fullShare (I.x c) ∗ pt c cc0_stg8_0 fullShare (qAt I c fQ 10) ∗ pt c cc0_stg4_0 fullShare (I.wqr c)) -∗ Q ⟨k0_pay53 (wqrR I c 0) (xRC I c 0 0), k0_pay54 (wqrR I c 1)⟩) -∗ WP c (k0_part25 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 (k0_pay50 (xC I c 0) (wqCR I c 9 0)) (k0_pay51 (xC I c 1))) Q) := by
  rw [k0_part25_eq_skeleton]; unfold k0_part25_skel
  simp only [semSignalWord, semWaitWord, Prog.lift, Prog.bind_op, Prog.bind_ret, Prog.pure_eq_ret, wp_deviceId]
  iintro ⟨#HR, Hwb1, Hx, HQ, Hwqr⟩ Hk
  iapply (wp_ldWb I c 1 9 1 rfl rfl) $$ Hwb1
  iintro Hwb1
  iapply (wp_ldXC I c 2 rfl) $$ Hx
  iintro Hx
  iapply (wp_ldWb I c 1 9 2 rfl rfl) $$ Hwb1
  iintro Hwb1
  iapply (wp_ldXC I c 3 rfl) $$ Hx
  iintro Hx
  iapply (wp_ldWb I c 1 9 3 rfl rfl) $$ Hwb1
  iintro Hwb1
  iapply (wp_ldDeadQ c) $$ HQ
  iintro HQ
  iapply (wp_stQ' c I fQ 9 9 rfl rfl (by rfl)) $$ HQ
  iintro HQ
  iapply (wp_ldWqr I c 0 rfl) $$ Hwqr
  iintro Hwqr
  iapply (wp_ldXRC I c 0 0 rfl) $$ Hx
  iintro Hx
  iapply (wp_ldWqr I c 1 rfl) $$ Hwqr
  iintro Hwqr
  iapply (wp_done c)
  iapply Hk
  isplitl [Hwb1]; · iexact Hwb1
  isplitl [Hx]; · iexact Hx
  isplitl [HQ]; · iexact HQ
  iexact Hwqr

/-- Part 26 of the body. -/
theorem part26 (I : Inp F) (K : Dev nD × Fin 19 → ℕ) (c : Dev nD) (fK fV fQ : S1024x2048.Idx → Elt F .f32) (fQr : S512x1024.Idx → Elt F .f32) (fKr : S1024x32.Idx → Elt F .f32)
    {Q : (Σ' (v707 : FVec F S512x256 .f32) (v709 : FVec F S512x512 .f32), Vec F S256x512 .f32) → sProp 𝕄} :
    iprop(recs I K ∗ pt c cc0_stg0_0 fullShare (I.x c) ∗ pt c cc0_stg4_0 fullShare (I.wqr c) ∗ pt c cc0_stg9_0 fullShare (qrAt I c fQr 0))
      ⊢ iprop((iprop(pt c cc0_stg0_0 fullShare (I.x c) ∗ pt c cc0_stg4_0 fullShare (I.wqr c) ∗ pt c cc0_stg9_0 fullShare (qrAt I c fQr 1)) -∗ Q ⟨k0_pay56 (wqrR I c 0) (xRC I c 1 0) (wqrR I c 1) (xRC I c 1 1), k0_pay57 (wqrR I c 2), (xRC I c 1 2)⟩) -∗ WP c (k0_part26 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 (k0_pay53 (wqrR I c 0) (xRC I c 0 0)) (k0_pay54 (wqrR I c 1))) Q) := by
  rw [k0_part26_eq_skeleton]; unfold k0_part26_skel
  simp only [semSignalWord, semWaitWord, Prog.lift, Prog.bind_op, Prog.bind_ret, Prog.pure_eq_ret, wp_deviceId]
  iintro ⟨#HR, Hx, Hwqr, HQr⟩ Hk
  iapply (wp_ldXRC I c 0 1 rfl) $$ Hx
  iintro Hx
  iapply (wp_ldWqr I c 2 rfl) $$ Hwqr
  iintro Hwqr
  iapply (wp_ldXRC I c 0 2 rfl) $$ Hx
  iintro Hx
  iapply (wp_ldWqr I c 3 rfl) $$ Hwqr
  iintro Hwqr
  iapply (wp_ldXRC I c 0 3 rfl) $$ Hx
  iintro Hx
  iapply (wp_ldDeadQr c) $$ HQr
  iintro HQr
  iapply (wp_stQr' c I fQr 0 0 rfl rfl (by rfl)) $$ HQr
  iintro HQr
  iapply (wp_ldWqr I c 0 rfl) $$ Hwqr
  iintro Hwqr
  iapply (wp_ldXRC I c 1 0 rfl) $$ Hx
  iintro Hx
  iapply (wp_ldWqr I c 1 rfl) $$ Hwqr
  iintro Hwqr
  iapply (wp_ldXRC I c 1 1 rfl) $$ Hx
  iintro Hx
  iapply (wp_ldWqr I c 2 rfl) $$ Hwqr
  iintro Hwqr
  iapply (wp_ldXRC I c 1 2 rfl) $$ Hx
  iintro Hx
  iapply (wp_done c)
  iapply Hk
  isplitl [Hx]; · iexact Hx
  isplitl [Hwqr]; · iexact Hwqr
  iexact HQr

/-- Part 27 of the body. -/
theorem part27 (I : Inp F) (K : Dev nD × Fin 19 → ℕ) (c : Dev nD) (fK fV fQ : S1024x2048.Idx → Elt F .f32) (fQr : S512x1024.Idx → Elt F .f32) (fKr : S1024x32.Idx → Elt F .f32) (v7 : BitVec 32)
    {Q : (PUnit) → sProp 𝕄} :
    iprop(recs I K ∗ pt c cc0_stg4_0 fullShare (I.wqr c) ∗ pt c cc0_stg0_0 fullShare (I.x c) ∗ pt c cc0_stg9_0 fullShare (qrAt I c fQr 1) ∗ ow c (OR c 3) ∗ slotPay I 0 c (sub c 1) fullShare.left ∗ sFly (F := F) c 0 1 ∗ rTok (F := F) c 0 1)
      ⊢ iprop((iprop(pt c cc0_stg4_0 fullShare (I.wqr c) ∗ pt c cc0_stg0_0 fullShare (I.x c) ∗ pt c cc0_stg9_0 fullShare (qrAt I c fQr 2) ∗ ow c (OR c 3) ∗ slotPay I 0 c (sub c 1) fullShare ∗ semVal (sCell c 0 1) 0 ∗ semVal (rCell c 0 1) 0 ∗ slotPay I 0 c (sub c 2) fullShare) -∗ Q ⟨⟩) -∗ WP c (k0_part27 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 c v7 (k0_pay56 (wqrR I c 0) (xRC I c 1 0) (wqrR I c 1) (xRC I c 1 1)) (k0_pay57 (wqrR I c 2)) (xRC I c 1 2)) Q) := by
  rw [k0_part27_eq_skeleton]; unfold k0_part27_skel
  simp only [semSignalWord, semWaitWord, Prog.lift, Prog.bind_op, Prog.bind_ret, Prog.pure_eq_ret, wp_deviceId]
  iintro ⟨#HR, Hwqr, Hx, HQr, How, Hslot01, HtokS01, HtokR01⟩ Hk
  iapply (wp_ldWqr I c 3 rfl) $$ Hwqr
  iintro Hwqr
  iapply (wp_ldXRC I c 1 3 rfl) $$ Hx
  iintro Hx
  iapply (wp_ldDeadQr c) $$ HQr
  iintro HQr
  iapply (wp_stQr' c I fQr 1 1 rfl rfl (by rfl)) $$ HQr
  iintro HQr
  iapply (wp_waitS I K c 0 1 1 rfl 3 (by rfl) (by rfl)) $$ [HtokS01 Hslot01 How]
  · isplitr; · iexact HR
    isplitl [HtokS01]; · iexact HtokS01
    isplitl [Hslot01]; · iexact Hslot01
    iexact How
  iintro ⟨Hslot01, HtokS01, How⟩
  iapply (wp_waitR I K c 0 1 2 rfl 3 (by decide) (by rfl) (by rfl)) $$ [HtokR01 How]
  · isplitr; · iexact HR
    isplitl [HtokR01]; · iexact HtokR01
    iexact How
  iintro ⟨Hslot02, HtokR01, How⟩
  iapply (wp_done c)
  iapply Hk
  isplitl [Hwqr]; · iexact Hwqr
  isplitl [Hx]; · iexact Hx
  isplitl [HQr]; · iexact HQr
  isplitl [How]; · iexact How
  isplitl [Hslot01]; · iexact Hslot01
  isplitl [HtokS01]; · iexact HtokS01
  isplitl [HtokR01]; · iexact HtokR01
  iexact Hslot02

/-- Part 28 of the body. -/
theorem part28 (I : Inp F) (K : Dev nD × Fin 19 → ℕ) (c : Dev nD) (fK fV fQ : S1024x2048.Idx → Elt F .f32) (fQr : S512x1024.Idx → Elt F .f32) (fKr : S1024x32.Idx → Elt F .f32) (v7 : BitVec 32)
    {Q : (PUnit) → sProp 𝕄} :
    iprop(recs I K ∗ ow c (OR c 3) ∗ slotPay I 1 c (sub c 1) fullShare.left ∗ sFly (F := F) c 1 1 ∗ rTok (F := F) c 1 1 ∗ slotPay I 2 c (sub c 1) fullShare.left ∗ sFly (F := F) c 2 1)
      ⊢ iprop((iprop(ow c (OR c 3) ∗ slotPay I 1 c (sub c 1) fullShare ∗ semVal (sCell c 1 1) 0 ∗ semVal (rCell c 1 1) 0 ∗ slotPay I 1 c (sub c 2) fullShare ∗ slotPay I 2 c (sub c 1) fullShare ∗ semVal (sCell c 2 1) 0) -∗ Q ⟨⟩) -∗ WP c (k0_part28 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 c v7) Q) := by
  rw [k0_part28_eq_skeleton]; unfold k0_part28_skel
  simp only [semSignalWord, semWaitWord, Prog.lift, Prog.bind_op, Prog.bind_ret, Prog.pure_eq_ret, wp_deviceId]
  iintro ⟨#HR, How, Hslot11, HtokS11, HtokR11, Hslot21, HtokS21⟩ Hk
  iapply (wp_waitS I K c 1 1 1 rfl 3 (by rfl) (by rfl)) $$ [HtokS11 Hslot11 How]
  · isplitr; · iexact HR
    isplitl [HtokS11]; · iexact HtokS11
    isplitl [Hslot11]; · iexact Hslot11
    iexact How
  iintro ⟨Hslot11, HtokS11, How⟩
  iapply (wp_waitR I K c 1 1 2 rfl 3 (by decide) (by rfl) (by rfl)) $$ [HtokR11 How]
  · isplitr; · iexact HR
    isplitl [HtokR11]; · iexact HtokR11
    iexact How
  iintro ⟨Hslot12, HtokR11, How⟩
  iapply (wp_waitS I K c 2 1 1 rfl 3 (by rfl) (by rfl)) $$ [HtokS21 Hslot21 How]
  · isplitr; · iexact HR
    isplitl [HtokS21]; · iexact HtokS21
    isplitl [Hslot21]; · iexact Hslot21
    iexact How
  iintro ⟨Hslot21, HtokS21, How⟩
  iapply (wp_done c)
  iapply Hk
  isplitl [How]; · iexact How
  isplitl [Hslot11]; · iexact Hslot11
  isplitl [HtokS11]; · iexact HtokS11
  isplitl [HtokR11]; · iexact HtokR11
  isplitl [Hslot12]; · iexact Hslot12
  isplitl [Hslot21]; · iexact Hslot21
  iexact HtokS21

/-- Part 29 of the body. -/
theorem part29 (I : Inp F) (K : Dev nD × Fin 19 → ℕ) (c : Dev nD) (fK fV fQ : S1024x2048.Idx → Elt F .f32) (fQr : S512x1024.Idx → Elt F .f32) (fKr : S1024x32.Idx → Elt F .f32) (v2 v7 : BitVec 32)
    {Q : (PUnit) → sProp 𝕄} :
    iprop(recs I K ∗ ow c (OR c 3) ∗ rTok (F := F) c 2 1 ∗ slotPay I 0 c (sub c 2) fullShare ∗ sTok (F := F) c 0 2 ∗ slotIn (F := F) 0 (nxt c) (sub c 2) ∗ slotPay I 1 c (sub c 2) fullShare ∗ sTok (F := F) c 1 2 ∗ slotIn (F := F) 1 (nxt c) (sub c 2))
      ⊢ iprop((iprop(ow c (OR c 1) ∗ semVal (rCell c 2 1) 0 ∗ slotPay I 2 c (sub c 2) fullShare ∗ slotPay I 0 c (sub c 2) fullShare.left ∗ sFly (F := F) c 0 2 ∗ slotPay I 1 c (sub c 2) fullShare.left ∗ sFly (F := F) c 1 2) -∗ Q ⟨⟩) -∗ WP c (k0_part29 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 c v2 v7) Q) := by
  rw [k0_part29_eq_skeleton]; unfold k0_part29_skel
  simp only [semSignalWord, semWaitWord, Prog.lift, Prog.bind_op, Prog.bind_ret, Prog.pure_eq_ret, wp_deviceId]
  iintro ⟨#HR, How, HtokR21, Hslot02, HtokS02, Hrem02, Hslot12, HtokS12, Hrem12⟩ Hk
  iapply (wp_waitR I K c 2 1 2 rfl 3 (by decide) (by rfl) (by rfl)) $$ [HtokR21 How]
  · isplitr; · iexact HR
    isplitl [HtokR21]; · iexact HtokR21
    iexact How
  iintro ⟨Hslot22, HtokR21, How⟩
  iapply (wp_sendC I K c 2 2 rfl 6 (by decide) rfl rfl (dv9 c) (by rfl) (by rfl) (o6_2 c)) $$ [HtokS02 Hrem02 Hslot02 How]
  · isplitr; · iexact HR
    isplitl [HtokS02]; · iexact HtokS02
    isplitl [Hrem02]; · iexact Hrem02
    isplitl [Hslot02]; · iexact Hslot02
    iexact How
  iintro ⟨HtokS02, Hslot02, How⟩
  iapply (wp_sendK I K c 2 2 rfl 7 (by decide) rfl rfl (dv10 c) (by rfl) (by rfl) (o7_2 c)) $$ [HtokS12 Hrem12 Hslot12 How]
  · isplitr; · iexact HR
    isplitl [HtokS12]; · iexact HtokS12
    isplitl [Hrem12]; · iexact Hrem12
    isplitl [Hslot12]; · iexact Hslot12
    iexact How
  iintro ⟨HtokS12, Hslot12, How⟩
  iapply (wp_done c)
  iapply Hk
  isplitl [How]; · iexact How
  isplitl [HtokR21]; · iexact HtokR21
  isplitl [Hslot22]; · iexact Hslot22
  isplitl [Hslot02]; · iexact Hslot02
  isplitl [HtokS02]; · iexact HtokS02
  isplitl [Hslot12]; · iexact Hslot12
  iexact HtokS12

/-- Part 30 of the body. -/
theorem part30 (I : Inp F) (K : Dev nD × Fin 19 → ℕ) (c : Dev nD) (fK fV fQ : S1024x2048.Idx → Elt F .f32) (fQr : S512x1024.Idx → Elt F .f32) (fKr : S1024x32.Idx → Elt F .f32) (v2 : BitVec 32)
    {Q : (Σ' (v798 : BitVec 32) (v801 : FVec F S128x1024 .bf16), Vec F S1x128x512 .bf16) → sProp 𝕄} :
    iprop(recs I K ∗ slotPay I 2 c (sub c 2) fullShare ∗ ow c (OR c 1) ∗ sTok (F := F) c 2 2 ∗ slotIn (F := F) 2 (nxt c) (sub c 2) ∗ slotPay I 0 c (sub c 2) fullShare.left ∗ slotPay I 1 c (sub c 2) fullShare.left ∗ pt c cc0_stg6_0 fullShare (kAt I c fK 2 0) ∗ pt c cc0_stg7_0 fullShare (vAt I c fV 2 0))
      ⊢ iprop((iprop(slotPay I 2 c (sub c 2) fullShare.left ∗ ow c (OR c 0) ∗ sFly (F := F) c 2 2 ∗ slotPay I 0 c (sub c 2) fullShare.left ∗ slotPay I 1 c (sub c 2) fullShare.left ∗ pt c cc0_stg6_0 fullShare (kAt I c fK 2 1) ∗ pt c cc0_stg7_0 fullShare (vAt I c fV 2 1)) -∗ Q ⟨(Scalar.remsi (Scalar.subi (Scalar.addi v2 4#32) 2#32) 4#32), k0_pay59 (cS I (sub c 2)), (kS I (sub c 2) 1)⟩) -∗ WP c (k0_part30 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 c v2) Q) := by
  rw [k0_part30_eq_skeleton]; unfold k0_part30_skel
  simp only [semSignalWord, semWaitWord, Prog.lift, Prog.bind_op, Prog.bind_ret, Prog.pure_eq_ret, wp_deviceId]
  iintro ⟨#HR, Hslot22, How, HtokS22, Hrem22, Hslot02, Hslot12, HK, HV⟩ Hk
  iapply (wp_sendV I K c 2 2 rfl 8 (by decide) rfl rfl (dv11 c) (by rfl) (by rfl) (o7_2 c)) $$ [HtokS22 Hrem22 Hslot22 How]
  · isplitr; · iexact HR
    isplitl [HtokS22]; · iexact HtokS22
    isplitl [Hrem22]; · iexact Hrem22
    isplitl [Hslot22]; · iexact Hslot22
    iexact How
  iintro ⟨HtokS22, Hslot22, How⟩
  iapply (wp_ldC I c (sub c 2) (o13_2 c)) $$ Hslot02
  iintro Hslot02
  iapply (wp_ldU I c (sub c 2) 0 (o14_2 c)) $$ Hslot12
  iintro Hslot12
  iapply (wp_ldK' c I fK 2 0 0 rfl rfl) $$ HK
  iintro HK
  iapply (wp_ldK' c I fK 2 0 0 rfl rfl) $$ HK
  iintro HK
  iapply (wp_stK' c I fK 2 0 0 rfl rfl (by rfl)) $$ HK
  iintro HK
  iapply (wp_ldW I c (sub c 2) 0 (o14_2 c)) $$ Hslot22
  iintro Hslot22
  iapply (wp_ldV' c I fV 2 0 0 rfl rfl) $$ HV
  iintro HV
  iapply (wp_ldV' c I fV 2 0 0 rfl rfl) $$ HV
  iintro HV
  iapply (wp_stV' c I fV 2 0 0 rfl rfl (by rfl)) $$ HV
  iintro HV
  iapply (wp_ldU I c (sub c 2) 1 (o15_2 c)) $$ Hslot12
  iintro Hslot12
  iapply (wp_done c)
  iapply Hk
  isplitl [Hslot22]; · iexact Hslot22
  isplitl [How]; · iexact How
  isplitl [HtokS22]; · iexact HtokS22
  isplitl [Hslot02]; · iexact Hslot02
  isplitl [Hslot12]; · iexact Hslot12
  isplitl [HK]; · iexact HK
  iexact HV

end Cert.KernelIdeal.Fused

end
-- ==== Proof.Parts6.lean ====
/-
The body of the fused kernel, parts 31 to 36.
-/
module

public import proofs.«01_k».proof.Proof.Offs

@[expose] public section

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- Part 31 of the body. -/
theorem part31 (I : Inp F) (K : Dev nD × Fin 19 → ℕ) (c : Dev nD) (fK fV fQ : S1024x2048.Idx → Elt F .f32) (fQr : S512x1024.Idx → Elt F .f32) (fKr : S1024x32.Idx → Elt F .f32) (v798 : BitVec 32)
    {Q : (PUnit) → sProp 𝕄} :
    iprop(recs I K ∗ pt c cc0_stg6_0 fullShare (kAt I c fK 2 1) ∗ slotPay I 2 c (sub c 2) fullShare.left ∗ pt c cc0_stg7_0 fullShare (vAt I c fV 2 1) ∗ slotPay I 1 c (sub c 2) fullShare.left)
      ⊢ iprop((iprop(pt c cc0_stg6_0 fullShare (kAt I c fK 2 3) ∗ slotPay I 2 c (sub c 2) fullShare.left ∗ pt c cc0_stg7_0 fullShare (vAt I c fV 2 3) ∗ slotPay I 1 c (sub c 2) fullShare.left) -∗ Q ⟨⟩) -∗ WP c (k0_part31 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 c v798 (k0_pay59 (cS I (sub c 2))) (kS I (sub c 2) 1)) Q) := by
  rw [k0_part31_eq_skeleton]; unfold k0_part31_skel
  simp only [semSignalWord, semWaitWord, Prog.lift, Prog.bind_op, Prog.bind_ret, Prog.pure_eq_ret, wp_deviceId]
  iintro ⟨#HR, HK, Hslot22, HV, Hslot12⟩ Hk
  iapply (wp_ldK' c I fK 2 1 1 rfl rfl) $$ HK
  iintro HK
  iapply (wp_ldK' c I fK 2 1 1 rfl rfl) $$ HK
  iintro HK
  iapply (wp_stK' c I fK 2 1 1 rfl rfl (by rfl)) $$ HK
  iintro HK
  iapply (wp_ldW I c (sub c 2) 1 (o15_2 c)) $$ Hslot22
  iintro Hslot22
  iapply (wp_ldV' c I fV 2 1 1 rfl rfl) $$ HV
  iintro HV
  iapply (wp_ldV' c I fV 2 1 1 rfl rfl) $$ HV
  iintro HV
  iapply (wp_stV' c I fV 2 1 1 rfl rfl (by rfl)) $$ HV
  iintro HV
  iapply (wp_ldU I c (sub c 2) 2 (o16_2 c)) $$ Hslot12
  iintro Hslot12
  iapply (wp_ldK' c I fK 2 2 2 rfl rfl) $$ HK
  iintro HK
  iapply (wp_ldK' c I fK 2 2 2 rfl rfl) $$ HK
  iintro HK
  iapply (wp_stK' c I fK 2 2 2 rfl rfl (by rfl)) $$ HK
  iintro HK
  iapply (wp_ldW I c (sub c 2) 2 (o16_2 c)) $$ Hslot22
  iintro Hslot22
  iapply (wp_ldV' c I fV 2 2 2 rfl rfl) $$ HV
  iintro HV
  iapply (wp_ldV' c I fV 2 2 2 rfl rfl) $$ HV
  iintro HV
  iapply (wp_stV' c I fV 2 2 2 rfl rfl (by rfl)) $$ HV
  iintro HV
  iapply (wp_done c)
  iapply Hk
  isplitl [HK]; · iexact HK
  isplitl [Hslot22]; · iexact Hslot22
  isplitl [HV]; · iexact HV
  iexact Hslot12

/-- Part 32 of the body. -/
theorem part32 (I : Inp F) (K : Dev nD × Fin 19 → ℕ) (c : Dev nD) (fK fV fQ : S1024x2048.Idx → Elt F .f32) (fQr : S512x1024.Idx → Elt F .f32) (fKr : S1024x32.Idx → Elt F .f32) (v798 : BitVec 32)
    {Q : (FVec F S1024x512 .f32) → sProp 𝕄} :
    iprop(recs I K ∗ slotPay I 1 c (sub c 2) fullShare.left ∗ pt c cc0_stg6_0 fullShare (kAt I c fK 2 3) ∗ slotPay I 2 c (sub c 2) fullShare.left ∗ pt c cc0_stg7_0 fullShare (vAt I c fV 2 3) ∗ ow c (OR c 0) ∗ wbFly I c 0 10 ∗ wbHas I c 1 9 ∗ semVal ((c : Thread nD τ), .dma (wS 1)) 0 ∗ pt c cc0_stg0_0 fullShare (I.x c))
      ⊢ iprop((iprop(slotPay I 1 c (sub c 2) fullShare.left ∗ pt c cc0_stg6_0 fullShare (kAt I c fK 3 0) ∗ slotPay I 2 c (sub c 2) fullShare.left ∗ pt c cc0_stg7_0 fullShare (vAt I c fV 3 0) ∗ ow c (OR c 0) ∗ wbHas I c 0 10 ∗ semVal ((c : Thread nD τ), .dma (wS 0)) 0 ∗ wbFly I c 1 11 ∗ pt c cc0_stg0_0 fullShare (I.x c)) -∗ Q ((k0_pay68 (xC I c 0)))) -∗ WP c (k0_part32 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 c v798 (k0_pay59 (cS I (sub c 2)))) Q) := by
  rw [k0_part32_eq_skeleton]; unfold k0_part32_skel
  simp only [semSignalWord, semWaitWord, Prog.lift, Prog.bind_op, Prog.bind_ret, Prog.pure_eq_ret, wp_deviceId]
  iintro ⟨#HR, Hslot12, HK, Hslot22, HV, How, Hwb0, Hwb1, Hwz1, Hx⟩ Hk
  iapply (wp_ldU I c (sub c 2) 3 (o17_2 c)) $$ Hslot12
  iintro Hslot12
  iapply (wp_ldK' c I fK 2 3 3 rfl rfl) $$ HK
  iintro HK
  iapply (wp_ldK' c I fK 2 3 3 rfl rfl) $$ HK
  iintro HK
  iapply (wp_stK' c I fK 2 3 3 rfl rfl (by rfl)) $$ HK
  iintro HK
  ihave HK := (ptK_next c I fK 2) $$ HK
  iapply (wp_ldW I c (sub c 2) 3 (o17_2 c)) $$ Hslot22
  iintro Hslot22
  iapply (wp_ldV' c I fV 2 3 3 rfl rfl) $$ HV
  iintro HV
  iapply (wp_ldV' c I fV 2 3 3 rfl rfl) $$ HV
  iintro HV
  iapply (wp_stV' c I fV 2 3 3 rfl rfl (by rfl)) $$ HV
  iintro HV
  ihave HV := (ptV_next c I fV 2) $$ HV
  iapply (wp_wqWait I K c 0 10 0 rfl (by rfl)) $$ [Hwb0 How]
  · isplitr; · iexact HR
    isplitl [Hwb0]; · iexact Hwb0
    iexact How
  iintro ⟨Hwq, Hwb0, Hwz0, How⟩
  ihave Hwb1 := (wb_has_any I c 1 9) $$ Hwb1
  iapply (wp_wqStart I c 1 11 rfl rfl (by rfl)) $$ [Hwq Hwb1 Hwz1]
  · isplitl [Hwq]; · iexact Hwq
    isplitl [Hwb1]; · iexact Hwb1
    iexact Hwz1
  iintro Hwb1
  iapply (wp_ldXC I c 0 rfl) $$ Hx
  iintro Hx
  iapply (wp_done c)
  iapply Hk
  isplitl [Hslot12]; · iexact Hslot12
  isplitl [HK]; · iexact HK
  isplitl [Hslot22]; · iexact Hslot22
  isplitl [HV]; · iexact HV
  isplitl [How]; · iexact How
  isplitl [Hwb0]; · iexact Hwb0
  isplitl [Hwz0]; · iexact Hwz0
  isplitl [Hwb1]; · iexact Hwb1
  iexact Hx

/-- Part 33 of the body. -/
theorem part33 (I : Inp F) (K : Dev nD × Fin 19 → ℕ) (c : Dev nD) (fK fV fQ : S1024x2048.Idx → Elt F .f32) (fQr : S512x1024.Idx → Elt F .f32) (fKr : S1024x32.Idx → Elt F .f32)
    {Q : (PUnit) → sProp 𝕄} :
    iprop(recs I K ∗ wbHas I c 0 10 ∗ pt c cc0_stg0_0 fullShare (I.x c) ∗ pt c cc0_stg8_0 fullShare (qAt I c fQ 10))
      ⊢ iprop((iprop(wbHas I c 0 10 ∗ pt c cc0_stg0_0 fullShare (I.x c) ∗ pt c cc0_stg8_0 fullShare (qAt I c fQ 11)) -∗ Q ⟨⟩) -∗ WP c (k0_part33 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 (k0_pay68 (xC I c 0))) Q) := by
  rw [k0_part33_eq_skeleton]; unfold k0_part33_skel
  simp only [semSignalWord, semWaitWord, Prog.lift, Prog.bind_op, Prog.bind_ret, Prog.pure_eq_ret, wp_deviceId]
  iintro ⟨#HR, Hwb0, Hx, HQ⟩ Hk
  iapply (wp_ldWb I c 0 10 0 rfl rfl) $$ Hwb0
  iintro Hwb0
  iapply (wp_ldXC I c 1 rfl) $$ Hx
  iintro Hx
  iapply (wp_ldWb I c 0 10 1 rfl rfl) $$ Hwb0
  iintro Hwb0
  iapply (wp_ldXC I c 2 rfl) $$ Hx
  iintro Hx
  iapply (wp_ldWb I c 0 10 2 rfl rfl) $$ Hwb0
  iintro Hwb0
  iapply (wp_ldXC I c 3 rfl) $$ Hx
  iintro Hx
  iapply (wp_ldWb I c 0 10 3 rfl rfl) $$ Hwb0
  iintro Hwb0
  iapply (wp_ldDeadQ c) $$ HQ
  iintro HQ
  iapply (wp_stQ' c I fQ 10 10 rfl rfl (by rfl)) $$ HQ
  iintro HQ
  iapply (wp_done c)
  iapply Hk
  isplitl [Hwb0]; · iexact Hwb0
  isplitl [Hx]; · iexact Hx
  iexact HQ

/-- Part 34 of the body. -/
theorem part34 (I : Inp F) (K : Dev nD × Fin 19 → ℕ) (c : Dev nD) (fK fV fQ : S1024x2048.Idx → Elt F .f32) (fQr : S512x1024.Idx → Elt F .f32) (fKr : S1024x32.Idx → Elt F .f32)
    {Q : (Σ' (v926 : FVec F S1024x128 .f32), FVec F S1024x512 .f32) → sProp 𝕄} :
    iprop(recs I K ∗ ow c (OR c 0) ∗ wbFly I c 1 11 ∗ wbHas I c 0 10 ∗ semVal ((c : Thread nD τ), .dma (wS 0)) 0 ∗ pt c cc0_stg0_0 fullShare (I.x c))
      ⊢ iprop((iprop(ow c (OR c 0) ∗ wbHas I c 1 11 ∗ semVal ((c : Thread nD τ), .dma (wS 1)) 0 ∗ wbFly I c 0 12 ∗ pt c cc0_stg0_0 fullShare (I.x c)) -∗ Q ⟨k0_pay70 (xC I c 0) (wqCR I c 11 0) (xC I c 1) (wqCR I c 11 1), k0_pay71 (xC I c 2)⟩) -∗ WP c (k0_part34 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6) Q) := by
  rw [k0_part34_eq_skeleton]; unfold k0_part34_skel
  simp only [semSignalWord, semWaitWord, Prog.lift, Prog.bind_op, Prog.bind_ret, Prog.pure_eq_ret, wp_deviceId]
  iintro ⟨#HR, How, Hwb1, Hwb0, Hwz0, Hx⟩ Hk
  iapply (wp_wqWait I K c 1 11 0 rfl (by rfl)) $$ [Hwb1 How]
  · isplitr; · iexact HR
    isplitl [Hwb1]; · iexact Hwb1
    iexact How
  iintro ⟨Hwq, Hwb1, Hwz1, How⟩
  ihave Hwb0 := (wb_has_any I c 0 10) $$ Hwb0
  iapply (wp_wqStart I c 0 12 rfl rfl (by rfl)) $$ [Hwq Hwb0 Hwz0]
  · isplitl [Hwq]; · iexact Hwq
    isplitl [Hwb0]; · iexact Hwb0
    iexact Hwz0
  iintro Hwb0
  iapply (wp_ldXC I c 0 rfl) $$ Hx
  iintro Hx
  iapply (wp_ldWb I c 1 11 0 rfl rfl) $$ Hwb1
  iintro Hwb1
  iapply (wp_ldXC I c 1 rfl) $$ Hx
  iintro Hx
  iapply (wp_ldWb I c 1 11 1 rfl rfl) $$ Hwb1
  iintro Hwb1
  iapply (wp_ldXC I c 2 rfl) $$ Hx
  iintro Hx
  iapply (wp_done c)
  iapply Hk
  isplitl [How]; · iexact How
  isplitl [Hwb1]; · iexact Hwb1
  isplitl [Hwz1]; · iexact Hwz1
  isplitl [Hwb0]; · iexact Hwb0
  iexact Hx

/-- Part 35 of the body. -/
theorem part35 (I : Inp F) (K : Dev nD × Fin 19 → ℕ) (c : Dev nD) (fK fV fQ : S1024x2048.Idx → Elt F .f32) (fQr : S512x1024.Idx → Elt F .f32) (fKr : S1024x32.Idx → Elt F .f32)
    {Q : (FVec F S1024x512 .f32) → sProp 𝕄} :
    iprop(recs I K ∗ wbHas I c 1 11 ∗ pt c cc0_stg0_0 fullShare (I.x c) ∗ pt c cc0_stg8_0 fullShare (qAt I c fQ 11) ∗ ow c (OR c 0) ∗ wbFly I c 0 12 ∗ semVal ((c : Thread nD τ), .dma (wS 1)) 0)
      ⊢ iprop((iprop(wbFly I c 1 13 ∗ pt c cc0_stg0_0 fullShare (I.x c) ∗ pt c cc0_stg8_0 fullShare (qAt I c fQ 12) ∗ ow c (OR c 0) ∗ wbHas I c 0 12 ∗ semVal ((c : Thread nD τ), .dma (wS 0)) 0) -∗ Q ((k0_pay73 (xC I c 0)))) -∗ WP c (k0_part35 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 (k0_pay70 (xC I c 0) (wqCR I c 11 0) (xC I c 1) (wqCR I c 11 1)) (k0_pay71 (xC I c 2))) Q) := by
  rw [k0_part35_eq_skeleton]; unfold k0_part35_skel
  simp only [semSignalWord, semWaitWord, Prog.lift, Prog.bind_op, Prog.bind_ret, Prog.pure_eq_ret, wp_deviceId]
  iintro ⟨#HR, Hwb1, Hx, HQ, How, Hwb0, Hwz1⟩ Hk
  iapply (wp_ldWb I c 1 11 2 rfl rfl) $$ Hwb1
  iintro Hwb1
  iapply (wp_ldXC I c 3 rfl) $$ Hx
  iintro Hx
  iapply (wp_ldWb I c 1 11 3 rfl rfl) $$ Hwb1
  iintro Hwb1
  iapply (wp_ldDeadQ c) $$ HQ
  iintro HQ
  iapply (wp_stQ' c I fQ 11 11 rfl rfl (by rfl)) $$ HQ
  iintro HQ
  iapply (wp_wqWait I K c 0 12 0 rfl (by rfl)) $$ [Hwb0 How]
  · isplitr; · iexact HR
    isplitl [Hwb0]; · iexact Hwb0
    iexact How
  iintro ⟨Hwq, Hwb0, Hwz0, How⟩
  ihave Hwb1 := (wb_has_any I c 1 11) $$ Hwb1
  iapply (wp_wqStart I c 1 13 rfl rfl (by rfl)) $$ [Hwq Hwb1 Hwz1]
  · isplitl [Hwq]; · iexact Hwq
    isplitl [Hwb1]; · iexact Hwb1
    iexact Hwz1
  iintro Hwb1
  iapply (wp_ldXC I c 0 rfl) $$ Hx
  iintro Hx
  iapply (wp_done c)
  iapply Hk
  isplitl [Hwb1]; · iexact Hwb1
  isplitl [Hx]; · iexact Hx
  isplitl [HQ]; · iexact HQ
  isplitl [How]; · iexact How
  isplitl [Hwb0]; · iexact Hwb0
  iexact Hwz0

/-- Part 36 of the body. -/
theorem part36 (I : Inp F) (K : Dev nD × Fin 19 → ℕ) (c : Dev nD) (fK fV fQ : S1024x2048.Idx → Elt F .f32) (fQr : S512x1024.Idx → Elt F .f32) (fKr : S1024x32.Idx → Elt F .f32)
    {Q : (PUnit) → sProp 𝕄} :
    iprop(recs I K ∗ wbHas I c 0 12 ∗ pt c cc0_stg0_0 fullShare (I.x c) ∗ pt c cc0_stg8_0 fullShare (qAt I c fQ 12))
      ⊢ iprop((iprop(wbHas I c 0 12 ∗ pt c cc0_stg0_0 fullShare (I.x c) ∗ pt c cc0_stg8_0 fullShare (qAt I c fQ 13)) -∗ Q ⟨⟩) -∗ WP c (k0_part36 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 (k0_pay73 (xC I c 0))) Q) := by
  rw [k0_part36_eq_skeleton]; unfold k0_part36_skel
  simp only [semSignalWord, semWaitWord, Prog.lift, Prog.bind_op, Prog.bind_ret, Prog.pure_eq_ret, wp_deviceId]
  iintro ⟨#HR, Hwb0, Hx, HQ⟩ Hk
  iapply (wp_ldWb I c 0 12 0 rfl rfl) $$ Hwb0
  iintro Hwb0
  iapply (wp_ldXC I c 1 rfl) $$ Hx
  iintro Hx
  iapply (wp_ldWb I c 0 12 1 rfl rfl) $$ Hwb0
  iintro Hwb0
  iapply (wp_ldXC I c 2 rfl) $$ Hx
  iintro Hx
  iapply (wp_ldWb I c 0 12 2 rfl rfl) $$ Hwb0
  iintro Hwb0
  iapply (wp_ldXC I c 3 rfl) $$ Hx
  iintro Hx
  iapply (wp_ldWb I c 0 12 3 rfl rfl) $$ Hwb0
  iintro Hwb0
  iapply (wp_ldDeadQ c) $$ HQ
  iintro HQ
  iapply (wp_stQ' c I fQ 12 12 rfl rfl (by rfl)) $$ HQ
  iintro HQ
  iapply (wp_done c)
  iapply Hk
  isplitl [Hwb0]; · iexact Hwb0
  isplitl [Hx]; · iexact Hx
  iexact HQ

end Cert.KernelIdeal.Fused

end
-- ==== Proof.Parts7.lean ====
/-
The body of the fused kernel, parts 37 to 42.
-/
module

public import proofs.«01_k».proof.Proof.Offs

@[expose] public section

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- Part 37 of the body. -/
theorem part37 (I : Inp F) (K : Dev nD × Fin 19 → ℕ) (c : Dev nD) (fK fV fQ : S1024x2048.Idx → Elt F .f32) (fQr : S512x1024.Idx → Elt F .f32) (fKr : S1024x32.Idx → Elt F .f32)
    {Q : (Σ' (v1002 : FVec F S1024x128 .f32), FVec F S1024x128 .f32) → sProp 𝕄} :
    iprop(recs I K ∗ ow c (OR c 0) ∗ wbFly I c 1 13 ∗ wbHas I c 0 12 ∗ semVal ((c : Thread nD τ), .dma (wS 0)) 0 ∗ pt c cc0_stg0_0 fullShare (I.x c))
      ⊢ iprop((iprop(ow c (OR c 0) ∗ wbHas I c 1 13 ∗ semVal ((c : Thread nD τ), .dma (wS 1)) 0 ∗ wbFly I c 0 14 ∗ pt c cc0_stg0_0 fullShare (I.x c)) -∗ Q ⟨k0_pay75 (xC I c 0) (wqCR I c 13 0) (xC I c 1) (wqCR I c 13 1), k0_pay76 (xC I c 2) (wqCR I c 13 2)⟩) -∗ WP c (k0_part37 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6) Q) := by
  rw [k0_part37_eq_skeleton]; unfold k0_part37_skel
  simp only [semSignalWord, semWaitWord, Prog.lift, Prog.bind_op, Prog.bind_ret, Prog.pure_eq_ret, wp_deviceId]
  iintro ⟨#HR, How, Hwb1, Hwb0, Hwz0, Hx⟩ Hk
  iapply (wp_wqWait I K c 1 13 0 rfl (by rfl)) $$ [Hwb1 How]
  · isplitr; · iexact HR
    isplitl [Hwb1]; · iexact Hwb1
    iexact How
  iintro ⟨Hwq, Hwb1, Hwz1, How⟩
  ihave Hwb0 := (wb_has_any I c 0 12) $$ Hwb0
  iapply (wp_wqStart I c 0 14 rfl rfl (by rfl)) $$ [Hwq Hwb0 Hwz0]
  · isplitl [Hwq]; · iexact Hwq
    isplitl [Hwb0]; · iexact Hwb0
    iexact Hwz0
  iintro Hwb0
  iapply (wp_ldXC I c 0 rfl) $$ Hx
  iintro Hx
  iapply (wp_ldWb I c 1 13 0 rfl rfl) $$ Hwb1
  iintro Hwb1
  iapply (wp_ldXC I c 1 rfl) $$ Hx
  iintro Hx
  iapply (wp_ldWb I c 1 13 1 rfl rfl) $$ Hwb1
  iintro Hwb1
  iapply (wp_ldXC I c 2 rfl) $$ Hx
  iintro Hx
  iapply (wp_ldWb I c 1 13 2 rfl rfl) $$ Hwb1
  iintro Hwb1
  iapply (wp_done c)
  iapply Hk
  isplitl [How]; · iexact How
  isplitl [Hwb1]; · iexact Hwb1
  isplitl [Hwz1]; · iexact Hwz1
  isplitl [Hwb0]; · iexact Hwb0
  iexact Hx

/-- Part 38 of the body. -/
theorem part38 (I : Inp F) (K : Dev nD × Fin 19 → ℕ) (c : Dev nD) (fK fV fQ : S1024x2048.Idx → Elt F .f32) (fQr : S512x1024.Idx → Elt F .f32) (fKr : S1024x32.Idx → Elt F .f32)
    {Q : (FVec F S1024x128 .f32) → sProp 𝕄} :
    iprop(recs I K ∗ pt c cc0_stg0_0 fullShare (I.x c) ∗ wbHas I c 1 13 ∗ pt c cc0_stg8_0 fullShare (qAt I c fQ 13) ∗ ow c (OR c 0) ∗ wbFly I c 0 14 ∗ semVal ((c : Thread nD τ), .dma (wS 1)) 0)
      ⊢ iprop((iprop(pt c cc0_stg0_0 fullShare (I.x c) ∗ wbFly I c 1 15 ∗ pt c cc0_stg8_0 fullShare (qAt I c fQ 14) ∗ ow c (OR c 0) ∗ wbHas I c 0 14 ∗ semVal ((c : Thread nD τ), .dma (wS 0)) 0) -∗ Q ((k0_pay78 (xC I c 0) (wqCR I c 14 0)))) -∗ WP c (k0_part38 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 (k0_pay75 (xC I c 0) (wqCR I c 13 0) (xC I c 1) (wqCR I c 13 1)) (k0_pay76 (xC I c 2) (wqCR I c 13 2))) Q) := by
  rw [k0_part38_eq_skeleton]; unfold k0_part38_skel
  simp only [semSignalWord, semWaitWord, Prog.lift, Prog.bind_op, Prog.bind_ret, Prog.pure_eq_ret, wp_deviceId]
  iintro ⟨#HR, Hx, Hwb1, HQ, How, Hwb0, Hwz1⟩ Hk
  iapply (wp_ldXC I c 3 rfl) $$ Hx
  iintro Hx
  iapply (wp_ldWb I c 1 13 3 rfl rfl) $$ Hwb1
  iintro Hwb1
  iapply (wp_ldDeadQ c) $$ HQ
  iintro HQ
  iapply (wp_stQ' c I fQ 13 13 rfl rfl (by rfl)) $$ HQ
  iintro HQ
  iapply (wp_wqWait I K c 0 14 0 rfl (by rfl)) $$ [Hwb0 How]
  · isplitr; · iexact HR
    isplitl [Hwb0]; · iexact Hwb0
    iexact How
  iintro ⟨Hwq, Hwb0, Hwz0, How⟩
  ihave Hwb1 := (wb_has_any I c 1 13) $$ Hwb1
  iapply (wp_wqStart I c 1 15 rfl rfl (by rfl)) $$ [Hwq Hwb1 Hwz1]
  · isplitl [Hwq]; · iexact Hwq
    isplitl [Hwb1]; · iexact Hwb1
    iexact Hwz1
  iintro Hwb1
  iapply (wp_ldXC I c 0 rfl) $$ Hx
  iintro Hx
  iapply (wp_ldWb I c 0 14 0 rfl rfl) $$ Hwb0
  iintro Hwb0
  iapply (wp_done c)
  iapply Hk
  isplitl [Hx]; · iexact Hx
  isplitl [Hwb1]; · iexact Hwb1
  isplitl [HQ]; · iexact HQ
  isplitl [How]; · iexact How
  isplitl [Hwb0]; · iexact Hwb0
  iexact Hwz0

/-- Part 39 of the body. -/
theorem part39 (I : Inp F) (K : Dev nD × Fin 19 → ℕ) (c : Dev nD) (fK fV fQ : S1024x2048.Idx → Elt F .f32) (fQr : S512x1024.Idx → Elt F .f32) (fKr : S1024x32.Idx → Elt F .f32)
    {Q : (PUnit) → sProp 𝕄} :
    iprop(recs I K ∗ pt c cc0_stg0_0 fullShare (I.x c) ∗ wbHas I c 0 14 ∗ pt c cc0_stg8_0 fullShare (qAt I c fQ 14) ∗ ow c (OR c 0) ∗ wbFly I c 1 15)
      ⊢ iprop((iprop(pt c cc0_stg0_0 fullShare (I.x c) ∗ wbHas I c 0 14 ∗ pt c cc0_stg8_0 fullShare (qAt I c fQ 15) ∗ ow c (OR c 0) ∗ wbHas I c 1 15 ∗ pt c main_arg4 fullShare (I.wq c) ∗ semVal ((c : Thread nD τ), .dma (wS 1)) 0) -∗ Q ⟨⟩) -∗ WP c (k0_part39 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 (k0_pay78 (xC I c 0) (wqCR I c 14 0))) Q) := by
  rw [k0_part39_eq_skeleton]; unfold k0_part39_skel
  simp only [semSignalWord, semWaitWord, Prog.lift, Prog.bind_op, Prog.bind_ret, Prog.pure_eq_ret, wp_deviceId]
  iintro ⟨#HR, Hx, Hwb0, HQ, How, Hwb1⟩ Hk
  iapply (wp_ldXC I c 1 rfl) $$ Hx
  iintro Hx
  iapply (wp_ldWb I c 0 14 1 rfl rfl) $$ Hwb0
  iintro Hwb0
  iapply (wp_ldXC I c 2 rfl) $$ Hx
  iintro Hx
  iapply (wp_ldWb I c 0 14 2 rfl rfl) $$ Hwb0
  iintro Hwb0
  iapply (wp_ldXC I c 3 rfl) $$ Hx
  iintro Hx
  iapply (wp_ldWb I c 0 14 3 rfl rfl) $$ Hwb0
  iintro Hwb0
  iapply (wp_ldDeadQ c) $$ HQ
  iintro HQ
  iapply (wp_stQ' c I fQ 14 14 rfl rfl (by rfl)) $$ HQ
  iintro HQ
  iapply (wp_wqWait I K c 1 15 0 rfl (by rfl)) $$ [Hwb1 How]
  · isplitr; · iexact HR
    isplitl [Hwb1]; · iexact Hwb1
    iexact How
  iintro ⟨Hwq, Hwb1, Hwz1, How⟩
  iapply (wp_done c)
  iapply Hk
  isplitl [Hx]; · iexact Hx
  isplitl [Hwb0]; · iexact Hwb0
  isplitl [HQ]; · iexact HQ
  isplitl [How]; · iexact How
  isplitl [Hwb1]; · iexact Hwb1
  isplitl [Hwq]; · iexact Hwq
  iexact Hwz1

/-- Part 40 of the body. -/
theorem part40 (I : Inp F) (K : Dev nD × Fin 19 → ℕ) (c : Dev nD) (fK fV fQ : S1024x2048.Idx → Elt F .f32) (fQr : S512x1024.Idx → Elt F .f32) (fKr : S1024x32.Idx → Elt F .f32)
    {Q : (FVec F S1024x128 .f32) → sProp 𝕄} :
    iprop(recs I K ∗ pt c cc0_stg0_0 fullShare (I.x c) ∗ wbHas I c 1 15)
      ⊢ iprop((iprop(pt c cc0_stg0_0 fullShare (I.x c) ∗ wbHas I c 1 15) -∗ Q ((k0_pay80 (xC I c 0) (wqCR I c 15 0) (xC I c 1) (wqCR I c 15 1) (xC I c 2) (wqCR I c 15 2) (xC I c 3) (wqCR I c 15 3)))) -∗ WP c (k0_part40 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6) Q) := by
  rw [k0_part40_eq_skeleton]; unfold k0_part40_skel
  simp only [semSignalWord, semWaitWord, Prog.lift, Prog.bind_op, Prog.bind_ret, Prog.pure_eq_ret, wp_deviceId]
  iintro ⟨#HR, Hx, Hwb1⟩ Hk
  iapply (wp_ldXC I c 0 rfl) $$ Hx
  iintro Hx
  iapply (wp_ldWb I c 1 15 0 rfl rfl) $$ Hwb1
  iintro Hwb1
  iapply (wp_ldXC I c 1 rfl) $$ Hx
  iintro Hx
  iapply (wp_ldWb I c 1 15 1 rfl rfl) $$ Hwb1
  iintro Hwb1
  iapply (wp_ldXC I c 2 rfl) $$ Hx
  iintro Hx
  iapply (wp_ldWb I c 1 15 2 rfl rfl) $$ Hwb1
  iintro Hwb1
  iapply (wp_ldXC I c 3 rfl) $$ Hx
  iintro Hx
  iapply (wp_ldWb I c 1 15 3 rfl rfl) $$ Hwb1
  iintro Hwb1
  iapply (wp_done c)
  iapply Hk
  isplitl [Hx]; · iexact Hx
  iexact Hwb1

/-- Part 41 of the body. -/
theorem part41 (I : Inp F) (K : Dev nD × Fin 19 → ℕ) (c : Dev nD) (fK fV fQ : S1024x2048.Idx → Elt F .f32) (fQr : S512x1024.Idx → Elt F .f32) (fKr : S1024x32.Idx → Elt F .f32)
    {Q : (FVec F S512x256 .f32) → sProp 𝕄} :
    iprop(recs I K ∗ pt c cc0_stg8_0 fullShare (qAt I c fQ 15) ∗ pt c cc0_stg4_0 fullShare (I.wqr c) ∗ pt c cc0_stg0_0 fullShare (I.x c) ∗ pt c cc0_stg9_0 fullShare (qrAt I c fQr 2))
      ⊢ iprop((iprop(pt c cc0_stg8_0 fullShare (qAt I c fQ 16) ∗ pt c cc0_stg4_0 fullShare (I.wqr c) ∗ pt c cc0_stg0_0 fullShare (I.x c) ∗ pt c cc0_stg9_0 fullShare (qrAt I c fQr 3)) -∗ Q ((k0_pay82 (wqrR I c 0) (xRC I c 3 0)))) -∗ WP c (k0_part41 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 (k0_pay80 (xC I c 0) (wqCR I c 15 0) (xC I c 1) (wqCR I c 15 1) (xC I c 2) (wqCR I c 15 2) (xC I c 3) (wqCR I c 15 3))) Q) := by
  rw [k0_part41_eq_skeleton]; unfold k0_part41_skel
  simp only [semSignalWord, semWaitWord, Prog.lift, Prog.bind_op, Prog.bind_ret, Prog.pure_eq_ret, wp_deviceId]
  iintro ⟨#HR, HQ, Hwqr, Hx, HQr⟩ Hk
  iapply (wp_ldDeadQ c) $$ HQ
  iintro HQ
  iapply (wp_stQ' c I fQ 15 15 rfl rfl (by rfl)) $$ HQ
  iintro HQ
  iapply (wp_ldWqr I c 0 rfl) $$ Hwqr
  iintro Hwqr
  iapply (wp_ldXRC I c 2 0 rfl) $$ Hx
  iintro Hx
  iapply (wp_ldWqr I c 1 rfl) $$ Hwqr
  iintro Hwqr
  iapply (wp_ldXRC I c 2 1 rfl) $$ Hx
  iintro Hx
  iapply (wp_ldWqr I c 2 rfl) $$ Hwqr
  iintro Hwqr
  iapply (wp_ldXRC I c 2 2 rfl) $$ Hx
  iintro Hx
  iapply (wp_ldWqr I c 3 rfl) $$ Hwqr
  iintro Hwqr
  iapply (wp_ldXRC I c 2 3 rfl) $$ Hx
  iintro Hx
  iapply (wp_ldDeadQr c) $$ HQr
  iintro HQr
  iapply (wp_stQr' c I fQr 2 2 rfl rfl (by rfl)) $$ HQr
  iintro HQr
  iapply (wp_ldWqr I c 0 rfl) $$ Hwqr
  iintro Hwqr
  iapply (wp_ldXRC I c 3 0 rfl) $$ Hx
  iintro Hx
  iapply (wp_done c)
  iapply Hk
  isplitl [HQ]; · iexact HQ
  isplitl [Hwqr]; · iexact Hwqr
  isplitl [Hx]; · iexact Hx
  iexact HQr

/-- Part 42 of the body. -/
theorem part42 (I : Inp F) (K : Dev nD × Fin 19 → ℕ) (c : Dev nD) (fK fV fQ : S1024x2048.Idx → Elt F .f32) (fQr : S512x1024.Idx → Elt F .f32) (fKr : S1024x32.Idx → Elt F .f32)
    {Q : (Σ' (v1147 : FVec F S1024x32 .f32), Vec F S1024x512 .f32) → sProp 𝕄} :
    iprop(recs I K ∗ pt c cc0_stg4_0 fullShare (I.wqr c) ∗ pt c cc0_stg0_0 fullShare (I.x c) ∗ pt c cc0_stg9_0 fullShare (qrAt I c fQr 3) ∗ pt c cc0_stg5_0 fullShare (I.wkr c))
      ⊢ iprop((iprop(pt c cc0_stg4_0 fullShare (I.wqr c) ∗ pt c cc0_stg0_0 fullShare (I.x c) ∗ pt c cc0_stg9_0 fullShare (qrAt I c fQr 4) ∗ pt c cc0_stg5_0 fullShare (I.wkr c)) -∗ Q ⟨k0_pay84 (xC I c 0) (wkrR I c 0) (xC I c 1) (wkrR I c 1), (xC I c 2)⟩) -∗ WP c (k0_part42 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 (k0_pay82 (wqrR I c 0) (xRC I c 3 0))) Q) := by
  rw [k0_part42_eq_skeleton]; unfold k0_part42_skel
  simp only [semSignalWord, semWaitWord, Prog.lift, Prog.bind_op, Prog.bind_ret, Prog.pure_eq_ret, wp_deviceId]
  iintro ⟨#HR, Hwqr, Hx, HQr, Hwkr⟩ Hk
  iapply (wp_ldWqr I c 1 rfl) $$ Hwqr
  iintro Hwqr
  iapply (wp_ldXRC I c 3 1 rfl) $$ Hx
  iintro Hx
  iapply (wp_ldWqr I c 2 rfl) $$ Hwqr
  iintro Hwqr
  iapply (wp_ldXRC I c 3 2 rfl) $$ Hx
  iintro Hx
  iapply (wp_ldWqr I c 3 rfl) $$ Hwqr
  iintro Hwqr
  iapply (wp_ldXRC I c 3 3 rfl) $$ Hx
  iintro Hx
  iapply (wp_ldDeadQr c) $$ HQr
  iintro HQr
  iapply (wp_stQr' c I fQr 3 3 rfl rfl (by rfl)) $$ HQr
  iintro HQr
  iapply (wp_ldXC I c 0 rfl) $$ Hx
  iintro Hx
  iapply (wp_ldWkr I c 0 rfl) $$ Hwkr
  iintro Hwkr
  iapply (wp_ldXC I c 1 rfl) $$ Hx
  iintro Hx
  iapply (wp_ldWkr I c 1 rfl) $$ Hwkr
  iintro Hwkr
  iapply (wp_ldXC I c 2 rfl) $$ Hx
  iintro Hx
  iapply (wp_done c)
  iapply Hk
  isplitl [Hwqr]; · iexact Hwqr
  isplitl [Hx]; · iexact Hx
  isplitl [HQr]; · iexact HQr
  iexact Hwkr

end Cert.KernelIdeal.Fused

end
-- ==== Proof.Parts8.lean ====
/-
The body of the fused kernel, parts 43 to 46.
-/
module

public import proofs.«01_k».proof.Proof.Offs

@[expose] public section

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- Part 43 of the body. -/
theorem part43 (I : Inp F) (K : Dev nD × Fin 19 → ℕ) (c : Dev nD) (fK fV fQ : S1024x2048.Idx → Elt F .f32) (fQr : S512x1024.Idx → Elt F .f32) (fKr : S1024x32.Idx → Elt F .f32) (v7 : BitVec 32)
    {Q : (PUnit) → sProp 𝕄} :
    iprop(recs I K ∗ pt c cc0_stg5_0 fullShare (I.wkr c) ∗ pt c cc0_stg0_0 fullShare (I.x c) ∗ pt c cc0_stg10_0 fullShare fKr ∗ ow c (OR c 0) ∗ slotPay I 0 c (sub c 2) fullShare.left ∗ sFly (F := F) c 0 2 ∗ rTok (F := F) c 0 2)
      ⊢ iprop((iprop(pt c cc0_stg5_0 fullShare (I.wkr c) ∗ pt c cc0_stg0_0 fullShare (I.x c) ∗ pt c cc0_stg10_0 fullShare (krF I c) ∗ ow c (OR c 0) ∗ slotPay I 0 c (sub c 2) fullShare ∗ semVal (sCell c 0 2) 0 ∗ semVal (rCell c 0 2) 0 ∗ slotPay I 0 c (sub c 3) fullShare) -∗ Q ⟨⟩) -∗ WP c (k0_part43 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 c v7 (k0_pay84 (xC I c 0) (wkrR I c 0) (xC I c 1) (wkrR I c 1)) (xC I c 2)) Q) := by
  rw [k0_part43_eq_skeleton]; unfold k0_part43_skel
  simp only [semSignalWord, semWaitWord, Prog.lift, Prog.bind_op, Prog.bind_ret, Prog.pure_eq_ret, wp_deviceId]
  iintro ⟨#HR, Hwkr, Hx, HKr, How, Hslot02, HtokS02, HtokR02⟩ Hk
  iapply (wp_ldWkr I c 2 rfl) $$ Hwkr
  iintro Hwkr
  iapply (wp_ldXC I c 3 rfl) $$ Hx
  iintro Hx
  iapply (wp_ldWkr I c 3 rfl) $$ Hwkr
  iintro Hwkr
  iapply (wp_ldDeadKr c) $$ HKr
  iintro HKr
  iapply (wp_stKr I c (by rfl)) $$ HKr
  iintro HKr
  iapply (wp_waitS I K c 0 2 2 rfl 0 (by rfl) (by rfl)) $$ [HtokS02 Hslot02 How]
  · isplitr; · iexact HR
    isplitl [HtokS02]; · iexact HtokS02
    isplitl [Hslot02]; · iexact Hslot02
    iexact How
  iintro ⟨Hslot02, HtokS02, How⟩
  iapply (wp_waitR I K c 0 2 3 rfl 0 (by decide) (by rfl) (by rfl)) $$ [HtokR02 How]
  · isplitr; · iexact HR
    isplitl [HtokR02]; · iexact HtokR02
    iexact How
  iintro ⟨Hslot03, HtokR02, How⟩
  iapply (wp_done c)
  iapply Hk
  isplitl [Hwkr]; · iexact Hwkr
  isplitl [Hx]; · iexact Hx
  isplitl [HKr]; · iexact HKr
  isplitl [How]; · iexact How
  isplitl [Hslot02]; · iexact Hslot02
  isplitl [HtokS02]; · iexact HtokS02
  isplitl [HtokR02]; · iexact HtokR02
  iexact Hslot03

/-- Part 44 of the body. -/
theorem part44 (I : Inp F) (K : Dev nD × Fin 19 → ℕ) (c : Dev nD) (fK fV fQ : S1024x2048.Idx → Elt F .f32) (fQr : S512x1024.Idx → Elt F .f32) (fKr : S1024x32.Idx → Elt F .f32) (v7 : BitVec 32)
    {Q : (PUnit) → sProp 𝕄} :
    iprop(recs I K ∗ ow c (OR c 0) ∗ slotPay I 1 c (sub c 2) fullShare.left ∗ sFly (F := F) c 1 2 ∗ rTok (F := F) c 1 2 ∗ slotPay I 2 c (sub c 2) fullShare.left ∗ sFly (F := F) c 2 2)
      ⊢ iprop((iprop(ow c (OR c 0) ∗ slotPay I 1 c (sub c 2) fullShare ∗ semVal (sCell c 1 2) 0 ∗ semVal (rCell c 1 2) 0 ∗ slotPay I 1 c (sub c 3) fullShare ∗ slotPay I 2 c (sub c 2) fullShare ∗ semVal (sCell c 2 2) 0) -∗ Q ⟨⟩) -∗ WP c (k0_part44 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 c v7) Q) := by
  rw [k0_part44_eq_skeleton]; unfold k0_part44_skel
  simp only [semSignalWord, semWaitWord, Prog.lift, Prog.bind_op, Prog.bind_ret, Prog.pure_eq_ret, wp_deviceId]
  iintro ⟨#HR, How, Hslot12, HtokS12, HtokR12, Hslot22, HtokS22⟩ Hk
  iapply (wp_waitS I K c 1 2 2 rfl 0 (by rfl) (by rfl)) $$ [HtokS12 Hslot12 How]
  · isplitr; · iexact HR
    isplitl [HtokS12]; · iexact HtokS12
    isplitl [Hslot12]; · iexact Hslot12
    iexact How
  iintro ⟨Hslot12, HtokS12, How⟩
  iapply (wp_waitR I K c 1 2 3 rfl 0 (by decide) (by rfl) (by rfl)) $$ [HtokR12 How]
  · isplitr; · iexact HR
    isplitl [HtokR12]; · iexact HtokR12
    iexact How
  iintro ⟨Hslot13, HtokR12, How⟩
  iapply (wp_waitS I K c 2 2 2 rfl 0 (by rfl) (by rfl)) $$ [HtokS22 Hslot22 How]
  · isplitr; · iexact HR
    isplitl [HtokS22]; · iexact HtokS22
    isplitl [Hslot22]; · iexact Hslot22
    iexact How
  iintro ⟨Hslot22, HtokS22, How⟩
  iapply (wp_done c)
  iapply Hk
  isplitl [How]; · iexact How
  isplitl [Hslot12]; · iexact Hslot12
  isplitl [HtokS12]; · iexact HtokS12
  isplitl [HtokR12]; · iexact HtokR12
  isplitl [Hslot13]; · iexact Hslot13
  isplitl [Hslot22]; · iexact Hslot22
  iexact HtokS22

/-- Part 45 of the body. -/
theorem part45 (I : Inp F) (K : Dev nD × Fin 19 → ℕ) (c : Dev nD) (fK fV fQ : S1024x2048.Idx → Elt F .f32) (fQr : S512x1024.Idx → Elt F .f32) (fKr : S1024x32.Idx → Elt F .f32) (v2 : BitVec 32)
    {Q : (Σ' (v1204 : BitVec 32) (v1207 : FVec F S128x1024 .bf16) (v1227 : FVec F S1024x512 .f32), FVec F S1024x512 .f32) → sProp 𝕄} :
    iprop(recs I K ∗ ow c (OR c 0) ∗ rTok (F := F) c 2 2 ∗ slotPay I 0 c (sub c 3) fullShare ∗ slotPay I 1 c (sub c 3) fullShare ∗ pt c cc0_stg6_0 fullShare (kAt I c fK 3 0) ∗ pt c cc0_stg7_0 fullShare (vAt I c fV 3 0))
      ⊢ iprop((iprop(ow c (OR c 0) ∗ semVal (rCell c 2 2) 0 ∗ slotPay I 2 c (sub c 3) fullShare ∗ slotPay I 0 c (sub c 3) fullShare ∗ slotPay I 1 c (sub c 3) fullShare ∗ pt c cc0_stg6_0 fullShare (kAt I c fK 3 1) ∗ pt c cc0_stg7_0 fullShare (vAt I c fV 3 1)) -∗ Q ⟨(Scalar.remsi (Scalar.addi v2 1#32) 4#32), k0_pay86 (cS I (sub c 3)), k0_pay89 (cS I (sub c 3)) (kS I (sub c 3) 1), k0_pay90 (kB I c fK 3 1)⟩) -∗ WP c (k0_part45 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 c v2) Q) := by
  rw [k0_part45_eq_skeleton]; unfold k0_part45_skel
  simp only [semSignalWord, semWaitWord, Prog.lift, Prog.bind_op, Prog.bind_ret, Prog.pure_eq_ret, wp_deviceId]
  iintro ⟨#HR, How, HtokR22, Hslot03, Hslot13, HK, HV⟩ Hk
  iapply (wp_waitR I K c 2 2 3 rfl 0 (by decide) (by rfl) (by rfl)) $$ [HtokR22 How]
  · isplitr; · iexact HR
    isplitl [HtokR22]; · iexact HtokR22
    iexact How
  iintro ⟨Hslot23, HtokR22, How⟩
  iapply (wp_ldC I c (sub c 3) (o18 c)) $$ Hslot03
  iintro Hslot03
  iapply (wp_ldU I c (sub c 3) 0 (o19 c)) $$ Hslot13
  iintro Hslot13
  iapply (wp_ldK' c I fK 3 0 0 rfl rfl) $$ HK
  iintro HK
  iapply (wp_ldK' c I fK 3 0 0 rfl rfl) $$ HK
  iintro HK
  iapply (wp_stK' c I fK 3 0 0 rfl rfl (by rfl)) $$ HK
  iintro HK
  iapply (wp_ldW I c (sub c 3) 0 (o19 c)) $$ Hslot23
  iintro Hslot23
  iapply (wp_ldV' c I fV 3 0 0 rfl rfl) $$ HV
  iintro HV
  iapply (wp_ldV' c I fV 3 0 0 rfl rfl) $$ HV
  iintro HV
  iapply (wp_stV' c I fV 3 0 0 rfl rfl (by rfl)) $$ HV
  iintro HV
  iapply (wp_ldU I c (sub c 3) 1 (o20 c)) $$ Hslot13
  iintro Hslot13
  iapply (wp_ldK' c I fK 3 1 1 rfl rfl) $$ HK
  iintro HK
  iapply (wp_done c)
  iapply Hk
  isplitl [How]; · iexact How
  isplitl [HtokR22]; · iexact HtokR22
  isplitl [Hslot23]; · iexact Hslot23
  isplitl [Hslot03]; · iexact Hslot03
  isplitl [Hslot13]; · iexact Hslot13
  isplitl [HK]; · iexact HK
  iexact HV

/-- Part 46 of the body. -/
theorem part46 (I : Inp F) (K : Dev nD × Fin 19 → ℕ) (c : Dev nD) (fK fV fQ : S1024x2048.Idx → Elt F .f32) (fQr : S512x1024.Idx → Elt F .f32) (fKr : S1024x32.Idx → Elt F .f32) (v1204 : BitVec 32)
    {Q : (FVec F S1024x512 .f32) → sProp 𝕄} :
    iprop(recs I K ∗ pt c cc0_stg6_0 fullShare (kAt I c fK 3 1) ∗ slotPay I 2 c (sub c 3) fullShare ∗ pt c cc0_stg7_0 fullShare (vAt I c fV 3 1) ∗ slotPay I 1 c (sub c 3) fullShare)
      ⊢ iprop((iprop(pt c cc0_stg6_0 fullShare (kAt I c fK 3 3) ∗ slotPay I 2 c (sub c 3) fullShare ∗ pt c cc0_stg7_0 fullShare (vAt I c fV 3 3) ∗ slotPay I 1 c (sub c 3) fullShare) -∗ Q ((k0_pay95 (k0_pay86 (cS I (sub c 3))) (kS I (sub c 3) 3)))) -∗ WP c (k0_part46 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6 c v1204 (k0_pay86 (cS I (sub c 3))) (k0_pay89 (cS I (sub c 3)) (kS I (sub c 3) 1)) (k0_pay90 (kB I c fK 3 1))) Q) := by
  rw [k0_part46_eq_skeleton]; unfold k0_part46_skel
  simp only [semSignalWord, semWaitWord, Prog.lift, Prog.bind_op, Prog.bind_ret, Prog.pure_eq_ret, wp_deviceId]
  iintro ⟨#HR, HK, Hslot23, HV, Hslot13⟩ Hk
  iapply (wp_ldK' c I fK 3 1 1 rfl rfl) $$ HK
  iintro HK
  iapply (wp_stK' c I fK 3 1 1 rfl rfl (by rfl)) $$ HK
  iintro HK
  iapply (wp_ldW I c (sub c 3) 1 (o20 c)) $$ Hslot23
  iintro Hslot23
  iapply (wp_ldV' c I fV 3 1 1 rfl rfl) $$ HV
  iintro HV
  iapply (wp_ldV' c I fV 3 1 1 rfl rfl) $$ HV
  iintro HV
  iapply (wp_stV' c I fV 3 1 1 rfl rfl (by rfl)) $$ HV
  iintro HV
  iapply (wp_ldU I c (sub c 3) 2 (o21 c)) $$ Hslot13
  iintro Hslot13
  iapply (wp_ldK' c I fK 3 2 2 rfl rfl) $$ HK
  iintro HK
  iapply (wp_ldK' c I fK 3 2 2 rfl rfl) $$ HK
  iintro HK
  iapply (wp_stK' c I fK 3 2 2 rfl rfl (by rfl)) $$ HK
  iintro HK
  iapply (wp_ldW I c (sub c 3) 2 (o21 c)) $$ Hslot23
  iintro Hslot23
  iapply (wp_ldV' c I fV 3 2 2 rfl rfl) $$ HV
  iintro HV
  iapply (wp_ldV' c I fV 3 2 2 rfl rfl) $$ HV
  iintro HV
  iapply (wp_stV' c I fV 3 2 2 rfl rfl (by rfl)) $$ HV
  iintro HV
  iapply (wp_ldU I c (sub c 3) 3 (o22 c)) $$ Hslot13
  iintro Hslot13
  iapply (wp_done c)
  iapply Hk
  isplitl [HK]; · iexact HK
  isplitl [Hslot23]; · iexact Hslot23
  isplitl [HV]; · iexact HV
  iexact Hslot13

end Cert.KernelIdeal.Fused

end
-- ==== Proof.Body.lean ====
/-
The body of the fused kernel, its parts put together.
-/
module

public import proofs.«01_k».proof.Proof.Parts1
public import proofs.«01_k».proof.Proof.Parts2
public import proofs.«01_k».proof.Proof.Parts3
public import proofs.«01_k».proof.Proof.Parts4
public import proofs.«01_k».proof.Proof.Parts5
public import proofs.«01_k».proof.Proof.Parts6
public import proofs.«01_k».proof.Proof.Parts7
public import proofs.«01_k».proof.Proof.Parts8

@[expose] public section

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

theorem wpb {α β : Type} {Q : α → sProp 𝕄} (c : Dev nD) (p : Prog (TpuEff nD τ sig (Elt F) Λ₀ .tc) β) (k : β → Prog (TpuEff nD τ sig (Elt F) Λ₀ .tc) α) :
    WP c p (fun x => WP c (k x) Q) ⊢ WP c (p >>= k) Q := by
  unfold WP; rw [wp_bind]

/-- All but the last store. -/
theorem part47 (I : Inp F) (K : Dev nD × Fin 19 → ℕ) (c : Dev nD) (fK fV fQ : S1024x2048.Idx → Elt F .f32) (fQr : S512x1024.Idx → Elt F .f32) (fKr : S1024x32.Idx → Elt F .f32)
    {Q : (Σ' (v1207 : FVec F S128x1024 .bf16), FVec F S128x512 .bf16) → sProp 𝕄} :
    iprop(recs I K ∗ (dutyTok ER (barCell (prv c)) 0 true ∗ (slotsAny (F := F) c (sub (prv c) 0) ∗ slotsAny (F := F) c (sub (prv c) 1) ∗ slotsAny (F := F) c (sub (prv c) 2))) ∗ ow c (O₀ c) ∗ dutyTok ER (barCell (nxt c)) 0 false ∗ (cred (tallyAt (barCell c) () 2) ∗ atPos ER (barCell c) 0 ∅ 0) ∗ wbAny (F := F) c 0 ∗ pt c main_arg4 fullShare (I.wq c) ∗ semVal ((c : Thread nD τ), .dma (wS 0)) 0 ∗ pt c cc0_stg0_0 fullShare (I.x c) ∗ pt c cc0_stg1_0 fullShare (I.wd c) ∗ slotAny (F := F) 0 c c ∗ pt c cc0_stg2_0 fullShare (I.wk c) ∗ slotAny (F := F) 1 c c ∗ pt c cc0_stg3_0 fullShare (I.wv c) ∗ slotAny (F := F) 2 c c ∗ sTok (F := F) c 0 0 ∗ sTok (F := F) c 1 0 ∗ sTok (F := F) c 2 0 ∗ pt c cc0_stg6_0 fullShare (kAt I c fK 0 0) ∗ pt c cc0_stg7_0 fullShare (vAt I c fV 0 0) ∗ wbAny (F := F) c 1 ∗ semVal ((c : Thread nD τ), .dma (wS 1)) 0 ∗ pt c cc0_stg8_0 fullShare (qAt I c fQ 0) ∗ rTok (F := F) c 0 0 ∗ rTok (F := F) c 1 0 ∗ rTok (F := F) c 2 0 ∗ sTok (F := F) c 0 1 ∗ sTok (F := F) c 1 1 ∗ sTok (F := F) c 2 1 ∗ pt c cc0_stg4_0 fullShare (I.wqr c) ∗ pt c cc0_stg9_0 fullShare (qrAt I c fQr 0) ∗ rTok (F := F) c 0 1 ∗ rTok (F := F) c 1 1 ∗ rTok (F := F) c 2 1 ∗ sTok (F := F) c 0 2 ∗ sTok (F := F) c 1 2 ∗ sTok (F := F) c 2 2 ∗ pt c cc0_stg5_0 fullShare (I.wkr c) ∗ pt c cc0_stg10_0 fullShare fKr ∗ rTok (F := F) c 0 2 ∗ rTok (F := F) c 1 2 ∗ rTok (F := F) c 2 2)
      ⊢ iprop((iprop(pt c cc0_stg0_0 fullShare (I.x c) ∗ pt c cc0_stg1_0 fullShare (I.wd c) ∗ pt c cc0_stg2_0 fullShare (I.wk c) ∗ pt c cc0_stg3_0 fullShare (I.wv c) ∗ pt c cc0_stg4_0 fullShare (I.wqr c) ∗ pt c cc0_stg5_0 fullShare (I.wkr c) ∗ pt c cc0_stg6_0 fullShare (kAt I c fK 4 0) ∗ pt c cc0_stg7_0 fullShare (vAt I c fV 3 3) ∗ pt c cc0_stg8_0 fullShare (qAt I c fQ 16) ∗ pt c cc0_stg9_0 fullShare (qrAt I c fQr 4) ∗ pt c cc0_stg10_0 fullShare (krF I c) ∗ slotPay I 0 c (sub c 0) fullShare ∗ semVal (sCell c 0 0) 0 ∗ semVal (rCell c 0 0) 0 ∗ semVal (sCell c 0 1) 0 ∗ semVal (rCell c 0 1) 0 ∗ semVal (sCell c 0 2) 0 ∗ semVal (rCell c 0 2) 0 ∗ slotPay I 1 c (sub c 0) fullShare ∗ semVal (sCell c 1 0) 0 ∗ semVal (rCell c 1 0) 0 ∗ semVal (sCell c 1 1) 0 ∗ semVal (rCell c 1 1) 0 ∗ semVal (sCell c 1 2) 0 ∗ semVal (rCell c 1 2) 0 ∗ slotPay I 2 c (sub c 0) fullShare ∗ semVal (sCell c 2 0) 0 ∗ semVal (rCell c 2 0) 0 ∗ semVal (sCell c 2 1) 0 ∗ semVal (rCell c 2 1) 0 ∗ semVal (sCell c 2 2) 0 ∗ semVal (rCell c 2 2) 0 ∗ wbHas I c 0 14 ∗ wbHas I c 1 15 ∗ ow c (OR c 0) ∗ semVal (barCell c) 0 ∗ slotPay I 0 c (sub c 1) fullShare ∗ slotPay I 1 c (sub c 1) fullShare ∗ slotPay I 2 c (sub c 1) fullShare ∗ slotPay I 0 c (sub c 2) fullShare ∗ slotPay I 1 c (sub c 2) fullShare ∗ slotPay I 2 c (sub c 2) fullShare ∗ semVal ((c : Thread nD τ), .dma (wS 0)) 0 ∗ pt c main_arg4 fullShare (I.wq c) ∗ semVal ((c : Thread nD τ), .dma (wS 1)) 0 ∗ slotPay I 0 c (sub c 3) fullShare ∗ slotPay I 1 c (sub c 3) fullShare ∗ slotPay I 2 c (sub c 3) fullShare) -∗ Q ⟨(k0_pay86 (cS I (sub c 3))), k0_pay97 (vS I (sub c 3) 3)⟩) -∗ WP c (k0_part47 xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6) Q) := by
  rw [k0_part47_eq_skeleton]; unfold k0_part47_skel
  simp only [Prog.lift, Prog.bind_op, Prog.bind_ret, Prog.pure_eq_ret]
  iintro ⟨#HR, HsigL, How, HsigR, Hbar, Hwb0, Hwq, Hwz0, Hx, Hwd, Hslot00, Hwk, Hslot10, Hwv, Hslot20, HtokS00, HtokS10, HtokS20, HK, HV, Hwb1, Hwz1, HQ, HtokR00, HtokR10, HtokR20, HtokS01, HtokS11, HtokS21, Hwqr, HQr, HtokR01, HtokR11, HtokR21, HtokS02, HtokS12, HtokS22, Hwkr, HKr, HtokR02, HtokR12, HtokR22⟩ Hk
  iapply (wpb c)
  iapply (part1 I K c fK fV fQ fQr fKr) $$ [HsigL How HsigR Hbar Hwb0 Hwq Hwz0 Hx Hwd Hslot00]
  · isplitr; · iexact HR
    isplitl [HsigL]; · iexact HsigL
    isplitl [How]; · iexact How
    isplitl [HsigR]; · iexact HsigR
    isplitl [Hbar]; · iexact Hbar
    isplitl [Hwb0]; · iexact Hwb0
    isplitl [Hwq]; · iexact Hwq
    isplitl [Hwz0]; · iexact Hwz0
    isplitl [Hx]; · iexact Hx
    isplitl [Hwd]; · iexact Hwd
    iexact Hslot00
  iintro ⟨How, Hbar, Hrem00, Hrem01, Hrem02, Hrem10, Hrem11, Hrem12, Hrem20, Hrem21, Hrem22, Hwb0, Hx, Hwd, Hslot00⟩
  dsimp only
  iapply (wpb c)
  iapply (part2 I K c fK fV fQ fQr fKr _) $$ [Hslot00 Hx Hwd Hwk]
  · isplitr; · iexact HR
    isplitl [Hslot00]; · iexact Hslot00
    isplitl [Hx]; · iexact Hx
    isplitl [Hwd]; · iexact Hwd
    iexact Hwk
  iintro ⟨Hslot00, Hx, Hwd, Hwk⟩
  iapply (wpb c)
  iapply (part3 I K c fK fV fQ fQr fKr _ _) $$ [Hslot10 Hwv Hslot20 Hslot00 How HtokS00 Hrem00]
  · isplitr; · iexact HR
    isplitl [Hslot10]; · iexact Hslot10
    isplitl [Hwv]; · iexact Hwv
    isplitl [Hslot20]; · iexact Hslot20
    isplitl [Hslot00]; · iexact Hslot00
    isplitl [How]; · iexact How
    isplitl [HtokS00]; · iexact HtokS00
    iexact Hrem00
  iintro ⟨Hslot10, Hwv, Hslot20, Hslot00, How, HtokS00⟩
  iapply (wpb c)
  iapply (part4 I K c fK fV fQ fQr fKr _ _) $$ [Hslot10 How HtokS10 Hrem10 Hslot20 HtokS20 Hrem20 Hslot00 HK HV]
  · isplitr; · iexact HR
    isplitl [Hslot10]; · iexact Hslot10
    isplitl [How]; · iexact How
    isplitl [HtokS10]; · iexact HtokS10
    isplitl [Hrem10]; · iexact Hrem10
    isplitl [Hslot20]; · iexact Hslot20
    isplitl [HtokS20]; · iexact HtokS20
    isplitl [Hrem20]; · iexact Hrem20
    isplitl [Hslot00]; · iexact Hslot00
    isplitl [HK]; · iexact HK
    iexact HV
  iintro ⟨Hslot10, How, HtokS10, Hslot20, HtokS20, Hslot00, HK, HV⟩
  dsimp only
  iapply (wpb c)
  iapply (part5 I K c fK fV fQ fQr fKr _) $$ [HK Hslot20 HV Hslot10]
  · isplitr; · iexact HR
    isplitl [HK]; · iexact HK
    isplitl [Hslot20]; · iexact Hslot20
    isplitl [HV]; · iexact HV
    iexact Hslot10
  iintro ⟨HK, Hslot20, HV, Hslot10⟩
  iapply (wpb c)
  iapply (part6 I K c fK fV fQ fQr fKr) $$ [HV How Hwb0 Hwb1 Hwz1 Hx]
  · isplitr; · iexact HR
    isplitl [HV]; · iexact HV
    isplitl [How]; · iexact How
    isplitl [Hwb0]; · iexact Hwb0
    isplitl [Hwb1]; · iexact Hwb1
    isplitl [Hwz1]; · iexact Hwz1
    iexact Hx
  iintro ⟨HV, How, Hwb0, Hwz0, Hwb1, Hx⟩
  dsimp only
  iapply (wpb c)
  iapply (part7 I K c fK fV fQ fQr fKr) $$ [Hwb0 Hx HQ How Hwb1 Hwz0]
  · isplitr; · iexact HR
    isplitl [Hwb0]; · iexact Hwb0
    isplitl [Hx]; · iexact Hx
    isplitl [HQ]; · iexact HQ
    isplitl [How]; · iexact How
    isplitl [Hwb1]; · iexact Hwb1
    iexact Hwz0
  iintro ⟨Hwb0, Hx, HQ, How, Hwb1, Hwz1⟩
  iapply (wpb c)
  iapply (part8 I K c fK fV fQ fQr fKr) $$ [Hwb1 Hx HQ]
  · isplitr; · iexact HR
    isplitl [Hwb1]; · iexact Hwb1
    isplitl [Hx]; · iexact Hx
    iexact HQ
  iintro ⟨Hwb1, Hx, HQ⟩
  iapply (wpb c)
  iapply (part9 I K c fK fV fQ fQr fKr) $$ [How Hwb0 Hwb1 Hwz1 Hx]
  · isplitr; · iexact HR
    isplitl [How]; · iexact How
    isplitl [Hwb0]; · iexact Hwb0
    isplitl [Hwb1]; · iexact Hwb1
    isplitl [Hwz1]; · iexact Hwz1
    iexact Hx
  iintro ⟨How, Hwb0, Hwz0, Hwb1, Hx⟩
  dsimp only
  iapply (wpb c)
  iapply (part10 I K c fK fV fQ fQr fKr) $$ [Hwb0 Hx HQ How Hwb1 Hwz0]
  · isplitr; · iexact HR
    isplitl [Hwb0]; · iexact Hwb0
    isplitl [Hx]; · iexact Hx
    isplitl [HQ]; · iexact HQ
    isplitl [How]; · iexact How
    isplitl [Hwb1]; · iexact Hwb1
    iexact Hwz0
  iintro ⟨Hwb0, Hx, HQ, How, Hwb1, Hwz1⟩
  dsimp only
  iapply (wpb c)
  iapply (part11 I K c fK fV fQ fQr fKr) $$ [Hx Hwb1 HQ]
  · isplitr; · iexact HR
    isplitl [Hx]; · iexact Hx
    isplitl [Hwb1]; · iexact Hwb1
    iexact HQ
  iintro ⟨Hx, Hwb1, HQ⟩
  iapply (wpb c)
  iapply (part12 I K c fK fV fQ fQr fKr) $$ [How Hwb0 Hwb1 Hwz1 Hx]
  · isplitr; · iexact HR
    isplitl [How]; · iexact How
    isplitl [Hwb0]; · iexact Hwb0
    isplitl [Hwb1]; · iexact Hwb1
    isplitl [Hwz1]; · iexact Hwz1
    iexact Hx
  iintro ⟨How, Hwb0, Hwz0, Hwb1, Hx⟩
  iapply (wpb c)
  iapply (part13 I K c fK fV fQ fQr fKr _) $$ [Hx Hwb0 HQ How Hslot00 HtokS00 HtokR00]
  · isplitr; · iexact HR
    isplitl [Hx]; · iexact Hx
    isplitl [Hwb0]; · iexact Hwb0
    isplitl [HQ]; · iexact HQ
    isplitl [How]; · iexact How
    isplitl [Hslot00]; · iexact Hslot00
    isplitl [HtokS00]; · iexact HtokS00
    iexact HtokR00
  iintro ⟨Hx, Hwb0, HQ, How, Hslot00, HtokS00, HtokR00, Hslot01⟩
  iapply (wpb c)
  iapply (part14 I K c fK fV fQ fQr fKr _) $$ [How Hslot10 HtokS10 HtokR10 Hslot20 HtokS20]
  · isplitr; · iexact HR
    isplitl [How]; · iexact How
    isplitl [Hslot10]; · iexact Hslot10
    isplitl [HtokS10]; · iexact HtokS10
    isplitl [HtokR10]; · iexact HtokR10
    isplitl [Hslot20]; · iexact Hslot20
    iexact HtokS20
  iintro ⟨How, Hslot10, HtokS10, HtokR10, Hslot11, Hslot20, HtokS20⟩
  iapply (wpb c)
  iapply (part15 I K c fK fV fQ fQr fKr _ _) $$ [How HtokR20 Hslot01 HtokS01 Hrem01 Hslot11 HtokS11 Hrem11]
  · isplitr; · iexact HR
    isplitl [How]; · iexact How
    isplitl [HtokR20]; · iexact HtokR20
    isplitl [Hslot01]; · iexact Hslot01
    isplitl [HtokS01]; · iexact HtokS01
    isplitl [Hrem01]; · iexact Hrem01
    isplitl [Hslot11]; · iexact Hslot11
    isplitl [HtokS11]; · iexact HtokS11
    iexact Hrem11
  iintro ⟨How, HtokR20, Hslot21, Hslot01, HtokS01, Hslot11, HtokS11⟩
  iapply (wpb c)
  iapply (part16 I K c fK fV fQ fQr fKr _) $$ [Hslot21 How HtokS21 Hrem21 Hslot01 Hslot11 HK HV]
  · isplitr; · iexact HR
    isplitl [Hslot21]; · iexact Hslot21
    isplitl [How]; · iexact How
    isplitl [HtokS21]; · iexact HtokS21
    isplitl [Hrem21]; · iexact Hrem21
    isplitl [Hslot01]; · iexact Hslot01
    isplitl [Hslot11]; · iexact Hslot11
    isplitl [HK]; · iexact HK
    iexact HV
  iintro ⟨Hslot21, How, HtokS21, Hslot01, Hslot11, HK, HV⟩
  dsimp only
  iapply (wpb c)
  iapply (part17 I K c fK fV fQ fQr fKr _) $$ [HK Hslot21 HV Hslot11]
  · isplitr; · iexact HR
    isplitl [HK]; · iexact HK
    isplitl [Hslot21]; · iexact Hslot21
    isplitl [HV]; · iexact HV
    iexact Hslot11
  iintro ⟨HK, Hslot21, HV, Hslot11⟩
  iapply (wpb c)
  iapply (part18 I K c fK fV fQ fQr fKr _) $$ [Hslot11 HK Hslot21 HV How Hwb1 Hwb0 Hwz0 Hx]
  · isplitr; · iexact HR
    isplitl [Hslot11]; · iexact Hslot11
    isplitl [HK]; · iexact HK
    isplitl [Hslot21]; · iexact Hslot21
    isplitl [HV]; · iexact HV
    isplitl [How]; · iexact How
    isplitl [Hwb1]; · iexact Hwb1
    isplitl [Hwb0]; · iexact Hwb0
    isplitl [Hwz0]; · iexact Hwz0
    iexact Hx
  iintro ⟨Hslot11, HK, Hslot21, HV, How, Hwb1, Hwz1, Hwb0, Hx⟩
  iapply (wpb c)
  iapply (part19 I K c fK fV fQ fQr fKr) $$ [Hwb1 Hx HQ]
  · isplitr; · iexact HR
    isplitl [Hwb1]; · iexact Hwb1
    isplitl [Hx]; · iexact Hx
    iexact HQ
  iintro ⟨Hwb1, Hx, HQ⟩
  iapply (wpb c)
  iapply (part20 I K c fK fV fQ fQr fKr) $$ [How Hwb0 Hwb1 Hwz1 Hx]
  · isplitr; · iexact HR
    isplitl [How]; · iexact How
    isplitl [Hwb0]; · iexact Hwb0
    isplitl [Hwb1]; · iexact Hwb1
    isplitl [Hwz1]; · iexact Hwz1
    iexact Hx
  iintro ⟨How, Hwb0, Hwz0, Hwb1, Hx⟩
  dsimp only
  iapply (wpb c)
  iapply (part21 I K c fK fV fQ fQr fKr) $$ [Hwb0 Hx HQ How Hwb1 Hwz0]
  · isplitr; · iexact HR
    isplitl [Hwb0]; · iexact Hwb0
    isplitl [Hx]; · iexact Hx
    isplitl [HQ]; · iexact HQ
    isplitl [How]; · iexact How
    isplitl [Hwb1]; · iexact Hwb1
    iexact Hwz0
  iintro ⟨Hwb0, Hx, HQ, How, Hwb1, Hwz1⟩
  dsimp only
  iapply (wpb c)
  iapply (part22 I K c fK fV fQ fQr fKr) $$ [Hx Hwb1 HQ]
  · isplitr; · iexact HR
    isplitl [Hx]; · iexact Hx
    isplitl [Hwb1]; · iexact Hwb1
    iexact HQ
  iintro ⟨Hx, Hwb1, HQ⟩
  iapply (wpb c)
  iapply (part23 I K c fK fV fQ fQr fKr) $$ [How Hwb0 Hwb1 Hwz1 Hx]
  · isplitr; · iexact HR
    isplitl [How]; · iexact How
    isplitl [Hwb0]; · iexact Hwb0
    isplitl [Hwb1]; · iexact Hwb1
    isplitl [Hwz1]; · iexact Hwz1
    iexact Hx
  iintro ⟨How, Hwb0, Hwz0, Hwb1, Hx⟩
  iapply (wpb c)
  iapply (part24 I K c fK fV fQ fQr fKr) $$ [Hx Hwb0 HQ How Hwb1 Hwz0]
  · isplitr; · iexact HR
    isplitl [Hx]; · iexact Hx
    isplitl [Hwb0]; · iexact Hwb0
    isplitl [HQ]; · iexact HQ
    isplitl [How]; · iexact How
    isplitl [Hwb1]; · iexact Hwb1
    iexact Hwz0
  iintro ⟨Hx, Hwb0, HQ, How, Hwb1, Hwz1⟩
  dsimp only
  iapply (wpb c)
  iapply (part25 I K c fK fV fQ fQr fKr) $$ [Hwb1 Hx HQ Hwqr]
  · isplitr; · iexact HR
    isplitl [Hwb1]; · iexact Hwb1
    isplitl [Hx]; · iexact Hx
    isplitl [HQ]; · iexact HQ
    iexact Hwqr
  iintro ⟨Hwb1, Hx, HQ, Hwqr⟩
  dsimp only
  iapply (wpb c)
  iapply (part26 I K c fK fV fQ fQr fKr) $$ [Hx Hwqr HQr]
  · isplitr; · iexact HR
    isplitl [Hx]; · iexact Hx
    isplitl [Hwqr]; · iexact Hwqr
    iexact HQr
  iintro ⟨Hx, Hwqr, HQr⟩
  dsimp only
  iapply (wpb c)
  iapply (part27 I K c fK fV fQ fQr fKr _) $$ [Hwqr Hx HQr How Hslot01 HtokS01 HtokR01]
  · isplitr; · iexact HR
    isplitl [Hwqr]; · iexact Hwqr
    isplitl [Hx]; · iexact Hx
    isplitl [HQr]; · iexact HQr
    isplitl [How]; · iexact How
    isplitl [Hslot01]; · iexact Hslot01
    isplitl [HtokS01]; · iexact HtokS01
    iexact HtokR01
  iintro ⟨Hwqr, Hx, HQr, How, Hslot01, HtokS01, HtokR01, Hslot02⟩
  iapply (wpb c)
  iapply (part28 I K c fK fV fQ fQr fKr _) $$ [How Hslot11 HtokS11 HtokR11 Hslot21 HtokS21]
  · isplitr; · iexact HR
    isplitl [How]; · iexact How
    isplitl [Hslot11]; · iexact Hslot11
    isplitl [HtokS11]; · iexact HtokS11
    isplitl [HtokR11]; · iexact HtokR11
    isplitl [Hslot21]; · iexact Hslot21
    iexact HtokS21
  iintro ⟨How, Hslot11, HtokS11, HtokR11, Hslot12, Hslot21, HtokS21⟩
  iapply (wpb c)
  iapply (part29 I K c fK fV fQ fQr fKr _ _) $$ [How HtokR21 Hslot02 HtokS02 Hrem02 Hslot12 HtokS12 Hrem12]
  · isplitr; · iexact HR
    isplitl [How]; · iexact How
    isplitl [HtokR21]; · iexact HtokR21
    isplitl [Hslot02]; · iexact Hslot02
    isplitl [HtokS02]; · iexact HtokS02
    isplitl [Hrem02]; · iexact Hrem02
    isplitl [Hslot12]; · iexact Hslot12
    isplitl [HtokS12]; · iexact HtokS12
    iexact Hrem12
  iintro ⟨How, HtokR21, Hslot22, Hslot02, HtokS02, Hslot12, HtokS12⟩
  iapply (wpb c)
  iapply (part30 I K c fK fV fQ fQr fKr _) $$ [Hslot22 How HtokS22 Hrem22 Hslot02 Hslot12 HK HV]
  · isplitr; · iexact HR
    isplitl [Hslot22]; · iexact Hslot22
    isplitl [How]; · iexact How
    isplitl [HtokS22]; · iexact HtokS22
    isplitl [Hrem22]; · iexact Hrem22
    isplitl [Hslot02]; · iexact Hslot02
    isplitl [Hslot12]; · iexact Hslot12
    isplitl [HK]; · iexact HK
    iexact HV
  iintro ⟨Hslot22, How, HtokS22, Hslot02, Hslot12, HK, HV⟩
  dsimp only
  iapply (wpb c)
  iapply (part31 I K c fK fV fQ fQr fKr _) $$ [HK Hslot22 HV Hslot12]
  · isplitr; · iexact HR
    isplitl [HK]; · iexact HK
    isplitl [Hslot22]; · iexact Hslot22
    isplitl [HV]; · iexact HV
    iexact Hslot12
  iintro ⟨HK, Hslot22, HV, Hslot12⟩
  iapply (wpb c)
  iapply (part32 I K c fK fV fQ fQr fKr _) $$ [Hslot12 HK Hslot22 HV How Hwb0 Hwb1 Hwz1 Hx]
  · isplitr; · iexact HR
    isplitl [Hslot12]; · iexact Hslot12
    isplitl [HK]; · iexact HK
    isplitl [Hslot22]; · iexact Hslot22
    isplitl [HV]; · iexact HV
    isplitl [How]; · iexact How
    isplitl [Hwb0]; · iexact Hwb0
    isplitl [Hwb1]; · iexact Hwb1
    isplitl [Hwz1]; · iexact Hwz1
    iexact Hx
  iintro ⟨Hslot12, HK, Hslot22, HV, How, Hwb0, Hwz0, Hwb1, Hx⟩
  iapply (wpb c)
  iapply (part33 I K c fK fV fQ fQr fKr) $$ [Hwb0 Hx HQ]
  · isplitr; · iexact HR
    isplitl [Hwb0]; · iexact Hwb0
    isplitl [Hx]; · iexact Hx
    iexact HQ
  iintro ⟨Hwb0, Hx, HQ⟩
  iapply (wpb c)
  iapply (part34 I K c fK fV fQ fQr fKr) $$ [How Hwb1 Hwb0 Hwz0 Hx]
  · isplitr; · iexact HR
    isplitl [How]; · iexact How
    isplitl [Hwb1]; · iexact Hwb1
    isplitl [Hwb0]; · iexact Hwb0
    isplitl [Hwz0]; · iexact Hwz0
    iexact Hx
  iintro ⟨How, Hwb1, Hwz1, Hwb0, Hx⟩
  dsimp only
  iapply (wpb c)
  iapply (part35 I K c fK fV fQ fQr fKr) $$ [Hwb1 Hx HQ How Hwb0 Hwz1]
  · isplitr; · iexact HR
    isplitl [Hwb1]; · iexact Hwb1
    isplitl [Hx]; · iexact Hx
    isplitl [HQ]; · iexact HQ
    isplitl [How]; · iexact How
    isplitl [Hwb0]; · iexact Hwb0
    iexact Hwz1
  iintro ⟨Hwb1, Hx, HQ, How, Hwb0, Hwz0⟩
  iapply (wpb c)
  iapply (part36 I K c fK fV fQ fQr fKr) $$ [Hwb0 Hx HQ]
  · isplitr; · iexact HR
    isplitl [Hwb0]; · iexact Hwb0
    isplitl [Hx]; · iexact Hx
    iexact HQ
  iintro ⟨Hwb0, Hx, HQ⟩
  iapply (wpb c)
  iapply (part37 I K c fK fV fQ fQr fKr) $$ [How Hwb1 Hwb0 Hwz0 Hx]
  · isplitr; · iexact HR
    isplitl [How]; · iexact How
    isplitl [Hwb1]; · iexact Hwb1
    isplitl [Hwb0]; · iexact Hwb0
    isplitl [Hwz0]; · iexact Hwz0
    iexact Hx
  iintro ⟨How, Hwb1, Hwz1, Hwb0, Hx⟩
  dsimp only
  iapply (wpb c)
  iapply (part38 I K c fK fV fQ fQr fKr) $$ [Hx Hwb1 HQ How Hwb0 Hwz1]
  · isplitr; · iexact HR
    isplitl [Hx]; · iexact Hx
    isplitl [Hwb1]; · iexact Hwb1
    isplitl [HQ]; · iexact HQ
    isplitl [How]; · iexact How
    isplitl [Hwb0]; · iexact Hwb0
    iexact Hwz1
  iintro ⟨Hx, Hwb1, HQ, How, Hwb0, Hwz0⟩
  iapply (wpb c)
  iapply (part39 I K c fK fV fQ fQr fKr) $$ [Hx Hwb0 HQ How Hwb1]
  · isplitr; · iexact HR
    isplitl [Hx]; · iexact Hx
    isplitl [Hwb0]; · iexact Hwb0
    isplitl [HQ]; · iexact HQ
    isplitl [How]; · iexact How
    iexact Hwb1
  iintro ⟨Hx, Hwb0, HQ, How, Hwb1, Hwq, Hwz1⟩
  iapply (wpb c)
  iapply (part40 I K c fK fV fQ fQr fKr) $$ [Hx Hwb1]
  · isplitr; · iexact HR
    isplitl [Hx]; · iexact Hx
    iexact Hwb1
  iintro ⟨Hx, Hwb1⟩
  iapply (wpb c)
  iapply (part41 I K c fK fV fQ fQr fKr) $$ [HQ Hwqr Hx HQr]
  · isplitr; · iexact HR
    isplitl [HQ]; · iexact HQ
    isplitl [Hwqr]; · iexact Hwqr
    isplitl [Hx]; · iexact Hx
    iexact HQr
  iintro ⟨HQ, Hwqr, Hx, HQr⟩
  iapply (wpb c)
  iapply (part42 I K c fK fV fQ fQr fKr) $$ [Hwqr Hx HQr Hwkr]
  · isplitr; · iexact HR
    isplitl [Hwqr]; · iexact Hwqr
    isplitl [Hx]; · iexact Hx
    isplitl [HQr]; · iexact HQr
    iexact Hwkr
  iintro ⟨Hwqr, Hx, HQr, Hwkr⟩
  dsimp only
  iapply (wpb c)
  iapply (part43 I K c fK fV fQ fQr fKr _) $$ [Hwkr Hx HKr How Hslot02 HtokS02 HtokR02]
  · isplitr; · iexact HR
    isplitl [Hwkr]; · iexact Hwkr
    isplitl [Hx]; · iexact Hx
    isplitl [HKr]; · iexact HKr
    isplitl [How]; · iexact How
    isplitl [Hslot02]; · iexact Hslot02
    isplitl [HtokS02]; · iexact HtokS02
    iexact HtokR02
  iintro ⟨Hwkr, Hx, HKr, How, Hslot02, HtokS02, HtokR02, Hslot03⟩
  iapply (wpb c)
  iapply (part44 I K c fK fV fQ fQr fKr _) $$ [How Hslot12 HtokS12 HtokR12 Hslot22 HtokS22]
  · isplitr; · iexact HR
    isplitl [How]; · iexact How
    isplitl [Hslot12]; · iexact Hslot12
    isplitl [HtokS12]; · iexact HtokS12
    isplitl [HtokR12]; · iexact HtokR12
    isplitl [Hslot22]; · iexact Hslot22
    iexact HtokS22
  iintro ⟨How, Hslot12, HtokS12, HtokR12, Hslot13, Hslot22, HtokS22⟩
  iapply (wpb c)
  iapply (part45 I K c fK fV fQ fQr fKr _) $$ [How HtokR22 Hslot03 Hslot13 HK HV]
  · isplitr; · iexact HR
    isplitl [How]; · iexact How
    isplitl [HtokR22]; · iexact HtokR22
    isplitl [Hslot03]; · iexact Hslot03
    isplitl [Hslot13]; · iexact Hslot13
    isplitl [HK]; · iexact HK
    iexact HV
  iintro ⟨How, HtokR22, Hslot23, Hslot03, Hslot13, HK, HV⟩
  dsimp only
  iapply (wpb c)
  iapply (part46 I K c fK fV fQ fQr fKr _) $$ [HK Hslot23 HV Hslot13]
  · isplitr; · iexact HR
    isplitl [HK]; · iexact HK
    isplitl [Hslot23]; · iexact Hslot23
    isplitl [HV]; · iexact HV
    iexact Hslot13
  iintro ⟨HK, Hslot23, HV, Hslot13⟩
  iapply (wp_ldK' c I fK 3 3 3 rfl rfl) $$ HK
  iintro HK
  iapply (wp_ldK' c I fK 3 3 3 rfl rfl) $$ HK
  iintro HK
  iapply (wp_stK' c I fK 3 3 3 rfl rfl (by rfl)) $$ HK
  iintro HK
  ihave HK := (ptK_next c I fK 3) $$ HK
  iapply (wp_ldW I c (sub c 3) 3 (o22 c)) $$ Hslot23
  iintro Hslot23
  iapply (wp_done c)
  iapply Hk
  isplitl [Hx]; · iexact Hx
  isplitl [Hwd]; · iexact Hwd
  isplitl [Hwk]; · iexact Hwk
  isplitl [Hwv]; · iexact Hwv
  isplitl [Hwqr]; · iexact Hwqr
  isplitl [Hwkr]; · iexact Hwkr
  isplitl [HK]; · iexact HK
  isplitl [HV]; · iexact HV
  isplitl [HQ]; · iexact HQ
  isplitl [HQr]; · iexact HQr
  isplitl [HKr]; · iexact HKr
  isplitl [Hslot00]; · iexact Hslot00
  isplitl [HtokS00]; · iexact HtokS00
  isplitl [HtokR00]; · iexact HtokR00
  isplitl [HtokS01]; · iexact HtokS01
  isplitl [HtokR01]; · iexact HtokR01
  isplitl [HtokS02]; · iexact HtokS02
  isplitl [HtokR02]; · iexact HtokR02
  isplitl [Hslot10]; · iexact Hslot10
  isplitl [HtokS10]; · iexact HtokS10
  isplitl [HtokR10]; · iexact HtokR10
  isplitl [HtokS11]; · iexact HtokS11
  isplitl [HtokR11]; · iexact HtokR11
  isplitl [HtokS12]; · iexact HtokS12
  isplitl [HtokR12]; · iexact HtokR12
  isplitl [Hslot20]; · iexact Hslot20
  isplitl [HtokS20]; · iexact HtokS20
  isplitl [HtokR20]; · iexact HtokR20
  isplitl [HtokS21]; · iexact HtokS21
  isplitl [HtokR21]; · iexact HtokR21
  isplitl [HtokS22]; · iexact HtokS22
  isplitl [HtokR22]; · iexact HtokR22
  isplitl [Hwb0]; · iexact Hwb0
  isplitl [Hwb1]; · iexact Hwb1
  isplitl [How]; · iexact How
  isplitl [Hbar]; · iexact Hbar
  isplitl [Hslot01]; · iexact Hslot01
  isplitl [Hslot11]; · iexact Hslot11
  isplitl [Hslot21]; · iexact Hslot21
  isplitl [Hslot02]; · iexact Hslot02
  isplitl [Hslot12]; · iexact Hslot12
  isplitl [Hslot22]; · iexact Hslot22
  isplitl [Hwz0]; · iexact Hwz0
  isplitl [Hwq]; · iexact Hwq
  isplitl [Hwz1]; · iexact Hwz1
  isplitl [Hslot03]; · iexact Hslot03
  isplitl [Hslot13]; · iexact Hslot13
  iexact Hslot23

/-- The whole body. -/
theorem body_run (I : Inp F) (K : Dev nD × Fin 19 → ℕ) (c : Dev nD) (fK fV fQ : S1024x2048.Idx → Elt F .f32) (fQr : S512x1024.Idx → Elt F .f32) (fKr : S1024x32.Idx → Elt F .f32)
    {Q : PUnit → sProp 𝕄} :
    iprop(recs I K ∗ (dutyTok ER (barCell (prv c)) 0 true ∗ (slotsAny (F := F) c (sub (prv c) 0) ∗ slotsAny (F := F) c (sub (prv c) 1) ∗ slotsAny (F := F) c (sub (prv c) 2))) ∗ ow c (O₀ c) ∗ dutyTok ER (barCell (nxt c)) 0 false ∗ (cred (tallyAt (barCell c) () 2) ∗ atPos ER (barCell c) 0 ∅ 0) ∗ wbAny (F := F) c 0 ∗ pt c main_arg4 fullShare (I.wq c) ∗ semVal ((c : Thread nD τ), .dma (wS 0)) 0 ∗ pt c cc0_stg0_0 fullShare (I.x c) ∗ pt c cc0_stg1_0 fullShare (I.wd c) ∗ slotAny (F := F) 0 c c ∗ pt c cc0_stg2_0 fullShare (I.wk c) ∗ slotAny (F := F) 1 c c ∗ pt c cc0_stg3_0 fullShare (I.wv c) ∗ slotAny (F := F) 2 c c ∗ sTok (F := F) c 0 0 ∗ sTok (F := F) c 1 0 ∗ sTok (F := F) c 2 0 ∗ pt c cc0_stg6_0 fullShare (kAt I c fK 0 0) ∗ pt c cc0_stg7_0 fullShare (vAt I c fV 0 0) ∗ wbAny (F := F) c 1 ∗ semVal ((c : Thread nD τ), .dma (wS 1)) 0 ∗ pt c cc0_stg8_0 fullShare (qAt I c fQ 0) ∗ rTok (F := F) c 0 0 ∗ rTok (F := F) c 1 0 ∗ rTok (F := F) c 2 0 ∗ sTok (F := F) c 0 1 ∗ sTok (F := F) c 1 1 ∗ sTok (F := F) c 2 1 ∗ pt c cc0_stg4_0 fullShare (I.wqr c) ∗ pt c cc0_stg9_0 fullShare (qrAt I c fQr 0) ∗ rTok (F := F) c 0 1 ∗ rTok (F := F) c 1 1 ∗ rTok (F := F) c 2 1 ∗ sTok (F := F) c 0 2 ∗ sTok (F := F) c 1 2 ∗ sTok (F := F) c 2 2 ∗ pt c cc0_stg5_0 fullShare (I.wkr c) ∗ pt c cc0_stg10_0 fullShare fKr ∗ rTok (F := F) c 0 2 ∗ rTok (F := F) c 1 2 ∗ rTok (F := F) c 2 2)
      ⊢ iprop((iprop(pt c cc0_stg0_0 fullShare (I.x c) ∗ pt c cc0_stg1_0 fullShare (I.wd c) ∗ pt c cc0_stg2_0 fullShare (I.wk c) ∗ pt c cc0_stg3_0 fullShare (I.wv c) ∗ pt c cc0_stg4_0 fullShare (I.wqr c) ∗ pt c cc0_stg5_0 fullShare (I.wkr c) ∗ pt c cc0_stg6_0 fullShare (kAt I c fK 4 0) ∗ pt c cc0_stg7_0 fullShare (vAt I c fV 4 0) ∗ pt c cc0_stg8_0 fullShare (qAt I c fQ 16) ∗ pt c cc0_stg9_0 fullShare (qrAt I c fQr 4) ∗ pt c cc0_stg10_0 fullShare (krF I c) ∗ slotPay I 0 c (sub c 0) fullShare ∗ semVal (sCell c 0 0) 0 ∗ semVal (rCell c 0 0) 0 ∗ semVal (sCell c 0 1) 0 ∗ semVal (rCell c 0 1) 0 ∗ semVal (sCell c 0 2) 0 ∗ semVal (rCell c 0 2) 0 ∗ slotPay I 1 c (sub c 0) fullShare ∗ semVal (sCell c 1 0) 0 ∗ semVal (rCell c 1 0) 0 ∗ semVal (sCell c 1 1) 0 ∗ semVal (rCell c 1 1) 0 ∗ semVal (sCell c 1 2) 0 ∗ semVal (rCell c 1 2) 0 ∗ slotPay I 2 c (sub c 0) fullShare ∗ semVal (sCell c 2 0) 0 ∗ semVal (rCell c 2 0) 0 ∗ semVal (sCell c 2 1) 0 ∗ semVal (rCell c 2 1) 0 ∗ semVal (sCell c 2 2) 0 ∗ semVal (rCell c 2 2) 0 ∗ wbHas I c 0 14 ∗ wbHas I c 1 15 ∗ ow c (OR c 0) ∗ semVal (barCell c) 0 ∗ slotPay I 0 c (sub c 1) fullShare ∗ slotPay I 1 c (sub c 1) fullShare ∗ slotPay I 2 c (sub c 1) fullShare ∗ slotPay I 0 c (sub c 2) fullShare ∗ slotPay I 1 c (sub c 2) fullShare ∗ slotPay I 2 c (sub c 2) fullShare ∗ semVal ((c : Thread nD τ), .dma (wS 0)) 0 ∗ pt c main_arg4 fullShare (I.wq c) ∗ semVal ((c : Thread nD τ), .dma (wS 1)) 0 ∗ slotPay I 0 c (sub c 3) fullShare ∗ slotPay I 1 c (sub c 3) fullShare ∗ slotPay I 2 c (sub c 3) fullShare) -∗ Q ⟨⟩) -∗ WP c (cc0_body xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6) Q) := by
  rw [cc0_body_eq_skeleton]; unfold cc0_body_skel
  simp only [Prog.lift, Prog.bind_op, Prog.bind_ret, Prog.pure_eq_ret]
  iintro ⟨#HR, HsigL, How, HsigR, Hbar, Hwb0, Hwq, Hwz0, Hx, Hwd, Hslot00, Hwk, Hslot10, Hwv, Hslot20, HtokS00, HtokS10, HtokS20, HK, HV, Hwb1, Hwz1, HQ, HtokR00, HtokR10, HtokR20, HtokS01, HtokS11, HtokS21, Hwqr, HQr, HtokR01, HtokR11, HtokR21, HtokS02, HtokS12, HtokS22, Hwkr, HKr, HtokR02, HtokR12, HtokR22⟩ Hk
  iapply (wpb c)
  iapply (part47 I K c fK fV fQ fQr fKr) $$ [HsigL How HsigR Hbar Hwb0 Hwq Hwz0 Hx Hwd Hslot00 Hwk Hslot10 Hwv Hslot20 HtokS00 HtokS10 HtokS20 HK HV Hwb1 Hwz1 HQ HtokR00 HtokR10 HtokR20 HtokS01 HtokS11 HtokS21 Hwqr HQr HtokR01 HtokR11 HtokR21 HtokS02 HtokS12 HtokS22 Hwkr HKr HtokR02 HtokR12 HtokR22]
  · isplitr; · iexact HR
    isplitl [HsigL]; · iexact HsigL
    isplitl [How]; · iexact How
    isplitl [HsigR]; · iexact HsigR
    isplitl [Hbar]; · iexact Hbar
    isplitl [Hwb0]; · iexact Hwb0
    isplitl [Hwq]; · iexact Hwq
    isplitl [Hwz0]; · iexact Hwz0
    isplitl [Hx]; · iexact Hx
    isplitl [Hwd]; · iexact Hwd
    isplitl [Hslot00]; · iexact Hslot00
    isplitl [Hwk]; · iexact Hwk
    isplitl [Hslot10]; · iexact Hslot10
    isplitl [Hwv]; · iexact Hwv
    isplitl [Hslot20]; · iexact Hslot20
    isplitl [HtokS00]; · iexact HtokS00
    isplitl [HtokS10]; · iexact HtokS10
    isplitl [HtokS20]; · iexact HtokS20
    isplitl [HK]; · iexact HK
    isplitl [HV]; · iexact HV
    isplitl [Hwb1]; · iexact Hwb1
    isplitl [Hwz1]; · iexact Hwz1
    isplitl [HQ]; · iexact HQ
    isplitl [HtokR00]; · iexact HtokR00
    isplitl [HtokR10]; · iexact HtokR10
    isplitl [HtokR20]; · iexact HtokR20
    isplitl [HtokS01]; · iexact HtokS01
    isplitl [HtokS11]; · iexact HtokS11
    isplitl [HtokS21]; · iexact HtokS21
    isplitl [Hwqr]; · iexact Hwqr
    isplitl [HQr]; · iexact HQr
    isplitl [HtokR01]; · iexact HtokR01
    isplitl [HtokR11]; · iexact HtokR11
    isplitl [HtokR21]; · iexact HtokR21
    isplitl [HtokS02]; · iexact HtokS02
    isplitl [HtokS12]; · iexact HtokS12
    isplitl [HtokS22]; · iexact HtokS22
    isplitl [Hwkr]; · iexact Hwkr
    isplitl [HKr]; · iexact HKr
    isplitl [HtokR02]; · iexact HtokR02
    isplitl [HtokR12]; · iexact HtokR12
    iexact HtokR22
  iintro ⟨Hx, Hwd, Hwk, Hwv, Hwqr, Hwkr, HK, HV, HQ, HQr, HKr, Hslot00, HtokS00, HtokR00, HtokS01, HtokR01, HtokS02, HtokR02, Hslot10, HtokS10, HtokR10, HtokS11, HtokR11, HtokS12, HtokR12, Hslot20, HtokS20, HtokR20, HtokS21, HtokR21, HtokS22, HtokR22, Hwb0, Hwb1, How, Hbar, Hslot01, Hslot11, Hslot21, Hslot02, Hslot12, Hslot22, Hwz0, Hwq, Hwz1, Hslot03, Hslot13, Hslot23⟩
  dsimp only
  iapply (wp_ldV' c I fV 3 3 3 rfl rfl) $$ HV
  iintro HV
  iapply (wp_ldV' c I fV 3 3 3 rfl rfl) $$ HV
  iintro HV
  iapply (wp_stV' c I fV 3 3 3 rfl rfl (by rfl)) $$ HV
  iintro HV
  ihave HV := (ptV_next c I fV 3) $$ HV
  iapply (wp_done c)
  iapply Hk
  isplitl [Hx]; · iexact Hx
  isplitl [Hwd]; · iexact Hwd
  isplitl [Hwk]; · iexact Hwk
  isplitl [Hwv]; · iexact Hwv
  isplitl [Hwqr]; · iexact Hwqr
  isplitl [Hwkr]; · iexact Hwkr
  isplitl [HK]; · iexact HK
  isplitl [HV]; · iexact HV
  isplitl [HQ]; · iexact HQ
  isplitl [HQr]; · iexact HQr
  isplitl [HKr]; · iexact HKr
  isplitl [Hslot00]; · iexact Hslot00
  isplitl [HtokS00]; · iexact HtokS00
  isplitl [HtokR00]; · iexact HtokR00
  isplitl [HtokS01]; · iexact HtokS01
  isplitl [HtokR01]; · iexact HtokR01
  isplitl [HtokS02]; · iexact HtokS02
  isplitl [HtokR02]; · iexact HtokR02
  isplitl [Hslot10]; · iexact Hslot10
  isplitl [HtokS10]; · iexact HtokS10
  isplitl [HtokR10]; · iexact HtokR10
  isplitl [HtokS11]; · iexact HtokS11
  isplitl [HtokR11]; · iexact HtokR11
  isplitl [HtokS12]; · iexact HtokS12
  isplitl [HtokR12]; · iexact HtokR12
  isplitl [Hslot20]; · iexact Hslot20
  isplitl [HtokS20]; · iexact HtokS20
  isplitl [HtokR20]; · iexact HtokR20
  isplitl [HtokS21]; · iexact HtokS21
  isplitl [HtokR21]; · iexact HtokR21
  isplitl [HtokS22]; · iexact HtokS22
  isplitl [HtokR22]; · iexact HtokR22
  isplitl [Hwb0]; · iexact Hwb0
  isplitl [Hwb1]; · iexact Hwb1
  isplitl [How]; · iexact How
  isplitl [Hbar]; · iexact Hbar
  isplitl [Hslot01]; · iexact Hslot01
  isplitl [Hslot11]; · iexact Hslot11
  isplitl [Hslot21]; · iexact Hslot21
  isplitl [Hslot02]; · iexact Hslot02
  isplitl [Hslot12]; · iexact Hslot12
  isplitl [Hslot22]; · iexact Hslot22
  isplitl [Hwz0]; · iexact Hwz0
  isplitl [Hwq]; · iexact Hwq
  isplitl [Hwz1]; · iexact Hwz1
  isplitl [Hslot03]; · iexact Hslot03
  isplitl [Hslot13]; · iexact Hslot13
  iexact Hslot23

end Cert.KernelIdeal.Fused

end
-- ==== Proof.Run.lean ====
/-
The fused call's run: what each window's buffers hold before and after, the body's obligation, and the run of @main from
any memory.
-/
module

public import proofs.«01_k».proof.Proof.Launch
public import proofs.«01_k».proof.Proof.Body
public import Idealize.ShloMosaic.Lib.Pipeline.CollectiveSegs

@[expose] public section

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The inputs, as @main's arguments hold them. -/
def inp : Inp F where
  x c := (win0_0.blk (0 : Fin 1)).view.read (Elt F) (m ((c : Thread nD τ).loc main_arg0))
  wd c := (win0_1.blk (0 : Fin 1)).view.read (Elt F) (m ((c : Thread nD τ).loc main_arg1))
  wk c := (win0_2.blk (0 : Fin 1)).view.read (Elt F) (m ((c : Thread nD τ).loc main_arg2))
  wv c := (win0_3.blk (0 : Fin 1)).view.read (Elt F) (m ((c : Thread nD τ).loc main_arg3))
  wqr c := (win0_4.blk (0 : Fin 1)).view.read (Elt F) (m ((c : Thread nD τ).loc main_arg5))
  wkr c := (win0_5.blk (0 : Fin 1)).view.read (Elt F) (m ((c : Thread nD τ).loc main_arg6))
  wq c := m ((c : Thread nD τ).loc main_arg4)

/-! ## The results' contents, which do not depend on what the results held before -/

section Fin
variable (I : Inp F) (c : Dev nD)

theorem kB_any (f g : S1024x2048.Idx → Elt F .f32) (k : ℕ) (n : Fin 4) : kB I c f (k + 1) n = kB I c g (k + 1) n := by
  induction k with
  | zero => rfl
  | succ k ih => show k0_pay32 _ _ (kB I c f (k + 1) n) = k0_pay32 _ _ (kB I c g (k + 1) n); rw [ih]
theorem vB_any (f g : S1024x2048.Idx → Elt F .f32) (k : ℕ) (n : Fin 4) : vB I c f (k + 1) n = vB I c g (k + 1) n := by
  induction k with
  | zero => rfl
  | succ k ih => show k0_pay32 _ _ (vB I c f (k + 1) n) = k0_pay32 _ _ (vB I c g (k + 1) n); rw [ih]

/-- The keys, -/
def kF : S1024x2048.Idx → Elt F .f32 := cols (C := 2048) (B := 512) (N := 4) rfl (kB I c (I.x c) 4)
/-- the values, -/
def vF : S1024x2048.Idx → Elt F .f32 := cols (C := 2048) (B := 512) (N := 4) rfl (vB I c (I.x c) 4)
/-- the queries, -/
def qF : S1024x2048.Idx → Elt F .f32 := cols (C := 2048) (B := 128) (N := 16) rfl (qB I c)
/-- and the transposed rotary queries. -/
def qrF : S512x1024.Idx → Elt F .f32 := cols (C := 1024) (B := 256) (N := 4) rfl (qrB I c)

theorem kAt_four (f : S1024x2048.Idx → Elt F .f32) : kAt I c f 4 0 = kF I c := by
  unfold kAt kF; rw [upTo_zero, funext (kB_any I c f (I.x c) 3)]
theorem vAt_four (f : S1024x2048.Idx → Elt F .f32) : vAt I c f 4 0 = vF I c := by
  unfold vAt vF; rw [upTo_zero, funext (vB_any I c f (I.x c) 3)]
theorem qAt_all (f : S1024x2048.Idx → Elt F .f32) : qAt I c f 16 = qF I c := by
  unfold qAt qF; rw [upTo_all]
theorem qrAt_all (f : S512x1024.Idx → Elt F .f32) : qrAt I c f 4 = qrF I c := by
  unfold qrAt qrF; rw [upTo_all]
end Fin

/-! ## The proof data -/

/-- The later calls' staging buffers, whole at any contents. -/
def others (c : Dev nD) : sProp 𝕄 :=
  BI.bigSepL [cc1_stg0_0, cc1_stg0_1, cc1_stg1_0, cc1_stg1_1, cc1_stg2_0, cc1_stg2_1, cc1_stg3_0, cc1_stg3_1, cc1_stg4_0, cc1_stg4_1,
    cc1_stg5_0, cc1_stg5_1, cc2_stg0_0, cc2_stg1_0, cc2_stg1_1, cc2_stg2_0, cc2_stg2_1]
    fun b => iprop(∃ f : Buf (Elt F) ((c : Thread nD τ).loc b), ((c : Thread nD τ).loc b) ↦{fullShare} f)
/-- What the call finds beside its staged blocks: the three ring buffers, the copy buffer, the later calls' buffers. -/
theorem rest_bufs (c : Dev nD) : (Pipeline.scopedRest spec0 c : sProp 𝕄) = iprop(bufAny (F := F) 0 c ∗ bufAny (F := F) 1 c ∗ bufAny (F := F) 2 c
    ∗ (∃ f : Buf (Elt F) ((c : Thread nD τ).loc cc0_scratch3), ((c : Thread nD τ).loc cc0_scratch3) ↦{fullShare} f) ∗ others (F := F) c) :=
  scopedRest0_eq c

/-- The credits a device waits with. -/
def credits (c : Dev nD) : sProp 𝕄 :=
  iprop(cred (tallyAt (barCell c) () 2) ∗ bigSep Finset.univ fun p : Fin 3 × Fin 3 => cred (tallyAt (rCell c p.1 p.2) () (Nt p.1)))
/-- What device `c`'s body starts from, beside its buffers. -/
def start (c : Dev nD) : sProp 𝕄 := iprop((∃ K, recs (inp m) K) ∗ linear c ∗ credits (F := F) c)
/-- Before the body, -/
def Φ₀ (c : Dev nD) : sProp 𝕄 :=
  iprop(start m c ∗ pt c main_arg4 fullShare ((inp m).wq c) ∗ Pipeline.scopedRest spec0 c ∗ ∃ r, prngReg c r)
/-- and after it: the barrier's counter and the kernel's own at zero, the query projection, the buffers whole. -/
def Φ₁ (c : Dev nD) : sProp 𝕄 :=
  iprop(semVal (barCell c) 0 ∗ pt c main_arg4 fullShare ((inp m).wq c)
    ∗ ((bigSep Finset.univ fun p : Fin 3 × Fin 3 => semVal (sCell c p.1 p.2) 0)
        ∗ (bigSep Finset.univ fun p : Fin 3 × Fin 3 => semVal (rCell c p.1 p.2) 0)
        ∗ semVal ((c : Thread nD τ), .dma (wS 0)) 0 ∗ semVal ((c : Thread nD τ), .dma (wS 1)) 0)
    ∗ Pipeline.scopedRest spec0 c ∗ ∃ r, prngReg c r)

/-- The fused call's proof data. -/
def dat (c : Dev nD) : Dat τ (Elt F) Unit ℕ UU ℕ cfg0 c where
  A w := m ((cfg0.win w).arr.view.loc (c : Thread nD τ))
  after w _ := match w with
    | ⟨0, _⟩ => (inp m).x c
    | ⟨1, _⟩ => (inp m).wd c
    | ⟨2, _⟩ => (inp m).wk c
    | ⟨3, _⟩ => (inp m).wv c
    | ⟨4, _⟩ => (inp m).wqr c
    | ⟨5, _⟩ => (inp m).wkr c
    | ⟨6, _⟩ => kF (inp m) c
    | ⟨7, _⟩ => vF (inp m) c
    | ⟨8, _⟩ => qF (inp m) c
    | ⟨9, _⟩ => qrF (inp m) c
    | ⟨10, _⟩ => krF (inp m) c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body -/

/-- What the body needs of a device's share of the ring, hop by hop. -/
theorem linear_split (c : Dev nD) :
    iprop(linear (F := F) c ∗ bigSep Finset.univ fun p : Fin 3 × Fin 3 => cred (tallyAt (rCell c p.1 p.2) () (Nt p.1)))
      ⊢ iprop((opened (F := F) 0 c ∗ opened (F := F) 1 c ∗ opened (F := F) 2 c) ∗ atPos ER (barCell c) 0 ∅ 0 ∗ dutyTok ER (barCell (nxt c)) 0 false ∗ dutyTok ER (barCell (prv c)) 0 true
        ∗ semVal ((c : Thread nD τ), .dma (wS 0)) 0 ∗ semVal ((c : Thread nD τ), .dma (wS 1)) 0
        ∗ (sTok (F := F) c 0 0 ∗ sTok (F := F) c 1 0 ∗ sTok (F := F) c 2 0 ∗ sTok (F := F) c 0 1 ∗ sTok (F := F) c 1 1 ∗ sTok (F := F) c 2 1
          ∗ sTok (F := F) c 0 2 ∗ sTok (F := F) c 1 2 ∗ sTok (F := F) c 2 2)
        ∗ rTok (F := F) c 0 0 ∗ rTok (F := F) c 1 0 ∗ rTok (F := F) c 2 0 ∗ rTok (F := F) c 0 1 ∗ rTok (F := F) c 1 1 ∗ rTok (F := F) c 2 1
          ∗ rTok (F := F) c 0 2 ∗ rTok (F := F) c 1 2 ∗ rTok (F := F) c 2 2) := by
  rw [← bigSep_nine (fun t h => sTok (F := F) c t h), ← bigSep_nine (fun t h => rTok (F := F) c t h)]
  unfold linear positions payToks sTok rTok
  simp only [bigSep_sep']
  iintro ⟨⟨⟨HaB, ⟨HaS, HrS⟩, HaR⟩, ⟨⟨HtN, HtS, HtR⟩, HtP⟩, ⟨Hw0, Hw1⟩, HOp⟩, Hc⟩
  isplitl [HOp]; · iexact HOp
  isplitl [HaB]; · iexact HaB
  isplitl [HtN]; · iexact HtN
  isplitl [HtP]; · iexact HtP
  isplitl [Hw0]; · iexact Hw0
  isplitl [Hw1]; · iexact Hw1
  isplitl [HtS HtR HaS HrS]
  · isplitl [HtS]; · iexact HtS
    isplitl [HtR]; · iexact HtR
    isplitl [HaS] <;> iassumption
  isplitl [Hc] <;> iassumption

set_option maxRecDepth 4000 in
def bodyPre (c : Dev nD) : sProp 𝕄 :=
  iprop(Φ₀ m c ∗ (dat m c).owesAt () t0_0.castSucc ∗ (∃ d, stg c cc0_stg0_0 ((dat m c).before (0 : Fin 11) t0_0 d)) ∗ (∃ d, stg c cc0_stg1_0 ((dat m c).before (1 : Fin 11) t0_0 d)) ∗ (∃ d, stg c cc0_stg2_0 ((dat m c).before (2 : Fin 11) t0_0 d)) ∗ (∃ d, stg c cc0_stg3_0 ((dat m c).before (3 : Fin 11) t0_0 d)) ∗ (∃ d, stg c cc0_stg4_0 ((dat m c).before (4 : Fin 11) t0_0 d)) ∗ (∃ d, stg c cc0_stg5_0 ((dat m c).before (5 : Fin 11) t0_0 d)) ∗ (∃ d, stg c cc0_stg6_0 ((dat m c).before (6 : Fin 11) t0_0 d)) ∗ (∃ d, stg c cc0_stg7_0 ((dat m c).before (7 : Fin 11) t0_0 d)) ∗ (∃ d, stg c cc0_stg8_0 ((dat m c).before (8 : Fin 11) t0_0 d)) ∗ (∃ d, stg c cc0_stg9_0 ((dat m c).before (9 : Fin 11) t0_0 d)) ∗ (∃ d, stg c cc0_stg10_0 ((dat m c).before (10 : Fin 11) t0_0 d)))
set_option maxRecDepth 4000 in
def bodyPost (c : Dev nD) : sProp 𝕄 :=
  iprop(Φ₁ m c ∗ (dat m c).owesAt () t0_0.succ ∗ stg c cc0_stg0_0 ((dat m c).after (0 : Fin 11) t0_0) ∗ stg c cc0_stg1_0 ((dat m c).after (1 : Fin 11) t0_0) ∗ stg c cc0_stg2_0 ((dat m c).after (2 : Fin 11) t0_0) ∗ stg c cc0_stg3_0 ((dat m c).after (3 : Fin 11) t0_0) ∗ stg c cc0_stg4_0 ((dat m c).after (4 : Fin 11) t0_0) ∗ stg c cc0_stg5_0 ((dat m c).after (5 : Fin 11) t0_0) ∗ stg c cc0_stg6_0 ((dat m c).after (6 : Fin 11) t0_0) ∗ stg c cc0_stg7_0 ((dat m c).after (7 : Fin 11) t0_0) ∗ stg c cc0_stg8_0 ((dat m c).after (8 : Fin 11) t0_0) ∗ stg c cc0_stg9_0 ((dat m c).after (9 : Fin 11) t0_0) ∗ stg c cc0_stg10_0 ((dat m c).after (10 : Fin 11) t0_0))

set_option maxHeartbeats 1600000 in
set_option maxRecDepth 4000 in
/-- The body, from a device's share of the ring and its staged inputs to the results. -/
theorem sound_body (c : Dev nD) :
    bodyPre m c ⊢ WP c (cc0_body xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6) (fun _ => bodyPost m c) := by
  unfold bodyPre Φ₀ start credits
  rw [rest_bufs]
  iintro ⟨⟨⟨⟨%K, #HR⟩, Hlin, ⟨HcB, HcR⟩⟩, Hwq, ⟨Hb0, Hb1, Hb2, Hwb, Hoth⟩, Hprng⟩, Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, %hg7, H7⟩, ⟨%d8, %g8, %hg8, H8⟩, ⟨%d9, %g9, %hg9, H9⟩, ⟨%d10, %g10, %hg10, H10⟩⟩
  have hx0 : g0 = (inp m).x c := by rw [hg0]; unfold Dat.before; rw [if_pos (fetch0_0 t0_0)]; rfl
  subst hx0
  have hx1 : g1 = (inp m).wd c := by rw [hg1]; unfold Dat.before; rw [if_pos (fetch0_1 t0_0)]; rfl
  subst hx1
  have hx2 : g2 = (inp m).wk c := by rw [hg2]; unfold Dat.before; rw [if_pos (fetch0_2 t0_0)]; rfl
  subst hx2
  have hx3 : g3 = (inp m).wv c := by rw [hg3]; unfold Dat.before; rw [if_pos (fetch0_3 t0_0)]; rfl
  subst hx3
  have hx4 : g4 = (inp m).wqr c := by rw [hg4]; unfold Dat.before; rw [if_pos (fetch0_4 t0_0)]; rfl
  subst hx4
  have hx5 : g5 = (inp m).wkr c := by rw [hg5]; unfold Dat.before; rw [if_pos (fetch0_5 t0_0)]; rfl
  subst hx5
  unfold Dat.owesAt Pipeline.owesWithin
  icases Ho with ⟨%W, %hW, HO⟩
  rw [show (dat m c).owed t0_0.castSucc = O₀ c from rfl]
  ihave Hl := (linear_split (F := F) c) $$ [Hlin HcR]
  · isplitl [Hlin] <;> iassumption
  icases Hl with ⟨⟨#Hop0, #Hop1, #Hop2⟩, HatB, HtN, HtP, Hw0, Hw1, ⟨HS00, HS10, HS20, HS01, HS11, HS21, HS02, HS12, HS22⟩, HT00, HT10, HT20, HT01, HT11, HT21, HT02, HT12, HT22⟩
  ihave Hb0 := (buf_split (F := F) 0 c) $$ Hb0
  icases Hb0 with ⟨Hown0, Hp00, Hp01, Hp02⟩
  ihave Hb1 := (buf_split (F := F) 1 c) $$ Hb1
  icases Hb1 with ⟨Hown1, Hp10, Hp11, Hp12⟩
  ihave Hb2 := (buf_split (F := F) 2 c) $$ Hb2
  icases Hb2 with ⟨Hown2, Hp20, Hp21, Hp22⟩
  ihave Hwb := (wb_split (F := F) c) $$ Hwb
  icases Hwb with ⟨Hwb0, Hwb1⟩
  iapply (body_run (inp m) K c g6 g7 g8 g9 g10) $$ [HtP Hp00 Hp10 Hp20 Hp01 Hp11 Hp21 Hp02 Hp12 Hp22 HO HtN HcB HatB Hwb0 Hwq Hw0 Hown0 Hown1 Hown2 Hwb1 Hw1 H0 H1 H2 H3 H4 H5 H6 H7 H8 H9 H10 HS00 HS10 HS20 HS01 HS11 HS21 HS02 HS12 HS22 HT00 HT10 HT20 HT01 HT11 HT21 HT02 HT12 HT22]
  · isplitr; · iexact HR
    isplitl [HtP Hp00 Hp10 Hp20 Hp01 Hp11 Hp21 Hp02 Hp12 Hp22]
    · isplitl [HtP]; · iexact HtP
      unfold slotsAny slotIn
      isplitl [Hp00 Hp10 Hp20]
      · isplitl [Hp00]
        · isplitl [Hp00]; · iexact Hp00
          iexact Hop0
        isplitl [Hp10]
        · isplitl [Hp10]; · iexact Hp10
          iexact Hop1
        isplitl [Hp20]; · iexact Hp20
        iexact Hop2
      isplitl [Hp01 Hp11 Hp21]
      · isplitl [Hp01]
        · isplitl [Hp01]; · iexact Hp01
          iexact Hop0
        isplitl [Hp11]
        · isplitl [Hp11]; · iexact Hp11
          iexact Hop1
        isplitl [Hp21]; · iexact Hp21
        iexact Hop2
      isplitl [Hp02]
      · isplitl [Hp02]; · iexact Hp02
        iexact Hop0
      isplitl [Hp12]
      · isplitl [Hp12]; · iexact Hp12
        iexact Hop1
      isplitl [Hp22]; · iexact Hp22
      iexact Hop2
    isplitl [HO]; · unfold ow; iexists W; iexact HO
    isplitl [HtN]; · iexact HtN
    isplitl [HcB HatB]
    · isplitl [HcB] <;> iassumption
    isplitl [Hwb0]; · iexact Hwb0
    isplitl [Hwq]; · iexact Hwq
    isplitl [Hw0]; · iexact Hw0
    isplitl [H0]; · iexact H0
    isplitl [H1]; · iexact H1
    isplitl [Hown0]; · iexact Hown0
    isplitl [H2]; · iexact H2
    isplitl [Hown1]; · iexact Hown1
    isplitl [H3]; · iexact H3
    isplitl [Hown2]; · iexact Hown2
    isplitl [HS00]; · iexact HS00
    isplitl [HS10]; · iexact HS10
    isplitl [HS20]; · iexact HS20
    isplitl [H6]; · rw [kAt_start]; iexact H6
    isplitl [H7]; · rw [vAt_start]; iexact H7
    isplitl [Hwb1]; · iexact Hwb1
    isplitl [Hw1]; · iexact Hw1
    isplitl [H8]; · rw [qAt_start]; iexact H8
    isplitl [HT00]; · iexact HT00
    isplitl [HT10]; · iexact HT10
    isplitl [HT20]; · iexact HT20
    isplitl [HS01]; · iexact HS01
    isplitl [HS11]; · iexact HS11
    isplitl [HS21]; · iexact HS21
    isplitl [H4]; · iexact H4
    isplitl [H9]; · rw [qrAt_start]; iexact H9
    isplitl [HT01]; · iexact HT01
    isplitl [HT11]; · iexact HT11
    isplitl [HT21]; · iexact HT21
    isplitl [HS02]; · iexact HS02
    isplitl [HS12]; · iexact HS12
    isplitl [HS22]; · iexact HS22
    isplitl [H5]; · iexact H5
    isplitl [H10]; · iexact H10
    isplitl [HT02]; · iexact HT02
    isplitl [HT12]; · iexact HT12
    iexact HT22
  iintro ⟨H0, H1, H2, H3, H4, H5, H6, H7, H8, H9, H10, Hsl00, HzS00, HzR00, HzS01, HzR01, HzS02, HzR02, Hsl10, HzS10, HzR10, HzS11, HzR11, HzS12, HzR12, Hsl20, HzS20, HzR20, HzS21, HzR21, HzS22, HzR22, Hwb0, Hwb1, HO, HzB, Hsl01, Hsl11, Hsl21, Hsl02, Hsl12, Hsl22, Hw0, Hwq, Hw1, Hsl03, Hsl13, Hsl23⟩
  rw [kAt_four, vAt_four, qAt_all, qrAt_all]
  unfold bodyPost Φ₁
  rw [rest_bufs]
  isplitl [Hoth Hprng HzB Hwq HzS00 HzS10 HzS20 HzS01 HzS11 HzS21 HzS02 HzS12 HzS22 HzR00 HzR10 HzR20 HzR01 HzR11 HzR21 HzR02 HzR12 HzR22 Hw0 Hw1 Hsl00 Hsl01 Hsl02 Hsl03 Hsl10 Hsl11 Hsl12 Hsl13 Hsl20 Hsl21 Hsl22 Hsl23 Hwb0 Hwb1]
  · isplitl [HzB]; · iexact HzB
    isplitl [Hwq]; · iexact Hwq
    isplitl [HzS00 HzS10 HzS20 HzS01 HzS11 HzS21 HzS02 HzS12 HzS22 HzR00 HzR10 HzR20 HzR01 HzR11 HzR21 HzR02 HzR12 HzR22 Hw0 Hw1]
    · rw [bigSep_nine (F := F) (fun t h => semVal (sCell c t h) 0), bigSep_nine (F := F) (fun t h => semVal (rCell c t h) 0)]
      isplitl [HzS00 HzS10 HzS20 HzS01 HzS11 HzS21 HzS02 HzS12 HzS22]
      · isplitl [HzS00]; · iexact HzS00
        isplitl [HzS10]; · iexact HzS10
        isplitl [HzS20]; · iexact HzS20
        isplitl [HzS01]; · iexact HzS01
        isplitl [HzS11]; · iexact HzS11
        isplitl [HzS21]; · iexact HzS21
        isplitl [HzS02]; · iexact HzS02
        isplitl [HzS12]; · iexact HzS12
        iexact HzS22
      isplitl [HzR00 HzR10 HzR20 HzR01 HzR11 HzR21 HzR02 HzR12 HzR22]
      · isplitl [HzR00]; · iexact HzR00
        isplitl [HzR10]; · iexact HzR10
        isplitl [HzR20]; · iexact HzR20
        isplitl [HzR01]; · iexact HzR01
        isplitl [HzR11]; · iexact HzR11
        isplitl [HzR21]; · iexact HzR21
        isplitl [HzR02]; · iexact HzR02
        isplitl [HzR12]; · iexact HzR12
        iexact HzR22
      isplitl [Hw0] <;> iassumption
    isplitr [Hprng]
    · isplitl [Hsl00 Hsl01 Hsl02 Hsl03]
      · iapply (buf_join (inp m) 0 c)
        isplitl [Hsl00]; · iexact Hsl00
        isplitl [Hsl01]; · iexact Hsl01
        isplitl [Hsl02] <;> iassumption
      isplitl [Hsl10 Hsl11 Hsl12 Hsl13]
      · iapply (buf_join (inp m) 1 c)
        isplitl [Hsl10]; · iexact Hsl10
        isplitl [Hsl11]; · iexact Hsl11
        isplitl [Hsl12] <;> iassumption
      isplitl [Hsl20 Hsl21 Hsl22 Hsl23]
      · iapply (buf_join (inp m) 2 c)
        isplitl [Hsl20]; · iexact Hsl20
        isplitl [Hsl21]; · iexact Hsl21
        isplitl [Hsl22] <;> iassumption
      isplitl [Hwb0 Hwb1]
      · iapply (wb_join (F := F) c)
        isplitl [Hwb0]; · iapply (wb_has_any (inp m) c 0 14) $$ Hwb0
        iapply (wb_has_any (inp m) c 1 15) $$ Hwb1
      iexact Hoth
    iexact Hprng
  isplitl [HO]
  · unfold Dat.owesAt Pipeline.owesWithin
    rw [show (dat m c).owed t0_0.succ = OR c 0 from rfl]
    unfold ow
    icases HO with ⟨%W', HO⟩
    iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  isplitl [H5]
  · iexists _; isplitr; · (ipureintro; rfl)
    iexact H5
  isplitl [H6]
  · iexists _; isplitr; · (ipureintro; rfl)
    iexact H6
  isplitl [H7]
  · iexists _; isplitr; · (ipureintro; rfl)
    iexact H7
  isplitl [H8]
  · iexists _; isplitr; · (ipureintro; rfl)
    iexact H8
  isplitl [H9]
  · iexists _; isplitr; · (ipureintro; rfl)
    iexact H9
  iexists _; isplitr; · (ipureintro; rfl)
  iexact H10

set_option maxRecDepth 40000 in
/-- The library's body obligation on device `c`. -/
theorem body_obligation (c : Dev nD) : BodyObligation (dat (F := F) m c) (defs₀ (F := F)) 𝒱₀ () Set.univ := fun t => by
  rw [fin_N0 t]
  rw [bigSep_W0, bigSep_W0]
  simp only [owns_whole_eq]
  have hdef : (defs₀ (F := F)) Proc.tc 0 (t0_0, cfg0.slots t0_0) = (cc0_body xM (Memref.isWhole_whole _) wdM (Memref.isWhole_whole _) wkM (Memref.isWhole_whole _) wvM (Memref.isWhole_whole _) wqM (Memref.isWhole_whole _) wqrM (Memref.isWhole_whole _) wkrM (Memref.isWhole_whole _) kM (Memref.isWhole_whole _) vM (Memref.isWhole_whole _) qM (Memref.isWhole_whole _) qrM (Memref.isWhole_whole _) krM (Memref.isWhole_whole _) c4M (Memref.isWhole_whole _) uk4M (Memref.isWhole_whole _) uv4M (Memref.isWhole_whole _) wbM (Memref.isWhole_whole _) cc0_scratch4 cc0_scratch5 cc0_scratch6) := rfl
  rw [hdef]
  exact sound_body m c

end Cert.KernelIdeal.Fused

end
-- ==== Proof.Attn.lean ====
/-
The second call: attention, one sequence and one head at each of its thirty-two points.
-/
module

public import proofs.«01_k».proof.Proof.Setup
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.Exec
public import Idealize.ShloMosaic.Lib.VecWindow

@[expose] public section

noncomputable section

namespace Cert.KernelIdeal.Attn

open Cert.KernelIdeal Cert.KernelIdeal.Gen Cert.KernelIdeal.Fused
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ UU ℕ

/-- The body on whole buffers: the operands stay, the last buffer ends at the attention they make. -/
theorem run (c : Dev nD) (i : grid1.Coords) (a0 : Memref sig .tc .vmem S512x128 .f32) (h0 : a0.IsWhole) (a1 : Memref sig .tc .vmem S512x128 .f32) (h1 : a1.IsWhole) (a2 : Memref sig .tc .vmem S512x128 .f32) (h2 : a2.IsWhole) (a3 : Memref sig .tc .vmem S32x512 .f32) (h3 : a3.IsWhole) (a4 : Memref sig .tc .vmem S512x32 .f32) (h4 : a4.IsWhole)
    (a5 : Memref sig .tc .vmem S512x128 .f32) (h5 : a5.IsWhole) (x0 : Vec F S512x128 .f32) (x1 : Vec F S512x128 .f32) (x2 : Vec F S512x128 .f32) (x3 : Vec F S32x512 .f32) (x4 : Vec F S512x32 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (k1_pay1 x0 x1 x2 x3 x4)) -∗ K ⟨⟩))
      ⊢ wp frame (wpE (defs₀ (F := F)) 𝒱₀ c none) Set.univ (cc1_body i a0 h0 a1 h1 a2 h2 a3 h3 a4 h4 a5 h5) K := by
  simp only [cc1_body_eq_skeleton]; unfold cc1_body_skel
  unfold owns
  iintro ⟨⟨%f0, %e0, H0⟩, ⟨%f1, %e1, H1⟩, ⟨%f2, %e2, H2⟩, ⟨%f3, %e3, H3⟩, ⟨%f4, %e4, H4⟩, ⟨%d, %g, -, H5⟩, Hk⟩
  obtain rfl := h0.eq_unread e0; obtain rfl := h1.eq_unread e1; obtain rfl := h2.eq_unread e2; obtain rfl := h3.eq_unread e3; obtain rfl := h4.eq_unread e4
  sl_exec
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  iexists _; isplitr
  swap; · iexact H5
  ipureintro
  exact (View.read_writes_full (Val := Elt F) a5.view _ inb_S512x128_S512x128_0_0 _ []).trans (congr (congr (congr (congr (congrArg k1_pay1 ((View.readAt_full (Val := Elt F) a0.view _ inb_S512x128_S512x128_0_0).trans (h0.read_unread _))) ((View.readAt_full (Val := Elt F) a1.view _ inb_S512x128_S512x128_0_0).trans (h1.read_unread _))) ((View.readAt_full (Val := Elt F) a2.view _ inb_S512x128_S512x128_0_0).trans (h2.read_unread _))) ((View.readAt_full (Val := Elt F) a3.view _ inb_S32x512_S32x512_0_0).trans (h3.read_unread _))) ((View.readAt_full (Val := Elt F) a4.view _ inb_S512x32_S512x32_0_0).trans (h4.read_unread _)))

variable (V : Dev nD → Valuation τ sig (Elt F))

/-- A window's block at a point, of the array as the call finds it. -/
def blockOf (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The proof data: every input's buffer keeps its block, the result's holds the body's; nothing is owed. -/
def dat (c : Dev nD) : Dat τ (Elt F) Unit ℕ UU ℕ cfg1 c where
  A w := V c (Proc.devRef .tc (Pipeline.arrRef spec1 w))
  after w t := match w with
    | ⟨0, _⟩ => blockOf V c 0 t
    | ⟨1, _⟩ => blockOf V c 1 t
    | ⟨2, _⟩ => blockOf V c 2 t
    | ⟨3, _⟩ => blockOf V c 3 t
    | ⟨4, _⟩ => blockOf V c 4 t
    | ⟨5, _⟩ => k1_pay1 (F := F) (blockOf V c 0 t) (blockOf V c 1 t) (blockOf V c 2 t) (blockOf V c 3 t) (blockOf V c 4 t)
  Φ _ := iprop(Pipeline.scopedRest spec1 c ∗ ∃ r, prngReg c r)
  q _ := fullShare
  owed _ := 0

theorem before_0 (c : Dev nD) (t : Fin cfg1.N) (d) : (dat V c).before 0 t d = blockOf V c 0 t :=
  (dat V c).before_in_eq_fetched 0 rfl (fun _ => rfl) (fun _ _ _ => rfl) (fun _ => rfl) t d
theorem before_1 (c : Dev nD) (t : Fin cfg1.N) (d) : (dat V c).before 1 t d = blockOf V c 1 t :=
  (dat V c).before_in_eq_fetched 1 rfl (fun _ => rfl) (fun _ _ _ => rfl) (fun _ => rfl) t d
theorem before_2 (c : Dev nD) (t : Fin cfg1.N) (d) : (dat V c).before 2 t d = blockOf V c 2 t :=
  (dat V c).before_in_eq_fetched 2 rfl (fun _ => rfl) (fun _ _ _ => rfl) (fun _ => rfl) t d
theorem before_3 (c : Dev nD) (t : Fin cfg1.N) (d) : (dat V c).before 3 t d = blockOf V c 3 t :=
  (dat V c).before_in_eq_fetched 3 rfl (fun _ => rfl) (fun _ _ _ => rfl) (fun _ => rfl) t d
theorem before_4 (c : Dev nD) (t : Fin cfg1.N) (d) : (dat V c).before 4 t d = blockOf V c 4 t :=
  (dat V c).before_in_eq_fetched 4 rfl (fun _ => rfl) (fun _ _ _ => rfl) (fun _ => rfl) t d

/-- The body's obligation at every point. -/
theorem body_obligation (c : Dev nD) : BodyObligation (dat (F := F) V c) (defs₀ (F := F)) 𝒱₀ () Set.univ := fun t => by
  have hrow : defs₀ (F := F) .tc cfg1.body (cfg1.bodyArgs t (cfg1.slots t)) = bodyAt1 t := by
    unfold defs₀; rw [Defs.onTc_tc]
  rw [bigSep_W1, bigSep_W1, hrow]
  refine triple_restated (P := iprop((dat V c).Φ t.castSucc ∗ (dat V c).owesAt () t.castSucc
    ∗ (∃ d, owns (c : Thread nD τ) (win1_0.stage (cfg1.slots t 0)) fullShare ((dat V c).before 0 t d))
    ∗ (∃ d, owns (c : Thread nD τ) (win1_1.stage (cfg1.slots t 1)) fullShare ((dat V c).before 1 t d))
    ∗ (∃ d, owns (c : Thread nD τ) (win1_2.stage (cfg1.slots t 2)) fullShare ((dat V c).before 2 t d))
    ∗ (∃ d, owns (c : Thread nD τ) (win1_3.stage (cfg1.slots t 3)) fullShare ((dat V c).before 3 t d))
    ∗ (∃ d, owns (c : Thread nD τ) (win1_4.stage (cfg1.slots t 4)) fullShare ((dat V c).before 4 t d))
    ∗ (∃ d, owns (c : Thread nD τ) (win1_5.stage (cfg1.slots t 5)) fullShare ((dat V c).before 5 t d))))
    (Q := fun _ => iprop((dat V c).Φ t.succ ∗ (dat V c).owesAt () t.succ
    ∗ owns (c : Thread nD τ) (win1_0.stage (cfg1.slots t 0)) fullShare ((dat V c).after 0 t)
    ∗ owns (c : Thread nD τ) (win1_1.stage (cfg1.slots t 1)) fullShare ((dat V c).after 1 t)
    ∗ owns (c : Thread nD τ) (win1_2.stage (cfg1.slots t 2)) fullShare ((dat V c).after 2 t)
    ∗ owns (c : Thread nD τ) (win1_3.stage (cfg1.slots t 3)) fullShare ((dat V c).after 3 t)
    ∗ owns (c : Thread nD τ) (win1_4.stage (cfg1.slots t 4)) fullShare ((dat V c).after 4 t)
    ∗ owns (c : Thread nD τ) (win1_5.stage (cfg1.slots t 5)) fullShare ((dat V c).after 5 t))) ?_ rfl .rfl fun _ => .rfl
  unfold bodyAt1
  simp only [before_0, before_1, before_2, before_3, before_4]
  rw [show (dat V c).Φ t.succ = (dat V c).Φ t.castSucc from rfl, show (dat V c).owesAt () t.succ = (dat V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  iapply (run c (grid1.coords t) _ _ _ _ _ _ _ _ _ _ _ _ (blockOf V c 0 t) (blockOf V c 1 t) (blockOf V c 2 t) (blockOf V c 3 t) (blockOf V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem share_eq (c : Dev nD) (w : Fin cfg1.W) : (dat V c).share w = fullShare := by unfold Dat.share; split <;> rfl

end Cert.KernelIdeal.Attn

end
-- ==== Proof.Proj.lean ====
/-
The last call: the product with the output projection, a block of columns at each of its two points.
-/
module

public import proofs.«01_k».proof.Proof.Setup
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.Exec
public import Idealize.ShloMosaic.Lib.VecWindow

@[expose] public section

noncomputable section

namespace Cert.KernelIdeal.Proj

open Cert.KernelIdeal Cert.KernelIdeal.Gen Cert.KernelIdeal.Fused
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ UU ℕ

/-- The body on whole buffers: the operands stay, the last buffer ends at their product. -/
theorem run (c : Dev nD) (i : grid2.Coords) (a0 : Memref sig .tc .vmem S1024x2048 .f32) (h0 : a0.IsWhole) (a1 : Memref sig .tc .vmem S2048x1024 .f32) (h1 : a1.IsWhole)
    (a2 : Memref sig .tc .vmem S1024x1024 .f32) (h2 : a2.IsWhole) (x0 : Vec F S1024x2048 .f32) (x1 : Vec F S2048x1024 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (k2_pay1 x0 x1)) -∗ K ⟨⟩))
      ⊢ wp frame (wpE (defs₀ (F := F)) 𝒱₀ c none) Set.univ (cc2_body i a0 h0 a1 h1 a2 h2) K := by
  simp only [cc2_body_eq_skeleton]; unfold cc2_body_skel
  unfold owns
  iintro ⟨⟨%f0, %e0, H0⟩, ⟨%f1, %e1, H1⟩, ⟨%d, %g, -, H2⟩, Hk⟩
  obtain rfl := h0.eq_unread e0; obtain rfl := h1.eq_unread e1
  sl_exec
  sl_step
  iapply Hk
  isplitl [H0]
  · iexists _; isplitr; · ipureintro; exact h0.read_unread _
    iexact H0
  isplitl [H1]
  · iexists _; isplitr; · ipureintro; exact h1.read_unread _
    iexact H1
  iexists _; isplitr
  swap; · iexact H2
  ipureintro
  exact (View.read_writes_full (Val := Elt F) a2.view _ inb_S1024x1024_S1024x1024_0_0 _ []).trans (congr (congrArg k2_pay1 ((View.readAt_full (Val := Elt F) a0.view _ inb_S1024x2048_S1024x2048_0_0).trans (h0.read_unread _))) ((View.readAt_full (Val := Elt F) a1.view _ inb_S2048x1024_S2048x1024_0_0).trans (h1.read_unread _)))

variable (V : Dev nD → Valuation τ sig (Elt F))

/-- A window's block at a point, of the array as the call finds it. -/
def blockOf (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- The proof data: every input's buffer keeps its block, the result's holds the body's; nothing is owed. -/
def dat (c : Dev nD) : Dat τ (Elt F) Unit ℕ UU ℕ cfg2 c where
  A w := V c (Proc.devRef .tc (Pipeline.arrRef spec2 w))
  after w t := match w with
    | ⟨0, _⟩ => blockOf V c 0 t
    | ⟨1, _⟩ => blockOf V c 1 t
    | ⟨2, _⟩ => k2_pay1 (F := F) (blockOf V c 0 t) (blockOf V c 1 t)
  Φ _ := iprop(Pipeline.scopedRest spec2 c ∗ ∃ r, prngReg c r)
  q _ := fullShare
  owed _ := 0

theorem before_0 (c : Dev nD) (t : Fin cfg2.N) (d) : (dat V c).before 0 t d = blockOf V c 0 t :=
  (dat V c).before_in_eq_fetched 0 rfl (fun _ => rfl) (fun _ _ _ => rfl) (fun _ => rfl) t d
theorem before_1 (c : Dev nD) (t : Fin cfg2.N) (d) : (dat V c).before 1 t d = blockOf V c 1 t :=
  (dat V c).before_in_eq_fetched 1 rfl (fun _ => rfl) (fun _ _ _ => rfl) (fun _ => rfl) t d

/-- The body's obligation at every point. -/
theorem body_obligation (c : Dev nD) : BodyObligation (dat (F := F) V c) (defs₀ (F := F)) 𝒱₀ () Set.univ := fun t => by
  have hrow : defs₀ (F := F) .tc cfg2.body (cfg2.bodyArgs t (cfg2.slots t)) = bodyAt2 t := by
    unfold defs₀; rw [Defs.onTc_tc]
  rw [bigSep_W2, bigSep_W2, hrow]
  refine triple_restated (P := iprop((dat V c).Φ t.castSucc ∗ (dat V c).owesAt () t.castSucc
    ∗ (∃ d, owns (c : Thread nD τ) (win2_0.stage (cfg2.slots t 0)) fullShare ((dat V c).before 0 t d))
    ∗ (∃ d, owns (c : Thread nD τ) (win2_1.stage (cfg2.slots t 1)) fullShare ((dat V c).before 1 t d))
    ∗ (∃ d, owns (c : Thread nD τ) (win2_2.stage (cfg2.slots t 2)) fullShare ((dat V c).before 2 t d))))
    (Q := fun _ => iprop((dat V c).Φ t.succ ∗ (dat V c).owesAt () t.succ
    ∗ owns (c : Thread nD τ) (win2_0.stage (cfg2.slots t 0)) fullShare ((dat V c).after 0 t)
    ∗ owns (c : Thread nD τ) (win2_1.stage (cfg2.slots t 1)) fullShare ((dat V c).after 1 t)
    ∗ owns (c : Thread nD τ) (win2_2.stage (cfg2.slots t 2)) fullShare ((dat V c).after 2 t))) ?_ rfl .rfl fun _ => .rfl
  unfold bodyAt2
  simp only [before_0, before_1]
  rw [show (dat V c).Φ t.succ = (dat V c).Φ t.castSucc from rfl, show (dat V c).owesAt () t.succ = (dat V c).owesAt () t.castSucc from rfl]
  iintro ⟨HΦ, Ho, ⟨%d0, H0⟩, ⟨%d1, H1⟩, ⟨%d2, H2⟩⟩
  iapply (run c (grid2.coords t) _ _ _ _ _ _ (blockOf V c 0 t) (blockOf V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem share_eq (c : Dev nD) (w : Fin cfg2.W) : (dat V c).share w = fullShare := by unfold Dat.share; split <;> rfl

end Cert.KernelIdeal.Proj

end
-- ==== Proof.Segs.lean ====
/-
The run of @main: its three calls one after the other, each entered at what the one before leaves.
-/
module

public import proofs.«01_k».proof.Proof.Run
public import proofs.«01_k».proof.Proof.Attn
public import proofs.«01_k».proof.Proof.Proj
public import Idealize.ShloMosaic.Lib.Pipeline.RegionTalk

@[expose] public section

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What the buffers hold between the calls -/

/-- At launch, -/
def W0 (c : Dev nD) : Valuation τ sig (Elt F) := fun b => m (c, b)
/-- after the fused call, -/
def W1 (c : Dev nD) : Valuation τ sig (Elt F) :=
  Function.update (Function.update (Function.update (Function.update (Function.update (W0 m c)
    (Proc.devRef .tc main_v1_0) ((dat m c).arrAt 6 cfg0.N)) (Proc.devRef .tc main_v1_1) ((dat m c).arrAt 7 cfg0.N))
    (Proc.devRef .tc main_v1_2) ((dat m c).arrAt 8 cfg0.N)) (Proc.devRef .tc main_v1_3) ((dat m c).arrAt 9 cfg0.N))
    (Proc.devRef .tc main_v1_4) ((dat m c).arrAt 10 cfg0.N)
/-- after the attention -/
def W2 (c : Dev nD) : Valuation τ sig (Elt F) :=
  Function.update (W1 m c) (Proc.devRef .tc main_v2) ((Attn.dat (W1 m) c).arrAt 5 cfg1.N)
/-- and after the output projection. -/
def W3 (c : Dev nD) : Valuation τ sig (Elt F) :=
  Function.update (W2 m c) (Proc.devRef .tc main_v3) ((Proj.dat (W2 m) c).arrAt 2 cfg2.N)

theorem W1_off (c : Dev nD) (b : DevRef τ sig) (h0 : b ≠ Proc.devRef .tc main_v1_0) (h1 : b ≠ Proc.devRef .tc main_v1_1)
    (h2 : b ≠ Proc.devRef .tc main_v1_2) (h3 : b ≠ Proc.devRef .tc main_v1_3) (h4 : b ≠ Proc.devRef .tc main_v1_4) : W1 m c b = W0 m c b := by
  unfold W1
  rw [Function.update_of_ne h4, Function.update_of_ne h3, Function.update_of_ne h2, Function.update_of_ne h1, Function.update_of_ne h0]
theorem W1_k (c : Dev nD) : W1 m c (Proc.devRef .tc main_v1_0) = (dat m c).arrAt 6 cfg0.N := by
  unfold W1
  rw [Function.update_of_ne (by decide), Function.update_of_ne (by decide), Function.update_of_ne (by decide), Function.update_of_ne (by decide),
    Function.update_self]
theorem W1_v (c : Dev nD) : W1 m c (Proc.devRef .tc main_v1_1) = (dat m c).arrAt 7 cfg0.N := by
  unfold W1
  rw [Function.update_of_ne (by decide), Function.update_of_ne (by decide), Function.update_of_ne (by decide), Function.update_self]
theorem W1_q (c : Dev nD) : W1 m c (Proc.devRef .tc main_v1_2) = (dat m c).arrAt 8 cfg0.N := by
  unfold W1
  rw [Function.update_of_ne (by decide), Function.update_of_ne (by decide), Function.update_self]
theorem W1_qr (c : Dev nD) : W1 m c (Proc.devRef .tc main_v1_3) = (dat m c).arrAt 9 cfg0.N := by
  unfold W1
  rw [Function.update_of_ne (by decide), Function.update_self]
theorem W1_kr (c : Dev nD) : W1 m c (Proc.devRef .tc main_v1_4) = (dat m c).arrAt 10 cfg0.N := by
  unfold W1; rw [Function.update_self]
theorem W2_off (c : Dev nD) (b : DevRef τ sig) (h : b ≠ Proc.devRef .tc main_v2) : W2 m c b = W1 m c b := Function.update_of_ne h _ _
theorem W2_o (c : Dev nD) : W2 m c (Proc.devRef .tc main_v2) = (Attn.dat (W1 m) c).arrAt 5 cfg1.N := Function.update_self ..
theorem W3_off (c : Dev nD) (b : DevRef τ sig) (h : b ≠ Proc.devRef .tc main_v3) : W3 m c b = W2 m c b := Function.update_of_ne h _ _
theorem W3_y (c : Dev nD) : W3 m c (Proc.devRef .tc main_v3) = (Proj.dat (W2 m) c).arrAt 2 cfg2.N := Function.update_self ..

/-! ## The three calls -/

abbrev adm : (p : Fin 3) → (pcfgs (F := F) p).Adm := fun p => (cfgs p).toPCfg_adm
def pdats : (p : Fin 3) → (c : Dev nD) → Dat τ (Elt F) Unit ℕ UU ℕ (Pipeline.pin (pcfgs (F := F)) adm p) c
  | ⟨0, _⟩ => dat m
  | ⟨1, _⟩ => Attn.dat (W1 m)
  | ⟨2, _⟩ => Proj.dat (W2 m)

abbrev uc : Finset (DevRef τ sig) := Pipeline.ucRefs τ sig
abbrev A0 : Finset (DevRef τ sig) := Pipeline.arrRefs spec0
abbrev A1 : Finset (DevRef τ sig) := Pipeline.arrRefs spec1
abbrev A2 : Finset (DevRef τ sig) := Pipeline.arrRefs spec2
theorem A0_sub : A0 ⊆ uc := Pipeline.arrRefs_sub_ucRefs spec0 (by decide)
theorem A1_sub : A1 ⊆ uc := Pipeline.arrRefs_sub_ucRefs spec1 (by decide)
theorem A2_sub : A2 ⊆ uc := Pipeline.arrRefs_sub_ucRefs spec2 (by decide)
theorem mem_arr {gr n : Nat} (win : Fin n → Pipeline.WinSpec sig gr) (w : Fin n) : Proc.devRef (τ := τ) .tc (Pipeline.arrRef win w) ∈ Pipeline.arrRefs (τ := τ) win :=
  Finset.mem_map_of_mem _ (Finset.mem_image_of_mem _ (Finset.mem_univ w))
theorem ne_of_off {A : Finset (DevRef τ sig)} {a b : DevRef τ sig} (ha : a ∈ A) (hb : b ∉ A) : b ≠ a := fun e => hb (e ▸ ha)

/-- The query projection, which the fused call addresses itself. -/
abbrev Hq : Finset (DevRef τ sig) := {Proc.devRef .tc main_arg4}
theorem Hq_sub : Hq ⊆ uc \ A0 := by
  intro b hb
  rw [Finset.mem_singleton.mp hb]
  exact Finset.mem_sdiff.mpr ⟨Finset.mem_filter.mpr ⟨StableHlo.devRef_mem_tcRefs _, by decide⟩, by decide⟩
theorem held_q (c : Dev nD) (V : Valuation τ sig (Elt F)) :
    (StableHlo.held (c.tc : Thread nD τ) Hq V : sProp 𝕄) = pt c main_arg4 fullShare (V (Proc.devRef .tc main_arg4)) := by
  unfold StableHlo.held; rw [bigSep_singleton]

/-- What a device keeps from launch until the fused call. -/
def Tk (c : Dev nD) : sProp 𝕄 := iprop((∃ K, recs (inp m) K) ∗ unopened c ∗ credits (F := F) c)
def Yk (c : Dev nD) : sProp 𝕄 := semVal (barCell c) 0

theorem hopen (c : Dev nD) : iprop(Tk m c ∗ Pipeline.ownSems0 osem c ∗ levAts L lv) ⊢ (|={Set.univ}=> start m c : sProp 𝕄) := by
  unfold Tk start
  iintro ⟨⟨⟨%K, #HR⟩, Hu, Hc⟩, Ho, -⟩
  imod (open_cells (inp m) K c) $$ [Hu Ho] with HL
  · isplitr; · iexact HR
    isplitl [Hu] <;> iassumption
  imodintro
  isplitr; · iexists K; iexact HR
  isplitl [HL] <;> iassumption

theorem hin0 (c : Dev nD) : iprop(Pipeline.scopedRest spec0 c ∗ (∃ r, prngReg c r) ∗ StableHlo.held (c.tc : Thread nD τ) Hq (W0 m c) ∗ start m c)
    ⊢ (dat m c).Φ 0 := by
  rw [show (dat m c).Φ 0 = Φ₀ m c from rfl, held_q]
  unfold Φ₀
  iintro ⟨Hs, Hp, Hq, Hst⟩
  isplitl [Hst]; · iexact Hst
  isplitl [Hq]; · iexact Hq
  isplitl [Hs] <;> iassumption

theorem hout0 (c : Dev nD) : (dat m c).Φ (Fin.last cfg0.N)
    ⊢ iprop(Pipeline.scopedRest spec0 c ∗ (∃ r, prngReg c r) ∗ StableHlo.held (c.tc : Thread nD τ) Hq (W1 m c) ∗ Pipeline.ownSems0 osem c ∗ Yk (F := F) c) := by
  rw [show (dat m c).Φ (Fin.last cfg0.N) = Φ₁ m c from rfl, held_q, ownSems0_eq,
    W1_off m c _ (by decide) (by decide) (by decide) (by decide) (by decide)]
  unfold Φ₁ Yk
  iintro ⟨Hb, Hq, Hz, Hs, Hp⟩
  isplitl [Hs]; · iexact Hs
  isplitl [Hp]; · iexact Hp
  isplitl [Hq]; · iexact Hq
  isplitl [Hz] <;> iassumption

theorem share0 (c : Dev nD) (w : Fin cfg0.W) : (dat m c).share w = fullShare := by unfold Dat.share; split <;> rfl

theorem cut0 (c : Dev nD) (t : Fin (cfg0.N + 1)) (g : GSem nD τ sig) (i : Unit) (h : 0 < (dat m c).owed t g i) : i ∈ L g ∧ 0 < lv g i := by
  have e : (dat m c).owed t = O₀ c ∨ (dat m c).owed t = 0 := by
    rcases t with ⟨_ | _, ht⟩
    · exact .inl rfl
    · exact .inr rfl
  rcases e with e | e <;> rw [e] at h
  · rcases O₀_pos h with ⟨_, _, rfl⟩ | rfl | rfl
    · exact ⟨by rw [L_tc]; exact Finset.mem_singleton_self _, by rw [lv_r]; exact Nat.succ_pos _⟩
    · exact ⟨by rw [L_tc]; exact Finset.mem_singleton_self _, by rw [lv_bar]; exact Nat.one_pos⟩
    · exact ⟨by rw [L_tc]; exact Finset.mem_singleton_self _, by rw [lv_bar]; exact Nat.one_pos⟩
  · exact absurd h (Nat.lt_irrefl 0)

theorem low (c : Dev nD) (q : DmaSem sig) (hq : q.val < 11) : lv ((c : Thread nD τ), .dma q) () ≤ 0 := by
  dsimp only [lv]; rw [if_neg (fun h => by omega)]
theorem stage_low (c : Dev nD) (w : Fin cfg0.W) (s : Fin (cfg0.win w).nbuf) : lv ((c : Thread nD τ), .dma ((cfg0.win w).sem s)) () ≤ 0 :=
  low c _ (by fin_cases w <;> fin_cases s <;> decide)

theorem arr0 (c : Dev nD) (w : Fin cfg0.W) : (dat m c).arrAt w cfg0.N = W1 m c (Proc.devRef .tc (Pipeline.arrRef spec0 w)) := by
  have off : ∀ w : Fin cfg0.W, (cfg0.win w).isOut = false → Proc.devRef (τ := τ) .tc (Pipeline.arrRef spec0 w) ≠ Proc.devRef .tc main_v1_0 →
      Proc.devRef (τ := τ) .tc (Pipeline.arrRef spec0 w) ≠ Proc.devRef .tc main_v1_1 → Proc.devRef (τ := τ) .tc (Pipeline.arrRef spec0 w) ≠ Proc.devRef .tc main_v1_2 →
      Proc.devRef (τ := τ) .tc (Pipeline.arrRef spec0 w) ≠ Proc.devRef .tc main_v1_3 → Proc.devRef (τ := τ) .tc (Pipeline.arrRef spec0 w) ≠ Proc.devRef .tc main_v1_4 →
      (dat m c).arrAt w cfg0.N = W1 m c (Proc.devRef .tc (Pipeline.arrRef spec0 w)) := fun w hw h0 h1 h2 h3 h4 =>
    ((dat m c).arrAt_in w hw _).trans (W1_off m c _ h0 h1 h2 h3 h4).symm
  match w with
  | ⟨0, _⟩ => exact off 0 rfl (by decide) (by decide) (by decide) (by decide) (by decide)
  | ⟨1, _⟩ => exact off 1 rfl (by decide) (by decide) (by decide) (by decide) (by decide)
  | ⟨2, _⟩ => exact off 2 rfl (by decide) (by decide) (by decide) (by decide) (by decide)
  | ⟨3, _⟩ => exact off 3 rfl (by decide) (by decide) (by decide) (by decide) (by decide)
  | ⟨4, _⟩ => exact off 4 rfl (by decide) (by decide) (by decide) (by decide) (by decide)
  | ⟨5, _⟩ => exact off 5 rfl (by decide) (by decide) (by decide) (by decide) (by decide)
  | ⟨6, _⟩ => exact (W1_k m c).symm
  | ⟨7, _⟩ => exact (W1_v m c).symm
  | ⟨8, _⟩ => exact (W1_q m c).symm
  | ⟨9, _⟩ => exact (W1_qr m c).symm
  | ⟨10, _⟩ => exact (W1_kr m c).symm

set_option backward.isDefEq.respectTransparency.types false in
/-- The fused call, which talks around the ring. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem ownSemFacts Hq (uc \ A0) Hq_sub launch0.toP rfl
    (fun c => (body_obligation m c).loose) (fun _ => 0) O₀ (fun c => (zero_add _).symm) (fun _ => rfl) (fun _ => rfl) (share0 m)
    (W0 m) (W1 m) (fun c b hb => by
      have hn : b ∉ A0 := (Finset.mem_sdiff.mp (Finset.mem_sdiff.mp hb).1).2
      exact W1_off m c b (ne_of_off (mem_arr spec0 6) hn) (ne_of_off (mem_arr spec0 7) hn) (ne_of_off (mem_arr spec0 8) hn)
        (ne_of_off (mem_arr spec0 9) hn) (ne_of_off (mem_arr spec0 10) hn))
    (Tk m) Yk (start m) Yk (hopen m) (hin0 m) (hout0 m) (fun c => by iintro H; imodintro; iexact H) (fun _ => 0)
    ⟨fun c w s => by rw [L_tc]; exact Finset.mem_singleton_self _,
      stage_low, fun c t g i h => cut0 m c t g i h⟩
    (fun _ => iprop(emp)) (fun _ _ => rfl) (arr0 m)

theorem arr1 (c : Dev nD) (w : Fin cfg1.W) : (Attn.dat (W1 m) c).arrAt w cfg1.N = W2 m c (Proc.devRef .tc (Pipeline.arrRef spec1 w)) := by
  have off : ∀ w : Fin cfg1.W, (cfg1.win w).isOut = false → Proc.devRef (τ := τ) .tc (Pipeline.arrRef spec1 w) ≠ Proc.devRef .tc main_v2 →
      (Attn.dat (W1 m) c).arrAt w cfg1.N = W2 m c (Proc.devRef .tc (Pipeline.arrRef spec1 w)) := fun w hw h =>
    ((Attn.dat (W1 m) c).arrAt_in w hw _).trans (W2_off m c _ h).symm
  match w with
  | ⟨0, _⟩ => exact off 0 rfl (by decide)
  | ⟨1, _⟩ => exact off 1 rfl (by decide)
  | ⟨2, _⟩ => exact off 2 rfl (by decide)
  | ⟨3, _⟩ => exact off 3 rfl (by decide)
  | ⟨4, _⟩ => exact off 4 rfl (by decide)
  | ⟨5, _⟩ => exact (W2_o m c).symm
theorem arr2 (c : Dev nD) (w : Fin cfg2.W) : (Proj.dat (W2 m) c).arrAt w cfg2.N = W3 m c (Proc.devRef .tc (Pipeline.arrRef spec2 w)) := by
  have off : ∀ w : Fin cfg2.W, (cfg2.win w).isOut = false → Proc.devRef (τ := τ) .tc (Pipeline.arrRef spec2 w) ≠ Proc.devRef .tc main_v3 →
      (Proj.dat (W2 m) c).arrAt w cfg2.N = W3 m c (Proc.devRef .tc (Pipeline.arrRef spec2 w)) := fun w hw h =>
    ((Proj.dat (W2 m) c).arrAt_in w hw _).trans (W3_off m c _ h).symm
  match w with
  | ⟨0, _⟩ => exact off 0 rfl (by decide)
  | ⟨1, _⟩ => exact off 1 rfl (by decide)
  | ⟨2, _⟩ => exact (W3_y m c).symm

theorem lv_le (g : GSem nD τ sig) (u : Unit) : lv g u ≤ 4 := by
  unfold lv hOf
  rcases g with ⟨_, s | q⟩
  · dsimp only; split <;> omega
  · dsimp only; split <;> omega

set_option backward.isDefEq.respectTransparency.types false in
/-- The attention, on the fused call's results. -/
def reg1 : Pipeline.RegionSeg (pcfgs (F := F)) adm (pdats m) () defs₀ 𝒱₀ L lv 1 :=
  Pipeline.RegionSeg.ofHeld (pcfgs (F := F)) adm (pdats m) () defs₀ 𝒱₀ L lv 1 (fun _ => 0) (fun c => iprop(∃ r, prngReg c r)) (fun c => iprop(∃ r, prngReg c r))
    launch1.toP rfl (fun c => (Attn.body_obligation (W1 m) c).loose) (fun _ _ => rfl) (fun _ => rfl) (Attn.share_eq (W1 m))
    (fun _ => .rfl) (fun _ => .rfl) (fun _ => 4)
    ⟨fun c w s => by rw [L_tc]; exact Finset.mem_singleton_self _, fun c w s => lv_le _ _, fun c g i h => absurd h (Nat.lt_irrefl 0)⟩
    (fun c => iprop(StableHlo.held (c.tc : Thread nD τ) (uc \ A1) (W1 m c) ∗ Yk c)) (W1 m) (W2 m) (fun _ _ => rfl) (arr1 m)

set_option backward.isDefEq.respectTransparency.types false in
/-- The output projection, on the attention's result. -/
def reg2 : Pipeline.RegionSeg (pcfgs (F := F)) adm (pdats m) () defs₀ 𝒱₀ L lv 2 :=
  Pipeline.RegionSeg.ofHeld (pcfgs (F := F)) adm (pdats m) () defs₀ 𝒱₀ L lv 2 (fun _ => 0) (fun c => iprop(∃ r, prngReg c r)) (fun c => iprop(∃ r, prngReg c r))
    launch2.toP rfl (fun c => (Proj.body_obligation (W2 m) c).loose) (fun _ _ => rfl) (fun _ => rfl) (Proj.share_eq (W2 m))
    (fun _ => .rfl) (fun _ => .rfl) (fun _ => 4)
    ⟨fun c w s => by rw [L_tc]; exact Finset.mem_singleton_self _, fun c w s => lv_le _ _, fun c g i h => absurd h (Nat.lt_irrefl 0)⟩
    (fun c => iprop(StableHlo.held (c.tc : Thread nD τ) (uc \ A2) (W2 m c) ∗ Yk c)) (W2 m) (W3 m) (fun _ _ => rfl) (arr2 m)

/-! ## From one to the next -/

/-- A device between two calls, its buffers at `V`. -/
def between (V : Dev nD → Valuation τ sig (Elt F)) (c : Dev nD) : sProp 𝕄 :=
  iprop(StableHlo.held (c.tc : Thread nD τ) uc (V c) ∗ (∃ r, prngReg c r) ∗ Yk c ∗ ∃ W, owes (c : Thread nD τ) (0 : CellTallies nD τ sig Unit) W)

theorem reg0_post (c : Dev nD) : (reg0 m).post c ⊢ between (W1 m) c := by
  show iprop(StableHlo.held (c.tc : Thread nD τ) A0 (W1 m c) ∗ (∃ r, prngReg c r)
    ∗ (StableHlo.held (c.tc : Thread nD τ) (uc \ A0) (W1 m c) ∗ emp) ∗ Yk c ∗ ∃ Wd, owes (c : Thread nD τ) (0 : CellTallies nD τ sig Unit) Wd) ⊢ _
  unfold between
  rw [StableHlo.held_sub_split (c.tc : Thread nD τ) A0_sub (W1 m c)]
  iintro ⟨Ha, Hp, ⟨Hr, -⟩, Hy, HO⟩
  isplitl [Ha Hr]; · isplitl [Ha] <;> iassumption
  isplitl [Hp]; · iexact Hp
  isplitl [Hy] <;> iassumption

theorem reg1_pre (c : Dev nD) : between (W1 m) c ⊢ (reg1 m).pre c := by
  show _ ⊢ iprop(StableHlo.held (c.tc : Thread nD τ) A1 (W1 m c) ∗ (∃ r, prngReg c r)
    ∗ (StableHlo.held (c.tc : Thread nD τ) (uc \ A1) (W1 m c) ∗ Yk c) ∗ ∃ Wd, owes (c : Thread nD τ) (0 : CellTallies nD τ sig Unit) Wd)
  unfold between
  rw [StableHlo.held_sub_split (c.tc : Thread nD τ) A1_sub (W1 m c)]
  iintro ⟨⟨Ha, Hr⟩, Hp, Hy, HO⟩
  isplitl [Ha]; · iexact Ha
  isplitl [Hp]; · iexact Hp
  isplitl [Hr Hy]; · isplitl [Hr] <;> iassumption
  iexact HO
theorem reg1_post (c : Dev nD) : (reg1 m).post c ⊢ between (W2 m) c := by
  show iprop(StableHlo.held (c.tc : Thread nD τ) A1 (W2 m c) ∗ (∃ r, prngReg c r)
    ∗ (StableHlo.held (c.tc : Thread nD τ) (uc \ A1) (W1 m c) ∗ Yk c) ∗ ∃ Wd, owes (c : Thread nD τ) (0 : CellTallies nD τ sig Unit) Wd) ⊢ _
  unfold between
  rw [StableHlo.held_sub_split (c.tc : Thread nD τ) A1_sub (W2 m c),
    StableHlo.held_congr (c.tc : Thread nD τ) (S := uc \ A1) (V := W2 m c) (V' := W1 m c)
      fun b hb => W2_off m c b (ne_of_off (mem_arr spec1 5) (Finset.mem_sdiff.mp hb).2)]
  iintro ⟨Ha, Hp, ⟨Hr, Hy⟩, HO⟩
  isplitl [Ha Hr]; · isplitl [Ha] <;> iassumption
  isplitl [Hp]; · iexact Hp
  isplitl [Hy] <;> iassumption

theorem reg2_pre (c : Dev nD) : between (W2 m) c ⊢ (reg2 m).pre c := by
  show _ ⊢ iprop(StableHlo.held (c.tc : Thread nD τ) A2 (W2 m c) ∗ (∃ r, prngReg c r)
    ∗ (StableHlo.held (c.tc : Thread nD τ) (uc \ A2) (W2 m c) ∗ Yk c) ∗ ∃ Wd, owes (c : Thread nD τ) (0 : CellTallies nD τ sig Unit) Wd)
  unfold between
  rw [StableHlo.held_sub_split (c.tc : Thread nD τ) A2_sub (W2 m c)]
  iintro ⟨⟨Ha, Hr⟩, Hp, Hy, HO⟩
  isplitl [Ha]; · iexact Ha
  isplitl [Hp]; · iexact Hp
  isplitl [Hr Hy]; · isplitl [Hr] <;> iassumption
  iexact HO

/-- What is read at the end: every buffer of a device, and its barrier's counter. -/
def Tend (c : Dev nD) : sProp 𝕄 := iprop(StableHlo.held (c.tc : Thread nD τ) uc (W3 m c) ∗ Yk c)
theorem reg2_post (c : Dev nD) : (reg2 m).post c ⊢ iprop(Tend m c ∗ ∃ W, owes (c.tc : Thread nD τ) (0 : CellTallies nD τ sig Unit) W) := by
  show iprop(StableHlo.held (c.tc : Thread nD τ) A2 (W3 m c) ∗ (∃ r, prngReg c r)
    ∗ (StableHlo.held (c.tc : Thread nD τ) (uc \ A2) (W2 m c) ∗ Yk c) ∗ ∃ Wd, owes (c : Thread nD τ) (0 : CellTallies nD τ sig Unit) Wd) ⊢ _
  unfold Tend
  rw [StableHlo.held_sub_split (c.tc : Thread nD τ) A2_sub (W3 m c),
    StableHlo.held_congr (c.tc : Thread nD τ) (S := uc \ A2) (V := W3 m c) (V' := W2 m c)
      fun b hb => W3_off m c b (ne_of_off (mem_arr spec2 2) (Finset.mem_sdiff.mp hb).2)]
  iintro ⟨Ha, -, ⟨Hr, Hy⟩, HO⟩
  isplitl [Ha Hr Hy]
  · isplitl [Ha Hr]; · isplitl [Ha] <;> iassumption
    iexact Hy
  iexact HO

theorem reg0_pre (c : Dev nD) :
    iprop(StableHlo.held (c.tc : Thread nD τ) uc (W0 m c) ∗ (∃ r, prngReg c r) ∗ Tk m c ∗ ∃ W, owes (c : Thread nD τ) (O₀ c) W) ⊢ (reg0 m).pre c := by
  show _ ⊢ iprop(StableHlo.held (c.tc : Thread nD τ) A0 (W0 m c) ∗ (∃ r, prngReg c r)
    ∗ (StableHlo.held (c.tc : Thread nD τ) (uc \ A0) (W0 m c) ∗ emp) ∗ Tk m c ∗ ∃ Wd, owes (c : Thread nD τ) (0 + O₀ c) Wd)
  rw [StableHlo.held_sub_split (c.tc : Thread nD τ) A0_sub (W0 m c), zero_add]
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption

/-! ## The run -/

def segs : List (Pipeline.Seg (pcfgs (F := F)) adm (pdats m) () defs₀ 𝒱₀ L lv) := [.region (reg0 m), .region (reg1 m), .region (reg2 m)]

/-- What a device starts from. -/
def T₀ (c : Dev nD) : sProp 𝕄 :=
  iprop(StableHlo.held (c.tc : Thread nD τ) uc (W0 m c) ∗ (∃ r, prngReg c r) ∗ Tk m c ∗ ∃ W, owes (c : Thread nD τ) (O₀ c) W)

theorem launch :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  have each (c : Dev nD) (K : Dev nD × Fin 19 → ℕ) :
      iprop(recs (inp m) K ∗ unscopedBufs c (fun b => m ((c.tc : Thread nD τ).loc b))
          ∗ owes (c.tc : Thread nD τ) (O₀ c) ∅ ∗ Pipeline.launchCred O₀ c ∗ prngReg c (ρ c) ∗ unopened c) ⊢ (T₀ m c : sProp 𝕄) := by
    rw [show (unscopedBufs c (fun b => m ((c.tc : Thread nD τ).loc b)) : sProp 𝕄) = StableHlo.held (c.tc : Thread nD τ) uc (W0 m c)
      from Pipeline.unscopedBufs_held c (W0 m c)]
    unfold T₀ Tk
    iintro ⟨#HR, Hb, HO, Hc, Hp, Hu⟩
    ihave Hc := (creds (F := F) c) $$ Hc
    isplitl [Hb]; · iexact Hb
    isplitl [Hp]; · iexists _; iexact Hp
    isplitl [Hu Hc]
    · isplitr; · iexists K; iexact HR
      isplitl [Hu]; · iexact Hu
      unfold credits; iexact Hc
    iexists _; iexact HO
  simp only [bigSep_sep', bigSep_G, unscopedSems0_eq]
  iintro ⟨⟨Hb, Hs, HO, Hc, Hp, HG⟩, HL⟩
  imod (deal (inp m)) $$ [Hs HG HL] with ⟨%K, #HR, Hu⟩
  · isplitl [Hs]; · iexact Hs
    isplitl [HG] <;> iassumption
  imodintro
  iapply (with_persistent (R := recs (inp m) K) (Φ := fun c => iprop(unscopedBufs c (fun b => m ((c.tc : Thread nD τ).loc b))
          ∗ owes (c.tc : Thread nD τ) (O₀ c) ∅ ∗ Pipeline.launchCred O₀ c ∗ prngReg c (ρ c) ∗ unopened c)) fun c _ => each c K)
  simp only [bigSep_sep']
  isplitr; · iexact HR
  isplitl [Hb]; · iexact Hb
  isplitl [HO]; · iexact HO
  isplitl [Hc]; · iexact Hc
  isplitl [Hp] <;> iassumption

/-- Every buffer of a device ends as computed. -/
def QC : PUnit × MemSt nD τ sig (Elt F) → Prop := fun r => ∀ (c : Dev nD), ∀ b ∈ uc, r.2.mem (c, b) = W3 m c b

theorem last_read (c : Dev nD) (s' : Phys nD τ sig (Elt F)) :
    iprop(Tend m c ∗ SI s') ⊢ (|={Set.univ}=> iprop(⌜(∀ sm : SemLoc sig, sm.isScoped .tc = false → s'.mem.sem ((c.tc : Thread nD τ), sm) = 0)
      ∧ ∀ b ∈ uc, s'.mem.mem (c, b) = W3 m c b⌝ ∗ SI s') : sProp 𝕄) := by
  unfold Tend Yk StableHlo.held
  iintro ⟨⟨Hh, Hb⟩, HSI⟩
  ihave H := (pointsTo_read_all uc (fun b => ((c : Thread nD τ).1, b)) (W3 m c) s') $$ [Hh HSI]
  · isplitl [Hh] <;> iassumption
  icases H with ⟨%hq, HSI⟩
  imod (Pipeline.unscopedSems0_read (X := semVal (barCell c) 0) (c := c) (by rw [unscopedSems0_eq]; exact fupd_intro) s') $$ [Hb HSI] with H
  · isplitl [Hb] <;> iassumption
  icases H with ⟨%hu, HSI⟩
  imodintro
  isplitr
  · ipureintro; exact ⟨hu, hq⟩
  · iexact HSI

set_option backward.isDefEq.respectTransparency.types false in
set_option maxRecDepth 8000 in
/-- From any memory with zero counters, for any float values: every weakly fair execution of @main on the four devices
    terminates, with every buffer as `QC` says and every counter at zero. -/
theorem run_main : θ_run defs (onTc (τ := τ) (main (F := F))) ⟨m, fun _ => 0, ρ⟩ (fun r => QC m r ∧ r.2.sem = fun _ => 0) :=
  Pipeline.θ_run_regions_kit_sems (pcfgs (F := F)) adm (pdats m) () cellOf_inj EP defs₀ 𝒱₀ L lv m ρ main (segs m)
    (fun c Q => by rw [Gen.main_segs adm (pdats m) () 𝒱₀ L lv (reg0 m) (reg1 m) (reg2 m) c]; exact Entails.refl _)
    (by simp only [segs, Pipeline.Seg.pipes_region, Pipeline.Seg.pipes_nil]; decide)
    (O₀ := O₀) (hL := L_of_ne) (G := G (F := F)) (u₀ := u₀)
    (hu₀ := by
      unfold u₀
      iintro Hu
      ihave H := (ownU_pair _ _) $$ Hu
      icases H with ⟨HP, HX⟩
      ihave H := (own_pair_emb _ _ _) $$ HX
      icases H with ⟨HX, -⟩
      imodintro
      rw [bigSep_G]
      isplitl [HP] <;> iassumption)
    (T₀ := T₀ m) (Tₙ := Tend m)
    (hch := ⟨reg0_pre m, fun c => (reg0_post m c).trans (reg1_pre m c), fun c => (reg1_post m c).trans (reg2_pre m c), reg2_post m⟩)
    (hinit := launch m ρ)
    (QY := fun c s => (∀ sm : SemLoc sig, sm.isScoped .tc = false → s.sem ((c.tc : Thread nD τ), sm) = 0) ∧ ∀ b ∈ uc, s.mem (c, b) = W3 m c b)
    (hfin := last_read m)
    (hQ := fun s h hs => ⟨fun c => (h c).2, sem_eq_zero hs fun c => (h c).1⟩)

end Cert.KernelIdeal.Fused

end
-- ==== Proof.Frames.lean ====
/-
The frames: both programs are the same text, so one run over any float values serves them.
-/
module

public import proofs.«01_k».proof.Defs
public import proofs.«01_k».proof.Proof.Segs
public import proofs.«01_k».proof.Proof.Gen.Kernel

@[expose] public section

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-- The buffers that no call writes. -/
theorem kept (c : Dev nD) {r : PUnit × MemSt nD τ sig (Elt F)} (h : QC m r) (b : Ref sig .tc) (hs : Proc.devRef (τ := τ) .tc b ∈ uc)
    (h0 : Proc.devRef (τ := τ) .tc b ≠ Proc.devRef .tc main_v1_0) (h1 : Proc.devRef (τ := τ) .tc b ≠ Proc.devRef .tc main_v1_1)
    (h2 : Proc.devRef (τ := τ) .tc b ≠ Proc.devRef .tc main_v1_2) (h3 : Proc.devRef (τ := τ) .tc b ≠ Proc.devRef .tc main_v1_3)
    (h4 : Proc.devRef (τ := τ) .tc b ≠ Proc.devRef .tc main_v1_4) (h5 : Proc.devRef (τ := τ) .tc b ≠ Proc.devRef .tc main_v2)
    (h6 : Proc.devRef (τ := τ) .tc b ≠ Proc.devRef .tc main_v3) :
    r.2.mem ((c : Thread nD τ).loc b) = m ((c : Thread nD τ).loc b) :=
  (h c _ hs).trans ((W3_off m c _ h6).trans ((W2_off m c _ h5).trans (W1_off m c _ h0 h1 h2 h3 h4)))

/-- An argument's place among the buffers of the calls. -/
theorem in_uc (b : Ref sig .tc) (h : b.isScoped = false) : Proc.devRef (τ := τ) .tc b ∈ uc := by
  refine Finset.mem_filter.mpr ⟨StableHlo.devRef_mem_tcRefs _, ?_⟩
  simpa using h

/-- Every argument ends as it began. -/
theorem args_of_QC {r : PUnit × MemSt nD τ sig (Elt F)} (h : QC m r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) :=
  ⟨kept m c h main_arg0 (in_uc _ (by decide)) (by decide) (by decide) (by decide) (by decide) (by decide) (by decide) (by decide),
    kept m c h main_arg1 (in_uc _ (by decide)) (by decide) (by decide) (by decide) (by decide) (by decide) (by decide) (by decide),
    kept m c h main_arg2 (in_uc _ (by decide)) (by decide) (by decide) (by decide) (by decide) (by decide) (by decide) (by decide),
    kept m c h main_arg3 (in_uc _ (by decide)) (by decide) (by decide) (by decide) (by decide) (by decide) (by decide) (by decide),
    kept m c h main_arg4 (in_uc _ (by decide)) (by decide) (by decide) (by decide) (by decide) (by decide) (by decide) (by decide),
    kept m c h main_arg5 (in_uc _ (by decide)) (by decide) (by decide) (by decide) (by decide) (by decide) (by decide) (by decide),
    kept m c h main_arg6 (in_uc _ (by decide)) (by decide) (by decide) (by decide) (by decide) (by decide) (by decide) (by decide),
    kept m c h main_arg7 (in_uc _ (by decide)) (by decide) (by decide) (by decide) (by decide) (by decide) (by decide) (by decide)⟩

/-- The run, every argument left as it began. -/
theorem frame_any (ρ : Dev nD → PrngReg) :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) ∧ r.2.sem = fun _ => 0) :=
  (θ_run defs _ _).mono (fun _ h => ⟨args_of_QC m h.1, h.2⟩) (run_main (F := F) m ρ)

/-- The idealized kernel's frame, -/
theorem frame_kernelIdeal : @Cert.quiescent_KernelIdeal Cert.KernelIdeal.Gen.facts := fun m ρ _ => frame_any (F := Ideal) m ρ
/-- Over bit patterns a named constant is the pattern it was printed with. -/
@[reducible] def plain : Named Bits := ⟨fun _ _ φ bits => Scalar.ofBits (F := Bits) φ bits⟩
/-- The two programs' call tables are one table: the printed bodies have one text, up to the name of a constant. -/
theorem body_table : @Cert.Kernel.defs₀ Bits _ Cert.Kernel.Gen.facts = @Cert.KernelIdeal.defs₀ Bits _ plain Cert.KernelIdeal.Gen.facts :=
  congrArg Defs.onTc (funext fun l => funext fun x => match l, x with
    | 0, (_, _) => rfl
    | 1, (_, _) => rfl
    | 2, (_, _) => rfl)
/-- The same with the pipeline's own labels. -/
theorem call_table : @Cert.Kernel.defs Bits _ Cert.Kernel.Gen.facts = @Cert.KernelIdeal.defs Bits _ plain Cert.KernelIdeal.Gen.facts :=
  congrArg (Pipeline.defs _) body_table
/-- and the kernel's. -/
theorem frame_kernel : @Cert.quiescent_Kernel Cert.Kernel.Gen.facts := fun m ρ _ => by
  rw [call_table]
  exact @frame_any Bits _ plain m ρ

end Cert.KernelIdeal.Fused

end
-- ==== Proof.Value.lean ====
/-
What the fused call computes over the reals: each result's entry as a sum of products of entries of the inputs.
-/
module

public import proofs.«01_k».proof.Proof.Run
public import Idealize.ShloMosaic.Lib.Pointwise

@[expose] public section

noncomputable section

namespace Cert.KernelIdeal.Fused

open Cert.KernelIdeal Cert.KernelIdeal.Gen
open Idealize.ShloMosaic
open Idealize.ShloMosaic.TcCoe
open scoped BigOperators

/-! ## The payloads at an index -/

/-- A quarter of a slot: the transposed down projection. -/
theorem quarter_apply (X : S256x2048.Idx → Elt Ideal .f32) (W : S2048x128.Idx → Elt Ideal .f32) (k : Fin 128) (b : Fin 256) :
    k0_pay3 (F := Ideal) (k0_pay2 X W) (ix3 0 k b) = ∑ d : Fin 2048, W (ix2 d k) * X (ix2 b d) := by
  unfold k0_pay3 k0_pay2
  pointwise

/-- The rounded key projection is itself. -/
theorem pay8_apply (W : S128x2048.Idx → Elt Ideal .f32) (k : Fin 128) (j : Fin 2048) :
    k0_pay8 (F := Ideal) (k0_pay7 W) (ix3 0 k j) = W (ix2 k j) := by
  unfold k0_pay8 k0_pay7
  pointwise
/-- The rounded value projection likewise. -/
theorem pay9_apply (W : S128x2048.Idx → Elt Ideal .f32) (k : Fin 128) (j : Fin 2048) :
    k0_pay9 (F := Ideal) W (ix3 0 k j) = W (ix2 k j) := by
  unfold k0_pay9
  pointwise

/-- The first pass of a block of the keys or values, -/
theorem pay11_apply (C : S1x128x1024.Idx → Elt Ideal .bf16) (W : S1x128x512.Idx → Elt Ideal .bf16) (i : Fin 1024) (j : Fin 512) :
    k0_pay11 (F := Ideal) C W (ix2 i j) = ∑ k : Fin 128, C (ix3 0 k i) * W (ix3 0 k j) := by
  unfold k0_pay11 k0_pay10
  pointwise
/-- and a later one. -/
theorem pay32_apply (C : S1x128x1024.Idx → Elt Ideal .bf16) (W : S1x128x512.Idx → Elt Ideal .bf16)
    (A : S1024x512.Idx → Elt Ideal .f32) (i : Fin 1024) (j : Fin 512) :
    k0_pay32 (F := Ideal) C W A (ix2 i j) = A (ix2 i j) + ∑ k : Fin 128, C (ix3 0 k i) * W (ix3 0 k j) := by
  unfold k0_pay32 k0_pay31
  pointwise

/-- A block of the queries: four products of chunks. -/
theorem pay21_apply (X₀ X₁ X₂ X₃ : S1024x512.Idx → Elt Ideal .f32) (W₀ W₁ W₂ W₃ : S512x128.Idx → Elt Ideal .f32) (i : Fin 1024) (j : Fin 128) :
    k0_pay21 (F := Ideal) (k0_pay19 X₀ W₀ X₁ W₁) (k0_pay20 X₂) W₂ X₃ W₃ (ix2 i j)
      = (∑ k : Fin 512, X₀ (ix2 i k) * W₀ (ix2 k j)) + (∑ k : Fin 512, X₁ (ix2 i k) * W₁ (ix2 k j))
        + (∑ k : Fin 512, X₂ (ix2 i k) * W₂ (ix2 k j)) + ∑ k : Fin 512, X₃ (ix2 i k) * W₃ (ix2 k j) := by
  unfold k0_pay21 k0_pay20 k0_pay19
  pointwise

/-- A block of the transposed rotary queries. -/
theorem pay81_apply (W₀ W₁ W₂ W₃ : S512x512.Idx → Elt Ideal .f32) (X₀ X₁ X₂ X₃ : S256x512.Idx → Elt Ideal .f32) (i : Fin 512) (j : Fin 256) :
    k0_pay81 (F := Ideal) W₀ X₀ W₁ X₁ W₂ X₂ W₃ X₃ (ix2 i j)
      = (∑ k : Fin 512, W₀ (ix2 k i) * X₀ (ix2 j k)) + (∑ k : Fin 512, W₁ (ix2 k i) * X₁ (ix2 j k))
        + (∑ k : Fin 512, W₂ (ix2 k i) * X₂ (ix2 j k)) + ∑ k : Fin 512, W₃ (ix2 k i) * X₃ (ix2 j k) := by
  unfold k0_pay81
  pointwise

/-- The rotary keys. -/
theorem pay85_apply (X₀ X₁ X₂ X₃ : S1024x512.Idx → Elt Ideal .f32) (W₀ W₁ W₂ W₃ : S512x32.Idx → Elt Ideal .f32) (i : Fin 1024) (j : Fin 32) :
    k0_pay85 (F := Ideal) (k0_pay84 X₀ W₀ X₁ W₁) X₂ W₂ X₃ W₃ (ix2 i j)
      = (∑ k : Fin 512, X₀ (ix2 i k) * W₀ (ix2 k j)) + (∑ k : Fin 512, X₁ (ix2 i k) * W₁ (ix2 k j))
        + (∑ k : Fin 512, X₂ (ix2 i k) * W₂ (ix2 k j)) + ∑ k : Fin 512, X₃ (ix2 i k) * W₃ (ix2 k j) := by
  unfold k0_pay85 k0_pay84
  pointwise

/-! ## Sums by blocks -/

/-- A sum over `B * N` terms, block by block. -/
theorem sum_blocks {B N C : ℕ} (hC : C = B * N) (f : Fin C → EReal) :
    ∑ K : Fin C, f K = ∑ o : Fin N, ∑ k : Fin B, f ⟨B * o.val + k.val, by
      have := Nat.mul_le_mul_left B o.isLt; rw [Nat.mul_succ] at this; have := k.isLt; omega⟩ := by
  subst hC
  rw [← Fintype.sum_prod_type', ← (finCongr (Nat.mul_comm N B)).sum_comp, ← finProdFinEquiv.sum_comp]
  refine Finset.sum_congr rfl fun p _ => congrArg f (Fin.ext ?_)
  show p.2.val + B * p.1.val = B * p.1.val + p.2.val
  omega

/-- A sum over the four devices in the order that device `c` meets them. -/
theorem sum_sub (c : Dev nD) (P : Dev nD → EReal) : P (sub c 0) + P (sub c 1) + P (sub c 2) + P (sub c 3) = ∑ o : Dev nD, P o := by
  rw [show (∑ o : Dev nD, P o) = P 0 + P 1 + P 2 + P 3 from Fin.sum_univ_four P]
  have h : ∀ c : Dev nD, (sub c 0, sub c 1, sub c 2, sub c 3) = (0, 3, 2, 1) ∨ (sub c 0, sub c 1, sub c 2, sub c 3) = (1, 0, 3, 2)
      ∨ (sub c 0, sub c 1, sub c 2, sub c 3) = (2, 1, 0, 3) ∨ (sub c 0, sub c 1, sub c 2, sub c 3) = (3, 2, 1, 0) := by decide
  rcases h c with h | h | h | h <;> (simp only [Prod.mk.injEq] at h; obtain ⟨h0, h1, h2, h3⟩ := h; rw [h0, h1, h2, h3]; ac_rfl)

end Cert.KernelIdeal.Fused

end
-- ==== Proof.Results.lean ====
/-
The fused call's five results over the reals, entry by entry, from the inputs of all four devices.
-/
module

public import proofs.«01_k».proof.Proof.Value

@[expose] public section

noncomputable section

namespace Cert.KernelIdeal.Fused

open Cert.KernelIdeal Cert.KernelIdeal.Gen
open Idealize.ShloMosaic
open Idealize.ShloMosaic.TcCoe
open scoped BigOperators

/-! ## Rectangles at an index -/

section Rd
variable {α : Type}

/-- An entry of a rectangle of a matrix. -/
theorem rd_two {R C R' C' : ℕ} (f : (⟨2, ![R, C]⟩ : Shape).Idx → α) {off : Fin 2 → ℕ}
    (inb : ∀ a, off a + (![R', C'] : Fin 2 → ℕ) a ≤ (⟨2, ![R, C]⟩ : Shape).size a) (i : Fin R') (j : Fin C') (i' : Fin R) (j' : Fin C)
    (hi : i'.val = off 0 + i.val) (hj : j'.val = off 1 + j.val) :
    rd f (Rect.unit (s := ⟨2, ![R, C]⟩) off ![R', C'] inb) (ix2 i j) = f (ix2 i' j') := by
  unfold rd
  refine congrArg f (funext fun a => Fin.ext ?_)
  match a with
  | ⟨0, _⟩ => show off 0 + 1 * i.val = i'.val; omega
  | ⟨1, _⟩ => show off 1 + 1 * j.val = j'.val; omega

/-- An entry of a rectangle of an array of three axes. -/
theorem rd_three {A B C A' B' C' : ℕ} (f : (⟨3, ![A, B, C]⟩ : Shape).Idx → α) {off : Fin 3 → ℕ}
    (inb : ∀ a, off a + (![A', B', C'] : Fin 3 → ℕ) a ≤ (⟨3, ![A, B, C]⟩ : Shape).size a) (a : Fin A') (b : Fin B') (c : Fin C')
    (a' : Fin A) (b' : Fin B) (c' : Fin C) (ha : a'.val = off 0 + a.val) (hb : b'.val = off 1 + b.val) (hc : c'.val = off 2 + c.val) :
    rd f (Rect.unit (s := ⟨3, ![A, B, C]⟩) off ![A', B', C'] inb) (ix3 a b c) = f (ix3 a' b' c') := by
  unfold rd
  refine congrArg f (funext fun x => Fin.ext ?_)
  match x with
  | ⟨0, _⟩ => show off 0 + 1 * a.val = a'.val; omega
  | ⟨1, _⟩ => show off 1 + 1 * b.val = b'.val; omega
  | ⟨2, _⟩ => show off 2 + 1 * c.val = c'.val; omega
end Rd

variable (I : Inp Ideal)

/-! ## The ring's buffers -/

/-- The latent of owner `o`, transposed. -/
theorem c4All_apply (o : Dev nD) (k : Fin 128) (i : Fin 1024) :
    c4All I (ix3 o k i) = ∑ d : Fin 2048, I.wd o (ix2 d k) * I.x o (ix2 i d) := by
  have hi := i.isLt
  refine (quarter_apply _ _ _ _).trans (Finset.sum_congr rfl fun d _ => congrArg₂ (· * ·) ?_ ?_)
  · exact rd_two _ _ _ _ _ _ (Nat.zero_add _).symm (Nat.zero_add _).symm
  · refine rd_two _ _ _ _ _ _ ?_ (Nat.zero_add _).symm
    show i.val = 256 * (i.val / 256) + i.val % 256
    omega

/-- A slot's latent. -/
theorem cS_apply (o : Dev nD) (k : Fin 128) (i : Fin 1024) :
    cS I o (ix3 0 k i) = ∑ d : Fin 2048, I.wd o (ix2 d k) * I.x o (ix2 i d) :=
  (rd_three _ _ _ _ _ o k i rfl (Nat.zero_add _).symm (Nat.zero_add _).symm).trans (c4All_apply I o k i)

/-- A slot's block of the key projection, -/
theorem kS_apply (o : Dev nD) (n : Fin 4) (k : Fin 128) (j : Fin 512) (J : Fin 2048) (hJ : J.val = 512 * n.val + j.val) :
    kS I o n (ix3 0 k j) = I.wk o (ix2 k J) :=
  ((rd_three _ _ _ _ _ o k J rfl (Nat.zero_add _).symm hJ).trans (pay8_apply _ k J)).trans
    (rd_two _ _ _ _ _ _ (Nat.zero_add _).symm (Nat.zero_add _).symm)
/-- and of the value projection. -/
theorem vS_apply (o : Dev nD) (n : Fin 4) (k : Fin 128) (j : Fin 512) (J : Fin 2048) (hJ : J.val = 512 * n.val + j.val) :
    vS I o n (ix3 0 k j) = I.wv o (ix2 k J) :=
  ((rd_three _ _ _ _ _ o k J rfl (Nat.zero_add _).symm hJ).trans (pay9_apply _ k J)).trans
    (rd_two _ _ _ _ _ _ (Nat.zero_add _).symm (Nat.zero_add _).symm)

/-! ## The results -/

/-- What owner `o`'s slot adds to an entry of the keys or values, `W` its block of the up projection. -/
def term (W : Dev nD → S128x2048.Idx → EReal) (i : Fin 1024) (J : Fin 2048) (o : Dev nD) : EReal :=
  ∑ k : Fin 128, (∑ d : Fin 2048, I.wd o (ix2 d k) * I.x o (ix2 i d)) * W o (ix2 k J)

theorem divmod (b : ℕ) (J : ℕ) : J = b * (J / b) + J % b := (Nat.div_add_mod J b).symm

/-- The keys: every owner's term. -/
theorem kF_apply (c : Dev nD) (i : Fin 1024) (J : Fin 2048) : kF I c (ix2 i J) = ∑ o : Dev nD, term I I.wk i J o := by
  have hJ := J.isLt
  unfold kF
  rw [cols_at rfl _ (⟨J.val / 512, by omega⟩ : Fin 4) (ix2 i (⟨J.val % 512, by omega⟩ : Fin 512)) _ rfl (divmod _ _), ← sum_sub c]
  have hs : ∀ o : Dev nD, (∑ k : Fin 128, cS I o (ix3 0 k i) * kS I o ⟨J.val / 512, by omega⟩ (ix3 0 k ⟨J.val % 512, by omega⟩)) = term I I.wk i J o :=
    fun o => Finset.sum_congr rfl fun k _ => congrArg₂ (· * ·) (cS_apply I o k i) (kS_apply I o _ k _ J (divmod _ _))
  have h1 := (pay11_apply (cS I (sub c 0)) (kS I (sub c 0) ⟨J.val / 512, by omega⟩) i ⟨J.val % 512, by omega⟩).trans (hs _)
  have hn : ∀ (k : ℕ) (x : EReal), kB I c (I.x c) (k + 1) ⟨J.val / 512, by omega⟩ (ix2 i ⟨J.val % 512, by omega⟩) = x →
      kB I c (I.x c) (k + 2) ⟨J.val / 512, by omega⟩ (ix2 i ⟨J.val % 512, by omega⟩) = x + term I I.wk i J (sub c (k + 1)) :=
    fun k x hx => (pay32_apply _ _ _ i _).trans (congrArg₂ (· + ·) hx (hs _))
  exact hn 2 _ (hn 1 _ (hn 0 _ h1))

/-- The values likewise. -/
theorem vF_apply (c : Dev nD) (i : Fin 1024) (J : Fin 2048) : vF I c (ix2 i J) = ∑ o : Dev nD, term I I.wv i J o := by
  have hJ := J.isLt
  unfold vF
  rw [cols_at rfl _ (⟨J.val / 512, by omega⟩ : Fin 4) (ix2 i (⟨J.val % 512, by omega⟩ : Fin 512)) _ rfl (divmod _ _), ← sum_sub c]
  have hs : ∀ o : Dev nD, (∑ k : Fin 128, cS I o (ix3 0 k i) * vS I o ⟨J.val / 512, by omega⟩ (ix3 0 k ⟨J.val % 512, by omega⟩)) = term I I.wv i J o :=
    fun o => Finset.sum_congr rfl fun k _ => congrArg₂ (· * ·) (cS_apply I o k i) (vS_apply I o _ k _ J (divmod _ _))
  have h1 := (pay11_apply (cS I (sub c 0)) (vS I (sub c 0) ⟨J.val / 512, by omega⟩) i ⟨J.val % 512, by omega⟩).trans (hs _)
  have hn : ∀ (k : ℕ) (x : EReal), vB I c (I.x c) (k + 1) ⟨J.val / 512, by omega⟩ (ix2 i ⟨J.val % 512, by omega⟩) = x →
      vB I c (I.x c) (k + 2) ⟨J.val / 512, by omega⟩ (ix2 i ⟨J.val % 512, by omega⟩) = x + term I I.wv i J (sub c (k + 1)) :=
    fun k x hx => (pay32_apply _ _ _ i _).trans (congrArg₂ (· + ·) hx (hs _))
  exact hn 2 _ (hn 1 _ (hn 0 _ h1))

/-- Four chunk sums make the whole sum. -/
theorem sum_four (f : Fin 2048 → EReal) (g : Fin 4 → Fin 512 → EReal)
    (h : ∀ (o : Fin 4) (k : Fin 512) (K : Fin 2048), K.val = 512 * o.val + k.val → g o k = f K) :
    (∑ k, g 0 k) + (∑ k, g 1 k) + (∑ k, g 2 k) + (∑ k, g 3 k) = ∑ K, f K := by
  rw [sum_blocks (B := 512) (N := 4) rfl f, Fin.sum_univ_four]
  have e : ∀ o : Fin 4, (∑ k, g o k) = ∑ k : Fin 512, f ⟨512 * o.val + k.val, by have := o.isLt; have := k.isLt; omega⟩ :=
    fun o => Finset.sum_congr rfl fun k _ => h o k _ rfl
  rw [e 0, e 1, e 2, e 3]

/-- The queries. -/
theorem qF_apply (c : Dev nD) (i : Fin 1024) (J : Fin 2048) :
    qF I c (ix2 i J) = ∑ K : Fin 2048, I.x c (ix2 i K) * I.wq c (ix2 K J) := by
  have hJ := J.isLt
  unfold qF
  rw [cols_at rfl _ (⟨J.val / 128, by omega⟩ : Fin 16) (ix2 i (⟨J.val % 128, by omega⟩ : Fin 128)) _ rfl (divmod _ _)]
  refine (pay21_apply _ _ _ _ _ _ _ _ i _).trans (sum_four _ (fun o k => xC I c o (ix2 i k) * wqCR I c _ o (ix2 k _)) fun o k K hK => ?_)
  refine congrArg₂ (· * ·) (rd_two _ _ _ _ _ _ (Nat.zero_add _).symm hK) ?_
  exact (rd_two _ _ _ _ K _ hK (Nat.zero_add _).symm).trans (rd_two _ _ _ _ _ _ (Nat.zero_add _).symm (divmod _ _))

/-- The transposed rotary queries. -/
theorem qrF_apply (c : Dev nD) (j : Fin 512) (R : Fin 1024) :
    qrF I c (ix2 j R) = ∑ K : Fin 2048, I.wqr c (ix2 K j) * I.x c (ix2 R K) := by
  have hR := R.isLt
  unfold qrF
  rw [cols_at rfl _ (⟨R.val / 256, by omega⟩ : Fin 4) (ix2 j (⟨R.val % 256, by omega⟩ : Fin 256)) _ rfl (divmod _ _)]
  refine (pay81_apply _ _ _ _ _ _ _ _ j _).trans (sum_four _ (fun o k => wqrR I c o (ix2 k j) * xRC I c _ o (ix2 _ k)) fun o k K hK => ?_)
  exact congrArg₂ (· * ·) (rd_two _ _ _ _ _ _ hK (Nat.zero_add _).symm) (rd_two _ _ _ _ _ _ (divmod _ _) hK)

/-- The rotary keys. -/
theorem krF_apply (c : Dev nD) (i : Fin 1024) (j : Fin 32) :
    krF I c (ix2 i j) = ∑ K : Fin 2048, I.x c (ix2 i K) * I.wkr c (ix2 K j) := by
  unfold krF
  refine (pay85_apply _ _ _ _ _ _ _ _ i j).trans (sum_four _ (fun o k => xC I c o (ix2 i k) * wkrR I c o (ix2 k j)) fun o k K hK => ?_)
  exact congrArg₂ (· * ·) (rd_two _ _ _ _ _ _ (Nat.zero_add _).symm hK) (rd_two _ _ _ _ _ _ hK (Nat.zero_add _).symm)

end Cert.KernelIdeal.Fused

end
-- ==== Proof.Heads.lean ====
/-
What the second and third calls compute over the reals: attention head by head, then the output projection.
-/
module

public import proofs.«01_k».proof.Proof.Attn
public import proofs.«01_k».proof.Proof.Proj
public import Idealize.ShloMosaic.Lib.Pointwise
public import Idealize.ShloMosaic.Lib.Pipeline.ValueKit

@[expose] public section

noncomputable section

namespace Cert.KernelIdeal.Fused

open Cert.KernelIdeal Cert.KernelIdeal.Gen
open Idealize.ShloMosaic
open Idealize.ShloMosaic.TcCoe
open scoped BigOperators

/-! ## Attention as a formula -/

/-- The mean of `v` weighted by the softmax of `s`: the exponentials of the distances to the greatest score, over their sum. -/
def soft (s v : Fin 512 → EReal) : EReal :=
  ∑ t, Ideal.div (Ideal.exp (s t - Finset.fold max (Ideal.ofBits .f32 0xFF800000#32) s Finset.univ))
    (∑ u, Ideal.exp (s u - Finset.fold max (Ideal.ofBits .f32 0xFF800000#32) s Finset.univ)) * v t

/-- Row `t` of the sequence that row `i` lies in. -/
def seqRow (i : Fin 1024) (t : Fin 512) : Fin 1024 := ⟨i.val / 512 * 512 + t.val, by omega⟩
/-- Column `d` of the head that column `j` lies in, -/
def headCol (j : Fin 2048) (d : Fin 128) : Fin 2048 := ⟨j.val / 128 * 128 + d.val, by omega⟩
/-- and of its rotary part. -/
def rotCol (j : Fin 2048) (d : Fin 32) : Fin 512 := ⟨j.val / 128 * 32 + d.val, by omega⟩

/-- The scale of the scores, as the kernel names it. -/
def scl : EReal := Named.named (F := Ideal) κ "scale" (φ := .f32) 0x3DA1E89B#32

section Formula
variable (Q K V : S1024x2048.Idx → EReal) (R : S512x1024.Idx → EReal) (T : S1024x32.Idx → EReal)

/-- The score of row `i` against row `t` of its sequence, in the head of column `j`. -/
def score (i : Fin 1024) (j : Fin 2048) (t : Fin 512) : EReal :=
  ((∑ d : Fin 128, Q (ix2 i (headCol j d)) * K (ix2 (seqRow i t) (headCol j d))) + ∑ d : Fin 32, R (ix2 (rotCol j d) i) * T (ix2 (seqRow i t) d)) * scl

/-- An entry of the attention. -/
def attend (i : Fin 1024) (j : Fin 2048) : EReal := soft (score Q K R T i j) fun t => V (ix2 (seqRow i t) j)
end Formula

/-- An entry of a product of the attention and the output weights. -/
def project (A : S1024x2048.Idx → EReal) (W : S2048x2048.Idx → EReal) (i : Fin 1024) (j : Fin 2048) : EReal :=
  ∑ k : Fin 2048, A (ix2 i k) * W (ix2 k j)

/-! ## The payloads at an index -/

/-- A block of attention. -/
theorem att_apply (Q K V : S512x128.Idx → Elt Ideal .f32) (R : S32x512.Idx → Elt Ideal .f32) (T : S512x32.Idx → Elt Ideal .f32) (i : Fin 512) (j : Fin 128) :
    k1_pay1 (F := Ideal) Q K V R T (ix2 i j)
      = soft (fun t => ((∑ d : Fin 128, Q (ix2 i d) * K (ix2 t d)) + ∑ d : Fin 32, R (ix2 d i) * T (ix2 t d)) * scl) fun t => V (ix2 t j) := by
  unfold k1_pay1
  pointwise
  rfl

/-- A block of the output projection. -/
theorem proj_apply (A : S1024x2048.Idx → Elt Ideal .f32) (W : S2048x1024.Idx → Elt Ideal .f32) (i : Fin 1024) (j : Fin 1024) :
    k2_pay1 (F := Ideal) A W (ix2 i j) = ∑ k : Fin 2048, A (ix2 i k) * W (ix2 k j) := by
  unfold k2_pay1
  pointwise

/-! ## The blocks at an index -/

section Blocks
variable (V : Dev nD → Valuation τ sig (Elt Ideal)) (c : Dev nD)

/-- Where the windows of a point of the second call stand. -/
theorem at_point : ∀ t : Fin cfg1.N, win1_0.index t = ![t.val / 16, t.val % 16] ∧ win1_1.index t = ![t.val / 16, t.val % 16] ∧ win1_2.index t = ![t.val / 16, t.val % 16]
    ∧ win1_3.index t = ![t.val % 16, t.val / 16] ∧ win1_4.index t = ![t.val / 16, 0] ∧ win1_5.index t = ![t.val / 16, t.val % 16] := by decide +kernel
/-- Where those of the third call stand. -/
theorem at_half : ∀ t : Fin cfg2.N, win2_0.index t = ![0, 0] ∧ win2_1.index t = ![0, t.val] ∧ win2_2.index t = ![0, t.val] := by decide +kernel

/-- An entry of the queries' block, -/
theorem q_block (t : Fin cfg1.N) (a : Fin 512) (b : Fin 128) (i : Fin 1024) (j : Fin 2048) (hi : i.val = t.val / 16 * 512 + a.val) (hj : j.val = t.val % 16 * 128 + b.val) :
    Attn.blockOf V c 0 t (ix2 a b) = V c (Proc.devRef .tc main_v1_2) (ix2 i j) := by
  have e := (at_point t).1
  blk_simp [Attn.blockOf]
  refine congrArg (V c (Proc.devRef .tc main_v1_2)) (funext fun x => Fin.ext ?_)
  match x with
  | ⟨0, _⟩ => refine Eq.trans ?_ hi.symm; blk_simp [e]
  | ⟨1, _⟩ => refine Eq.trans ?_ hj.symm; blk_simp [e]
/-- of the keys', -/
theorem k_block (t : Fin cfg1.N) (a : Fin 512) (b : Fin 128) (i : Fin 1024) (j : Fin 2048) (hi : i.val = t.val / 16 * 512 + a.val) (hj : j.val = t.val % 16 * 128 + b.val) :
    Attn.blockOf V c 1 t (ix2 a b) = V c (Proc.devRef .tc main_v1_0) (ix2 i j) := by
  have e := (at_point t).2.1
  blk_simp [Attn.blockOf]
  refine congrArg (V c (Proc.devRef .tc main_v1_0)) (funext fun x => Fin.ext ?_)
  match x with
  | ⟨0, _⟩ => refine Eq.trans ?_ hi.symm; blk_simp [e]
  | ⟨1, _⟩ => refine Eq.trans ?_ hj.symm; blk_simp [e]
/-- of the values', -/
theorem v_block (t : Fin cfg1.N) (a : Fin 512) (b : Fin 128) (i : Fin 1024) (j : Fin 2048) (hi : i.val = t.val / 16 * 512 + a.val) (hj : j.val = t.val % 16 * 128 + b.val) :
    Attn.blockOf V c 2 t (ix2 a b) = V c (Proc.devRef .tc main_v1_1) (ix2 i j) := by
  have e := (at_point t).2.2.1
  blk_simp [Attn.blockOf]
  refine congrArg (V c (Proc.devRef .tc main_v1_1)) (funext fun x => Fin.ext ?_)
  match x with
  | ⟨0, _⟩ => refine Eq.trans ?_ hi.symm; blk_simp [e]
  | ⟨1, _⟩ => refine Eq.trans ?_ hj.symm; blk_simp [e]
/-- of the transposed rotary queries', -/
theorem r_block (t : Fin cfg1.N) (a : Fin 32) (b : Fin 512) (i : Fin 512) (j : Fin 1024) (hi : i.val = t.val % 16 * 32 + a.val) (hj : j.val = t.val / 16 * 512 + b.val) :
    Attn.blockOf V c 3 t (ix2 a b) = V c (Proc.devRef .tc main_v1_3) (ix2 i j) := by
  have e := (at_point t).2.2.2.1
  blk_simp [Attn.blockOf]
  refine congrArg (V c (Proc.devRef .tc main_v1_3)) (funext fun x => Fin.ext ?_)
  match x with
  | ⟨0, _⟩ => refine Eq.trans ?_ hi.symm; blk_simp [e]
  | ⟨1, _⟩ => refine Eq.trans ?_ hj.symm; blk_simp [e]
/-- and of the rotary keys'. -/
theorem t_block (t : Fin cfg1.N) (a : Fin 512) (b : Fin 32) (i : Fin 1024) (hi : i.val = t.val / 16 * 512 + a.val) :
    Attn.blockOf V c 4 t (ix2 a b) = V c (Proc.devRef .tc main_v1_4) (ix2 i b) := by
  have e := (at_point t).2.2.2.2.1
  blk_simp [Attn.blockOf]
  refine congrArg (V c (Proc.devRef .tc main_v1_4)) (funext fun x => Fin.ext ?_)
  match x with
  | ⟨0, _⟩ => refine Eq.trans ?_ hi.symm; blk_simp [e]
  | ⟨1, _⟩ => refine Eq.trans ?_ (Nat.zero_add b.val); blk_simp [e]

/-- The third call's one block of the attention is all of it, -/
theorem a_block (t : Fin cfg2.N) (i : Fin 1024) (k : Fin 2048) : Proj.blockOf V c 0 t (ix2 i k) = V c (Proc.devRef .tc main_v2) (ix2 i k) := by
  have e := (at_half t).1
  blk_simp [Proj.blockOf]
  refine congrArg (V c (Proc.devRef .tc main_v2)) (funext fun x => Fin.ext ?_)
  match x with
  | ⟨0, _⟩ => refine Eq.trans ?_ (Nat.zero_add i.val); blk_simp [e]
  | ⟨1, _⟩ => refine Eq.trans ?_ (Nat.zero_add k.val); blk_simp [e]
/-- and its block of the weights a half of the columns. -/
theorem w_block (t : Fin cfg2.N) (k : Fin 2048) (b : Fin 1024) (j : Fin 2048) (hj : j.val = t.val * 1024 + b.val) :
    Proj.blockOf V c 1 t (ix2 k b) = V c (Proc.devRef .tc main_arg7) (ix2 k j) := by
  have e := (at_half t).2.1
  blk_simp [Proj.blockOf]
  refine congrArg (V c (Proc.devRef .tc main_arg7)) (funext fun x => Fin.ext ?_)
  match x with
  | ⟨0, _⟩ => refine Eq.trans ?_ (Nat.zero_add k.val); blk_simp [e]
  | ⟨1, _⟩ => refine Eq.trans ?_ hj.symm; blk_simp [e]

/-! ## The arrays -/

/-- The second call's result is the attention of its operands. -/
theorem attn_final : (Attn.dat V c).arrAt 5 cfg1.N = fun i => attend (V c (Proc.devRef .tc main_v1_2)) (V c (Proc.devRef .tc main_v1_0)) (V c (Proc.devRef .tc main_v1_1))
    (V c (Proc.devRef .tc main_v1_3)) (V c (Proc.devRef .tc main_v1_4)) (i 0) (i 1) := by
  refine (Attn.dat V c).arrAt_eq_of_covers 5 _ (by decide +kernel) fun t hf y => ?_
  obtain ⟨a, b, rfl⟩ : ∃ (a : Fin 512) (b : Fin 128), y = ix2 a b := ⟨y 0, y 1, eq_ix2 y⟩
  have e := (at_point t).2.2.2.2.2
  have hi : ((win1_5.blk t).view.emb (ix2 a b) 0).val = t.val / 16 * 512 + a.val := by blk_simp [e]
  have hj : ((win1_5.blk t).view.emb (ix2 a b) 1).val = t.val % 16 * 128 + b.val := by blk_simp [e]
  blk_simp
  generalize (win1_5.blk t).view.emb (ix2 a b) 0 = i at hi
  generalize (win1_5.blk t).view.emb (ix2 a b) 1 = j at hj
  have ha := a.isLt
  have hb := b.isLt
  have hr : ∀ u : Fin 512, (seqRow i u).val = t.val / 16 * 512 + u.val := fun u => by show i.val / 512 * 512 + u.val = _; omega
  have hc : ∀ d : Fin 128, (headCol j d).val = t.val % 16 * 128 + d.val := fun d => by show j.val / 128 * 128 + d.val = _; omega
  have ho : ∀ d : Fin 32, (rotCol j d).val = t.val % 16 * 32 + d.val := fun d => by show j.val / 128 * 32 + d.val = _; omega
  refine (att_apply _ _ _ _ _ a b).trans (congrArg₂ soft (funext fun u => congrArg (· * scl) (congrArg₂ (· + ·) ?_ ?_)) (funext fun u => ?_))
  · exact Finset.sum_congr rfl fun d _ => congrArg₂ (· * ·) (q_block V c t a d _ _ hi (hc d)) (k_block V c t u d _ _ (hr u) (hc d))
  · exact Finset.sum_congr rfl fun d _ => congrArg₂ (· * ·) (r_block V c t d a _ _ (ho d) hi) (t_block V c t u d _ (hr u))
  · exact v_block V c t u b _ _ (hr u) hj

/-- The third call's result is the product of its operands. -/
theorem proj_final : (Proj.dat V c).arrAt 2 cfg2.N = fun i => project (V c (Proc.devRef .tc main_v2)) (V c (Proc.devRef .tc main_arg7)) (i 0) (i 1) := by
  refine (Proj.dat V c).arrAt_eq_of_covers 2 _ (by decide +kernel) fun t hf y => ?_
  obtain ⟨a, b, rfl⟩ : ∃ (a : Fin 1024) (b : Fin 1024), y = ix2 a b := ⟨y 0, y 1, eq_ix2 y⟩
  have e := (at_half t).2.2
  have hi : ((win2_2.blk t).view.emb (ix2 a b) 0).val = 0 * 1024 + a.val := by blk_simp [e]
  have hj : ((win2_2.blk t).view.emb (ix2 a b) 1).val = t.val * 1024 + b.val := by blk_simp [e]
  blk_simp
  generalize (win2_2.blk t).view.emb (ix2 a b) 0 = i at hi
  generalize (win2_2.blk t).view.emb (ix2 a b) 1 = j at hj
  obtain rfl : i = a := Fin.ext (by omega)
  exact (proj_apply _ _ i b).trans (Finset.sum_congr rfl fun k _ => congrArg₂ (fun x y : EReal => x * y) (a_block V c t i k) (w_block V c t k b _ hj))
end Blocks

end Cert.KernelIdeal.Fused

end
-- ==== Proof.Plain.lean ====
/-
What the reference computes over the reals, entry by entry.
-/
module

public import proofs.«01_k».proof.Proof.Heads
public import proofs.«01_k».proof.Proof.Gen.ReferenceIdeal.Run

@[expose] public section

noncomputable section

namespace Cert.KernelIdeal.Fused

open Idealize.ShloMosaic
open Idealize.ShloMosaic.TcCoe
open scoped BigOperators

/-! ## Products of matrices -/

/-- A product of the activations and a matrix, -/
def times {n : ℕ} (X : (⟨2, ![1024, 2048]⟩ : Shape).Idx → EReal) (W : (⟨2, ![2048, n]⟩ : Shape).Idx → EReal) (i : Fin 1024) (j : Fin n) : EReal :=
  ∑ k : Fin 2048, X (ix2 i k) * W (ix2 k j)
/-- and one through the latent. -/
def through (X : (⟨2, ![1024, 2048]⟩ : Shape).Idx → EReal) (D : (⟨2, ![2048, 512]⟩ : Shape).Idx → EReal) (U : (⟨2, ![512, 2048]⟩ : Shape).Idx → EReal)
    (i : Fin 1024) (j : Fin 2048) : EReal :=
  ∑ k : Fin 512, times X D i k * U (ix2 k j)

/-- A table of entries as a matrix, -/
def mat {a b : ℕ} (f : Fin a → Fin b → EReal) : (⟨2, ![a, b]⟩ : Shape).Idx → EReal := fun p => f (p 0) (p 1)
/-- and its transpose. -/
def matT {a b : ℕ} (f : Fin a → Fin b → EReal) : (⟨2, ![b, a]⟩ : Shape).Idx → EReal := fun p => f (p 1) (p 0)

/-! ## The scale -/

/-- The pattern of the width of a head, both parts together. -/
theorem width_eq : Ideal.ofBits .f32 0x43200000#32 = ((160 : ℝ) : EReal) := by
  simp [Ideal.ofBits, Ideal.ieee, -EReal.coe_mul]; norm_num

/-- The kernel's named scale is one over the reference's root. -/
theorem scl_eq : scl = Ideal.div 1 (Ideal.sqrt (Ideal.ofBits .f32 0x43200000#32)) := by
  rw [width_eq, Ideal.sqrt_coe, if_neg (by norm_num), Ideal.div_coe (Real.sqrt_pos.mpr (by norm_num)).ne', one_mul]
  refine (IdealRules.named_const.ideal_named_scalar _ _ _ _ rfl).trans ?_
  rw [one_div]

/-! ## The reference -/

/-- The reference's result: the attention of the projections, times the output weights. -/
def plain_out (X : (⟨2, ![1024, 2048]⟩ : Shape).Idx → EReal) (D : (⟨2, ![2048, 512]⟩ : Shape).Idx → EReal) (Uk Uv : (⟨2, ![512, 2048]⟩ : Shape).Idx → EReal)
    (Wq : (⟨2, ![2048, 2048]⟩ : Shape).Idx → EReal) (Wr : (⟨2, ![2048, 512]⟩ : Shape).Idx → EReal) (Wt : (⟨2, ![2048, 32]⟩ : Shape).Idx → EReal)
    (Wo : (⟨2, ![2048, 2048]⟩ : Shape).Idx → EReal) (i : Fin 1024) (j : Fin 2048) : EReal :=
  project (mat fun i k => attend (mat (times X Wq)) (mat (through X D Uk)) (mat (through X D Uv)) (matT (times X Wr)) (mat (times X Wt)) i k) Wo i j

end Cert.KernelIdeal.Fused

namespace Cert.ReferenceIdeal.Value

open Cert.ReferenceIdeal Cert.ReferenceIdeal.Gen
open Cert.KernelIdeal.Fused (plain_out scl scl_eq)
open Idealize.ShloMosaic
open Idealize.ShloMosaic.TcCoe
open scoped BigOperators

/-- An entry of what the reference leaves. -/
theorem reference_apply (m : (ℓ : Loc nD τ sig) → Buf (Elt Ideal) ℓ) (c : Dev nD) (i : Fin 1024) (j : Fin 2048) :
    res_out0 (F := Ideal) m c (ix2 i j)
      = plain_out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) i j := by
  have hrow : ∀ h : i.val / 512 * 512 + i.val % 512 < 1024, (⟨i.val / 512 * 512 + i.val % 512, h⟩ : Fin 1024) = i := fun h => Fin.ext (Nat.div_add_mod' i.val 512)
  unfold res_out0 res_main_v31
  pointwise
  simp only [hrow, ← scl_eq]
  refine Finset.sum_congr (M := EReal) rfl fun x _ => congrArg (fun y : EReal => y * _) (Finset.sum_congr (M := EReal) rfl fun t _ => mul_comm (G := EReal) _ _)

end Cert.ReferenceIdeal.Value

end
-- ==== Proof.Final.lean ====
/-
The kernel's result is the reference's: the fused call's arrays are the plain products, and what the later calls make of them is the plain attention.
-/
module

public import proofs.«01_k».proof.Defs
public import proofs.«01_k».proof.Proof.Results
public import proofs.«01_k».proof.Proof.Frames
public import proofs.«01_k».proof.Proof.Plain

@[expose] public section

noncomputable section

namespace Cert.KernelIdeal.Fused

open Cert.KernelIdeal Cert.KernelIdeal.Gen
open Idealize.ShloMosaic
open Idealize.ShloMosaic.TcCoe
open Idealize.SL.Sem
open scoped BigOperators

/-! ## Whole-array windows -/

section Whole
variable {F : FTy → Type} [FloatOps F] (m : (ℓ : Loc nD τ sig) → Buf (Elt F) ℓ) (c : Dev nD)

/-- Window 0's one block starts at the array's origin, -/
theorem origin_0 : (fun a => (win0_0.index (0 : Fin 1)) a * main_arg0.ty.shape.size a) = fun _ => 0 :=
  funext fun a => by fin_cases a <;> decide
/-- so the device's input is its whole array. -/
theorem inp_x : (inp m).x c = m ((c : Thread nD τ).loc main_arg0) :=
  (Memref.read_access_unit_zero (Elt F) main_arg0 origin_0 (fun a => by fin_cases a <;> decide) (m ((c : Thread nD τ).loc main_arg0)) :)
/-- Window 1's one block starts at the array's origin, -/
theorem origin_1 : (fun a => (win0_1.index (0 : Fin 1)) a * main_arg1.ty.shape.size a) = fun _ => 0 :=
  funext fun a => by fin_cases a <;> decide
/-- so the device's input is its whole array. -/
theorem inp_wd : (inp m).wd c = m ((c : Thread nD τ).loc main_arg1) :=
  (Memref.read_access_unit_zero (Elt F) main_arg1 origin_1 (fun a => by fin_cases a <;> decide) (m ((c : Thread nD τ).loc main_arg1)) :)
/-- Window 2's one block starts at the array's origin, -/
theorem origin_2 : (fun a => (win0_2.index (0 : Fin 1)) a * main_arg2.ty.shape.size a) = fun _ => 0 :=
  funext fun a => by fin_cases a <;> decide
/-- so the device's input is its whole array. -/
theorem inp_wk : (inp m).wk c = m ((c : Thread nD τ).loc main_arg2) :=
  (Memref.read_access_unit_zero (Elt F) main_arg2 origin_2 (fun a => by fin_cases a <;> decide) (m ((c : Thread nD τ).loc main_arg2)) :)
/-- Window 3's one block starts at the array's origin, -/
theorem origin_3 : (fun a => (win0_3.index (0 : Fin 1)) a * main_arg3.ty.shape.size a) = fun _ => 0 :=
  funext fun a => by fin_cases a <;> decide
/-- so the device's input is its whole array. -/
theorem inp_wv : (inp m).wv c = m ((c : Thread nD τ).loc main_arg3) :=
  (Memref.read_access_unit_zero (Elt F) main_arg3 origin_3 (fun a => by fin_cases a <;> decide) (m ((c : Thread nD τ).loc main_arg3)) :)
/-- Window 4's one block starts at the array's origin, -/
theorem origin_4 : (fun a => (win0_4.index (0 : Fin 1)) a * main_arg5.ty.shape.size a) = fun _ => 0 :=
  funext fun a => by fin_cases a <;> decide
/-- so the device's input is its whole array. -/
theorem inp_wqr : (inp m).wqr c = m ((c : Thread nD τ).loc main_arg5) :=
  (Memref.read_access_unit_zero (Elt F) main_arg5 origin_4 (fun a => by fin_cases a <;> decide) (m ((c : Thread nD τ).loc main_arg5)) :)
/-- Window 5's one block starts at the array's origin, -/
theorem origin_5 : (fun a => (win0_5.index (0 : Fin 1)) a * main_arg6.ty.shape.size a) = fun _ => 0 :=
  funext fun a => by fin_cases a <;> decide
/-- so the device's input is its whole array. -/
theorem inp_wkr : (inp m).wkr c = m ((c : Thread nD τ).loc main_arg6) :=
  (Memref.read_access_unit_zero (Elt F) main_arg6 origin_5 (fun a => by fin_cases a <;> decide) (m ((c : Thread nD τ).loc main_arg6)) :)
/-- Window 6's one block starts at the array's origin, -/
theorem origin_6 : (fun a => (win0_6.index (0 : Fin 1)) a * main_v1_0.ty.shape.size a) = fun _ => 0 :=
  funext fun a => by fin_cases a <;> decide
/-- so its array ends at what the body computed. -/
theorem array_6 : (dat m c).arrAt (6 : Fin 11) cfg0.N = kF (inp m) c := by
  refine (Memref.read_access_unit_zero (Elt F) main_v1_0 origin_6 (fun a => by fin_cases a <;> decide) _).symm.trans ?_
  show (win0_6.blk (0 : Fin 1)).view.read (Elt F) ((dat m c).arrAt (6 : Fin 11) cfg0.N) = kF (inp m) c
  rw [show cfg0.N = ((0 : Fin 1) : Fin cfg0.N).val + 1 from rfl, (dat m c).arrAt_succ (6 : Fin 11) (0 : Fin 1)]
  rw [show (cfg0.win (6 : Fin 11)).flush (0 : Fin 1) = true from by decide, if_pos rfl]
  exact View.read_write_univ _ _
/-- Window 7's one block starts at the array's origin, -/
theorem origin_7 : (fun a => (win0_7.index (0 : Fin 1)) a * main_v1_1.ty.shape.size a) = fun _ => 0 :=
  funext fun a => by fin_cases a <;> decide
/-- so its array ends at what the body computed. -/
theorem array_7 : (dat m c).arrAt (7 : Fin 11) cfg0.N = vF (inp m) c := by
  refine (Memref.read_access_unit_zero (Elt F) main_v1_1 origin_7 (fun a => by fin_cases a <;> decide) _).symm.trans ?_
  show (win0_7.blk (0 : Fin 1)).view.read (Elt F) ((dat m c).arrAt (7 : Fin 11) cfg0.N) = vF (inp m) c
  rw [show cfg0.N = ((0 : Fin 1) : Fin cfg0.N).val + 1 from rfl, (dat m c).arrAt_succ (7 : Fin 11) (0 : Fin 1)]
  rw [show (cfg0.win (7 : Fin 11)).flush (0 : Fin 1) = true from by decide, if_pos rfl]
  exact View.read_write_univ _ _
/-- Window 8's one block starts at the array's origin, -/
theorem origin_8 : (fun a => (win0_8.index (0 : Fin 1)) a * main_v1_2.ty.shape.size a) = fun _ => 0 :=
  funext fun a => by fin_cases a <;> decide
/-- so its array ends at what the body computed. -/
theorem array_8 : (dat m c).arrAt (8 : Fin 11) cfg0.N = qF (inp m) c := by
  refine (Memref.read_access_unit_zero (Elt F) main_v1_2 origin_8 (fun a => by fin_cases a <;> decide) _).symm.trans ?_
  show (win0_8.blk (0 : Fin 1)).view.read (Elt F) ((dat m c).arrAt (8 : Fin 11) cfg0.N) = qF (inp m) c
  rw [show cfg0.N = ((0 : Fin 1) : Fin cfg0.N).val + 1 from rfl, (dat m c).arrAt_succ (8 : Fin 11) (0 : Fin 1)]
  rw [show (cfg0.win (8 : Fin 11)).flush (0 : Fin 1) = true from by decide, if_pos rfl]
  exact View.read_write_univ _ _
/-- Window 9's one block starts at the array's origin, -/
theorem origin_9 : (fun a => (win0_9.index (0 : Fin 1)) a * main_v1_3.ty.shape.size a) = fun _ => 0 :=
  funext fun a => by fin_cases a <;> decide
/-- so its array ends at what the body computed. -/
theorem array_9 : (dat m c).arrAt (9 : Fin 11) cfg0.N = qrF (inp m) c := by
  refine (Memref.read_access_unit_zero (Elt F) main_v1_3 origin_9 (fun a => by fin_cases a <;> decide) _).symm.trans ?_
  show (win0_9.blk (0 : Fin 1)).view.read (Elt F) ((dat m c).arrAt (9 : Fin 11) cfg0.N) = qrF (inp m) c
  rw [show cfg0.N = ((0 : Fin 1) : Fin cfg0.N).val + 1 from rfl, (dat m c).arrAt_succ (9 : Fin 11) (0 : Fin 1)]
  rw [show (cfg0.win (9 : Fin 11)).flush (0 : Fin 1) = true from by decide, if_pos rfl]
  exact View.read_write_univ _ _
/-- Window 10's one block starts at the array's origin, -/
theorem origin_10 : (fun a => (win0_10.index (0 : Fin 1)) a * main_v1_4.ty.shape.size a) = fun _ => 0 :=
  funext fun a => by fin_cases a <;> decide
/-- so its array ends at what the body computed. -/
theorem array_10 : (dat m c).arrAt (10 : Fin 11) cfg0.N = krF (inp m) c := by
  refine (Memref.read_access_unit_zero (Elt F) main_v1_4 origin_10 (fun a => by fin_cases a <;> decide) _).symm.trans ?_
  show (win0_10.blk (0 : Fin 1)).view.read (Elt F) ((dat m c).arrAt (10 : Fin 11) cfg0.N) = krF (inp m) c
  rw [show cfg0.N = ((0 : Fin 1) : Fin cfg0.N).val + 1 from rfl, (dat m c).arrAt_succ (10 : Fin 11) (0 : Fin 1)]
  rw [show (cfg0.win (10 : Fin 11)).flush (0 : Fin 1) = true from by decide, if_pos rfl]
  exact View.read_write_univ _ _
end Whole

/-! ## The equation -/

section Eqn
variable (I : Inp Ideal) (X : S1024x2048.Idx → EReal) (Wd : S2048x512.Idx → EReal)
  (hx : ∀ c, I.x c = X) (hd : ∀ c, I.wd c = Layout.block ⟨2, ![2048, 128]⟩ ⟨2, ![2048, 512]⟩ 1 4 c Wd)
include hx hd

/-- The owners' terms add up to the product of the product. -/
theorem terms_eq (W : Dev nD → S128x2048.Idx → EReal) (Wu : (⟨2, ![512, 2048]⟩ : Shape).Idx → EReal)
    (hu : ∀ c, W c = Layout.block ⟨2, ![128, 2048]⟩ ⟨2, ![512, 2048]⟩ 0 4 c Wu) (i : Fin 1024) (J : Fin 2048) :
    (∑ o : Dev nD, term I W i J o) = ∑ K : Fin 512, (∑ d : Fin 2048, X (ix2 i d) * Wd (ix2 d K)) * Wu (ix2 K J) := by
  rw [sum_blocks (B := 128) (N := 4) rfl]
  refine Finset.sum_congr rfl fun o _ => Finset.sum_congr rfl fun k _ => ?_
  refine congrArg₂ (· * ·) (Finset.sum_congr rfl fun d _ => ?_) ?_
  · rw [hx, hd, mul_comm]
    refine congrArg (X (ix2 i d) * ·) (congrArg Wd (funext fun a => Fin.ext ?_))
    match a with
    | ⟨0, _⟩ => rfl
    | ⟨1, _⟩ => show o.val * 128 + k.val = 128 * o.val + k.val; omega
  · rw [hu]
    refine congrArg Wu (funext fun a => Fin.ext ?_)
    match a with
    | ⟨0, _⟩ => show o.val * 128 + k.val = 128 * o.val + k.val; omega
    | ⟨1, _⟩ => rfl
end Eqn

/-- Five arrays of the plain products have the plain attention. -/
theorem attend_of {Q K V : S1024x2048.Idx → EReal} {R : S512x1024.Idx → EReal} {T : S1024x32.Idx → EReal} {q k v : Fin 1024 → Fin 2048 → EReal}
    {r : Fin 1024 → Fin 512 → EReal} {t : Fin 1024 → Fin 32 → EReal} (hq : ∀ i j, Q (ix2 i j) = q i j) (hk : ∀ i j, K (ix2 i j) = k i j)
    (hv : ∀ i j, V (ix2 i j) = v i j) (hr : ∀ j i, R (ix2 j i) = r i j) (ht : ∀ i j, T (ix2 i j) = t i j) (i : Fin 1024) (j : Fin 2048) :
    attend Q K V R T i j = attend (mat q) (mat k) (mat v) (matT r) (mat t) i j := by
  have e : ∀ {a b : ℕ} {M : (⟨2, ![a, b]⟩ : Shape).Idx → EReal} {f : Fin a → Fin b → EReal}, (∀ i j, M (ix2 i j) = f i j) → M = mat f :=
    fun {a b M f} h => funext fun p => (congrArg M (eq_ix2 p)).trans (h (p 0) (p 1))
  obtain rfl := e hq
  obtain rfl := e hk
  obtain rfl := e hv
  obtain rfl := e ht
  obtain rfl : R = matT r := funext fun p => (congrArg R (eq_ix2 p)).trans (hr (p 0) (p 1))
  rfl

/-- The product of the plain attention is the plain result. -/
theorem project_of {A : S1024x2048.Idx → EReal} {W W' : S2048x2048.Idx → EReal} {f : Fin 1024 → Fin 2048 → EReal} (i : Fin 1024) (j : Fin 2048)
    (ha : ∀ k, A (ix2 i k) = f i k) (hw : W = W') : project A W i j = project (mat f) W' i j := by
  subst hw
  exact Finset.sum_congr rfl fun k _ => congrArg (fun x : EReal => x * _) (ha k)

/-- Over the reals, the kernel's result on every device is the reference's. -/
theorem algebraic : @Cert.algebraic_KernelIdeal_ReferenceIdeal Cert.KernelIdeal.Gen.facts Cert.ReferenceIdeal.Gen.facts := by
  intro m ρ m' ρ' _ hagree
  refine ⟨_, ?_, (θ_run Cert.ReferenceIdeal.defs _ _).mono (fun _ h => h 0) (Cert.ReferenceIdeal.Value.run (F := Ideal) m' ρ')⟩
  have hx : ∀ c, (inp m).x c = _ := fun c => (inp_x m c).trans (hagree c).1
  have hd : ∀ c, (inp m).wd c = _ := fun c => (inp_wd m c).trans (hagree c).2.1
  have hk : ∀ c, (inp m).wk c = _ := fun c => (inp_wk m c).trans (hagree c).2.2.1
  have hv : ∀ c, (inp m).wv c = _ := fun c => (inp_wv m c).trans (hagree c).2.2.2.1
  have hq : ∀ c, (inp m).wq c = _ := fun c => (hagree c).2.2.2.2.1
  have hqr : ∀ c, (inp m).wqr c = _ := fun c => (inp_wqr m c).trans (hagree c).2.2.2.2.2.1
  have hkr : ∀ c, (inp m).wkr c = _ := fun c => (inp_wkr m c).trans (hagree c).2.2.2.2.2.2.1
  refine (θ_run defs _ _).mono (fun r h c => ⟨(h.1 c _ (in_uc main_v3 (by decide))).trans ((W3_y m c).trans ((proj_final (W2 m) c).trans (funext fun p => ?_))),
    args_of_QC m h.1 c⟩) (run_main (F := Ideal) m ρ)
  refine Eq.trans ?_ ((congrArg (Cert.ReferenceIdeal.Value.res_out0 m' 0) (eq_ix2 p)).trans (Cert.ReferenceIdeal.Value.reference_apply m' 0 (p 0) (p 1))).symm
  unfold plain_out
  refine project_of (p 0) (p 1) (fun k => ?_) ?_
  · refine (congrFun ((W2_o m c).trans (attn_final (W1 m) c)) _).trans (attend_of (fun i j => ?_) (fun i j => ?_) (fun i j => ?_) (fun j i => ?_) (fun i j => ?_) (p 0) k)
    · refine (congrFun ((W1_q m c).trans (array_8 m c)) _).trans ((qF_apply (inp m) c i j).trans ?_)
      rw [hx, hq]; rfl
    · refine (congrFun ((W1_k m c).trans (array_6 m c)) _).trans ((kF_apply (inp m) c i j).trans ?_)
      exact terms_eq (inp m) _ _ hx hd _ _ hk i j
    · refine (congrFun ((W1_v m c).trans (array_7 m c)) _).trans ((vF_apply (inp m) c i j).trans ?_)
      exact terms_eq (inp m) _ _ hx hd _ _ hv i j
    · refine (congrFun ((W1_qr m c).trans (array_9 m c)) _).trans ((qrF_apply (inp m) c j i).trans ?_)
      rw [hx, hqr]
      exact Finset.sum_congr rfl fun K _ => mul_comm _ _
    · refine (congrFun ((W1_kr m c).trans (array_10 m c)) _).trans ((krF_apply (inp m) c i j).trans ?_)
      rw [hx, hkr]; rfl
  · refine Eq.trans ?_ (hagree c).2.2.2.2.2.2.2
    exact (W2_off m c _ (by decide)).trans (W1_off m c _ (by decide) (by decide) (by decide) (by decide) (by decide))

end Cert.KernelIdeal.Fused

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Final
public import Idealize.ShloMosaic.Adequacy
public import Idealize.ShloMosaic.Init

@[expose] public section

noncomputable section

namespace Cert.Proof

open Idealize.ShloMosaic Idealize.SL.Sem Cert.Kernel

/-- The reference's frame, from its run. -/
theorem frame_reference : @Cert.quiescent_ReferenceIdeal Cert.ReferenceIdeal.Gen.facts := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The one named constant of the kernel is the real that its literal was rounded from. -/
theorem preserves : Cert.preserves_Kernel_KernelIdeal :=
  IdealRules.named_const.statement Cert.KernelIdeal.κ "scale" .f32 0x3DA1E89B#32 (((Real.sqrt 160)⁻¹ : ℝ) : EReal) rfl

theorem claim : Cert.Claim := ⟨Cert.Kernel.Gen.facts, Cert.KernelIdeal.Gen.facts, Cert.ReferenceIdeal.Gen.facts,
  Cert.KernelIdeal.Fused.frame_kernel, Cert.KernelIdeal.Fused.frame_kernelIdeal, frame_reference, preserves,
  Cert.KernelIdeal.Fused.algebraic⟩

end Cert.Proof

end
